-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S16384x1536 : Shape := ⟨2, ![16384, 1536]⟩
abbrev S4x64 : Shape := ⟨2, ![4, 64]⟩
abbrev S1x128 : Shape := ⟨2, ![1, 128]⟩
abbrev S_ : Shape := ⟨0, ![]⟩

class Facts : Prop where
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16384x1536 .bf16) (main_arg1 : FVec F S4x64 .f32) (main_arg2 : FVec F S1x128 .f32) : IVec S_ 1 :=
  let main_v0 : FVec F S16384x1536 .f32 := (extf .f32 · bitsLt_bf16_f32) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_c : IVec S_ 1 := constantI S_ 1 1#1
  let main_v4 : IVec S_ 1 := (fun x v => Host.reduce IntOp.andi x v reducesTo_S16384x1536_S_d0_1 h_S_) main_v3 main_c
  let main_v5 : FVec F S4x64 .f32 := Host.absf main_arg1
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  main_v9
-- ==== Kernel.lean ====
abbrev S16384x1536 : Shape := ⟨2, ![16384, 1536]⟩
abbrev S4x64 : Shape := ⟨2, ![4, 64]⟩
abbrev S1x128 : Shape := ⟨2, ![1, 128]⟩
abbrev S16384x512 : Shape := ⟨2, ![16384, 512]⟩
abbrev S512x128 : Shape := ⟨2, ![512, 128]⟩
abbrev S4096x128 : Shape := ⟨2, ![4096, 128]⟩
abbrev S9x128x512 : Shape := ⟨3, ![9, 128, 512]⟩
abbrev S128x1024 : Shape := ⟨2, ![128, 1024]⟩
abbrev S512x1024 : Shape := ⟨2, ![512, 1024]⟩
abbrev S1x1024 : Shape := ⟨2, ![1, 1024]⟩
abbrev S128x512 : Shape := ⟨2, ![128, 512]⟩
abbrev S1x128x512 : Shape := ⟨3, ![1, 128, 512]⟩
abbrev S1024 : Shape := ⟨1, ![1024]⟩
abbrev S1x64 : Shape := ⟨2, ![1, 64]⟩
abbrev S1 : Shape := ⟨1, ![1]⟩
abbrev S1x1 : Shape := ⟨2, ![1, 1]⟩
abbrev S1x512 : Shape := ⟨2, ![1, 512]⟩
abbrev S512 : Shape := ⟨1, ![512]⟩

abbrev nBuf : Space → Nat
  | .hbm => 4
  | .vmem => 22
  | .smem => 0
  | _ => 0

abbrev bufTy : (tb : Table) → Fin (tcTables nBuf tb) → BufTy
  | .hbm, ⟨0, _⟩ => ⟨S16384x1536, .bf16⟩
  | .hbm, ⟨1, _⟩ => ⟨S4x64, .f32⟩
  | .hbm, ⟨2, _⟩ => ⟨S1x128, .f32⟩
  | .hbm, ⟨3, _⟩ => ⟨S16384x512, .bf16⟩
  | .local _ .vmem, ⟨0, _⟩ => ⟨S4x64, .f32⟩
  | .local _ .vmem, ⟨1, _⟩ => ⟨S1x128, .f32⟩
  | .local _ .vmem, ⟨2, _⟩ => ⟨S512x128, .bf16⟩
  | .local _ .vmem, ⟨3, _⟩ => ⟨S512x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S512x128, .bf16⟩
  | .local _ .vmem, ⟨9, _⟩ => ⟨S512x128, .bf16⟩
  | .local _ .vmem, ⟨10, _⟩ => ⟨S9x128x512, .bf16⟩
  | .local _ .vmem, ⟨11, _⟩ => ⟨S128x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S128x1024, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

def k0_mult1 : BitVec 32 :=
  let c0_i32_19 : BitVec 32 := 0#32
  c0_i32_19
@[reducible] def k0_t1_loop (i : grid0.Coords) : Scf.Loop 32 :=
  let c0_i32_30 : BitVec 32 := 0#32
  let arg2 : BitVec 32 := BitVec.ofNat 32 (i 2).val
  let c1_i32 : BitVec 32 := 1#32
  let v52 : BitVec 32 := Scalar.shrui arg2 c1_i32
  let v53 : BitVec 32 := Scalar.subi v52 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_32 : BitVec 32 := 1#32
  ⟨c0_i32_30, v57, c1_i32_32⟩
def k0_mult2 (i : grid0.Coords) (k0_t1 : Fin (k0_t1_loop i).trips) : BitVec 32 :=
  let c2_i32 : BitVec 32 := 2#32
  let c0_i32_30 : BitVec 32 := 0#32
  let c1_i32_32 : BitVec 32 := 1#32
  let arg21 : BitVec 32 := Scf.iv c0_i32_30 c1_i32_32 k0_t1
  let v115 : BitVec 32 := Scalar.muli c2_i32 arg21
  let c1_i32_58 : BitVec 32 := 1#32
  let v116 : BitVec 32 := Scalar.addi v115 c1_i32_58
  let c512_i32 : BitVec 32 := 512#32
  let v117 : BitVec 32 := Scalar.muli v116 c512_i32
  v117
def k0_off1 (i : grid0.Coords) (k0_t1 : Fin (k0_t1_loop i).trips) : Fin 2 → Nat :=
  let c2_i32 : BitVec 32 := 2#32
  let c0_i32_30 : BitVec 32 := 0#32
  let c1_i32_32 : BitVec 32 := 1#32
  let arg21 : BitVec 32 := Scf.iv c0_i32_30 c1_i32_32 k0_t1
  let v115 : BitVec 32 := Scalar.muli c2_i32 arg21
  let c1_i32_58 : BitVec 32 := 1#32
  let v116 : BitVec 32 := Scalar.addi v115 c1_i32_58
  let c512_i32 : BitVec 32 := 512#32
  let v117 : BitVec 32 := Scalar.muli v116 c512_i32
  let v118 : BitVec 32 := v117
  let v119 : Index := Scalar.indexCast v118
  let c0_59 : Index := 0#32
  ![v119.toNat, 0]
def k0_off2 (i : grid0.Coords) (k0_t1 : Fin (k0_t1_loop i).trips) : Fin 3 → Nat :=
  let c2_i32 : BitVec 32 := 2#32
  let c0_i32_30 : BitVec 32 := 0#32
  let c1_i32_32 : BitVec 32 := 1#32
  let arg21 : BitVec 32 := Scf.iv c0_i32_30 c1_i32_32 k0_t1
  let v115 : BitVec 32 := Scalar.muli c2_i32 arg21
  let c0_i32_68 : BitVec 32 := 0#32
  let v131 : BitVec 1 := Scalar.cmpi .eq v115 c0_i32_68
  let c8_i32 : BitVec 32 := 8#32
  let c1_i32_69 : BitVec 32 := 1#32
  let v132 : BitVec 32 := Scalar.subi v115 c1_i32_69
  let v133 : BitVec 32 := Scalar.select v131 c8_i32 v132
  let v134 : Index := Scalar.indexCast v133
  let c0_70 : Index := 0#32
  let c0_71 : Index := 0#32
  ![v134.toNat, 0, 0]
def k0_mult3 (i : grid0.Coords) (k0_t1 : Fin (k0_t1_loop i).trips) : BitVec 32 :=
  let c2_i32_98 : BitVec 32 := 2#32
  let c0_i32_30 : BitVec 32 := 0#32
  let c1_i32_32 : BitVec 32 := 1#32
  let arg21 : BitVec 32 := Scf.iv c0_i32_30 c1_i32_32 k0_t1
  let v174 : BitVec 32 := Scalar.muli c2_i32_98 arg21
  let c1_i32_99 : BitVec 32 := 1#32
  let v175 : BitVec 32 := Scalar.addi v174 c1_i32_99
  let c1_i32_100 : BitVec 32 := 1#32
  let v176 : BitVec 32 := Scalar.addi v175 c1_i32_100
  let c512_i32_101 : BitVec 32 := 512#32
  let v177 : BitVec 32 := Scalar.muli v176 c512_i32_101
  v177
def k0_off3 (i : grid0.Coords) (k0_t1 : Fin (k0_t1_loop i).trips) : Fin 2 → Nat :=
  let c2_i32_98 : BitVec 32 := 2#32
  let c0_i32_30 : BitVec 32 := 0#32
  let c1_i32_32 : BitVec 32 := 1#32
  let arg21 : BitVec 32 := Scf.iv c0_i32_30 c1_i32_32 k0_t1
  let v174 : BitVec 32 := Scalar.muli c2_i32_98 arg21
  let c1_i32_99 : BitVec 32 := 1#32
  let v175 : BitVec 32 := Scalar.addi v174 c1_i32_99
  let c1_i32_100 : BitVec 32 := 1#32
  let v176 : BitVec 32 := Scalar.addi v175 c1_i32_100
  let c512_i32_101 : BitVec 32 := 512#32
  let v177 : BitVec 32 := Scalar.muli v176 c512_i32_101
  let v178 : BitVec 32 := v177
  let v179 : Index := Scalar.indexCast v178
  let c0_102 : Index := 0#32
  ![v179.toNat, 0]
def k0_off4 (i : grid0.Coords) (k0_t1 : Fin (k0_t1_loop i).trips) : Fin 3 → Nat :=
  let c2_i32_98 : BitVec 32 := 2#32
  let c0_i32_30 : BitVec 32 := 0#32
  let c1_i32_32 : BitVec 32 := 1#32
  let arg21 : BitVec 32 := Scf.iv c0_i32_30 c1_i32_32 k0_t1
  let v174 : BitVec 32 := Scalar.muli c2_i32_98 arg21
  let c1_i32_99 : BitVec 32 := 1#32
  let v175 : BitVec 32 := Scalar.addi v174 c1_i32_99
  let c0_i32_111 : BitVec 32 := 0#32
  let v191 : BitVec 1 := Scalar.cmpi .eq v175 c0_i32_111
  let c8_i32_113 : BitVec 32 := 8#32
  let c1_i32_112 : BitVec 32 := 1#32
  let v192 : BitVec 32 := Scalar.subi v175 c1_i32_112
  let v193 : BitVec 32 := Scalar.select v191 c8_i32_113 v192
  let v194 : Index := Scalar.indexCast v193
  let c0_114 : Index := 0#32
  let c0_115 : Index := 0#32
  ![v194.toNat, 0, 0]
@[reducible] def k0_t2_loop (i : grid0.Coords) : Scf.Loop 32 :=
  let c0_i32_30 : BitVec 32 := 0#32
  let arg2 : BitVec 32 := BitVec.ofNat 32 (i 2).val
  let c1_i32 : BitVec 32 := 1#32
  let v52 : BitVec 32 := Scalar.shrui arg2 c1_i32
  let v53 : BitVec 32 := Scalar.subi v52 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let v54 : BitVec 32 := Scalar.addi c0_i32_30 v53
  let c1_i32_33 : BitVec 32 := 1#32
  ⟨v57, v54, c1_i32_33⟩
def k0_mult4 (i : grid0.Coords) (k0_t2 : Fin (k0_t2_loop i).trips) : BitVec 32 :=
  let c2_i32 : BitVec 32 := 2#32
  let c0_i32_30 : BitVec 32 := 0#32
  let arg2 : BitVec 32 := BitVec.ofNat 32 (i 2).val
  let c1_i32 : BitVec 32 := 1#32
  let v52 : BitVec 32 := Scalar.shrui arg2 c1_i32
  let v53 : BitVec 32 := Scalar.subi v52 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_33 : BitVec 32 := 1#32
  let arg21 : BitVec 32 := Scf.iv v57 c1_i32_33 k0_t2
  let v115 : BitVec 32 := Scalar.muli c2_i32 arg21
  let c1_i32_58 : BitVec 32 := 1#32
  let v116 : BitVec 32 := Scalar.addi v115 c1_i32_58
  let c512_i32 : BitVec 32 := 512#32
  let v117 : BitVec 32 := Scalar.muli v116 c512_i32
  v117
def k0_off5 (i : grid0.Coords) (k0_t2 : Fin (k0_t2_loop i).trips) : Fin 2 → Nat :=
  let c2_i32 : BitVec 32 := 2#32
  let c0_i32_30 : BitVec 32 := 0#32
  let arg2 : BitVec 32 := BitVec.ofNat 32 (i 2).val
  let c1_i32 : BitVec 32 := 1#32
  let v52 : BitVec 32 := Scalar.shrui arg2 c1_i32
  let v53 : BitVec 32 := Scalar.subi v52 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_33 : BitVec 32 := 1#32
  let arg21 : BitVec 32 := Scf.iv v57 c1_i32_33 k0_t2
  let v115 : BitVec 32 := Scalar.muli c2_i32 arg21
  let c1_i32_58 : BitVec 32 := 1#32
  let v116 : BitVec 32 := Scalar.addi v115 c1_i32_58
  let c512_i32 : BitVec 32 := 512#32
  let v117 : BitVec 32 := Scalar.muli v116 c512_i32
  let v118 : BitVec 32 := v117
  let v119 : Index := Scalar.indexCast v118
  let c0_59 : Index := 0#32
  ![v119.toNat, 0]
def k0_off6 (i : grid0.Coords) (k0_t2 : Fin (k0_t2_loop i).trips) : Fin 3 → Nat :=
  let c2_i32 : BitVec 32 := 2#32
  let c0_i32_30 : BitVec 32 := 0#32
  let arg2 : BitVec 32 := BitVec.ofNat 32 (i 2).val
  let c1_i32 : BitVec 32 := 1#32
  let v52 : BitVec 32 := Scalar.shrui arg2 c1_i32
  let v53 : BitVec 32 := Scalar.subi v52 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_33 : BitVec 32 := 1#32
  let arg21 : BitVec 32 := Scf.iv v57 c1_i32_33 k0_t2
  let v115 : BitVec 32 := Scalar.muli c2_i32 arg21
  let c0_i32_68 : BitVec 32 := 0#32
  let v131 : BitVec 1 := Scalar.cmpi .eq v115 c0_i32_68
  let c8_i32 : BitVec 32 := 8#32
  let c1_i32_69 : BitVec 32 := 1#32
  let v132 : BitVec 32 := Scalar.subi v115 c1_i32_69
  let v133 : BitVec 32 := Scalar.select v131 c8_i32 v132
  let v134 : Index := Scalar.indexCast v133
  let c0_70 : Index := 0#32
  let c0_71 : Index := 0#32
  ![v134.toNat, 0, 0]
def k0_mult5 (i : grid0.Coords) (k0_t2 : Fin (k0_t2_loop i).trips) : BitVec 32 :=
  let c2_i32_98 : BitVec 32 := 2#32
  let c0_i32_30 : BitVec 32 := 0#32
  let arg2 : BitVec 32 := BitVec.ofNat 32 (i 2).val
  let c1_i32 : BitVec 32 := 1#32
  let v52 : BitVec 32 := Scalar.shrui arg2 c1_i32
  let v53 : BitVec 32 := Scalar.subi v52 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_33 : BitVec 32 := 1#32
  let arg21 : BitVec 32 := Scf.iv v57 c1_i32_33 k0_t2
  let v174 : BitVec 32 := Scalar.muli c2_i32_98 arg21
  let c1_i32_99 : BitVec 32 := 1#32
  let v175 : BitVec 32 := Scalar.addi v174 c1_i32_99
  let c1_i32_100 : BitVec 32 := 1#32
  let v176 : BitVec 32 := Scalar.addi v175 c1_i32_100
  let c512_i32_101 : BitVec 32 := 512#32
  let v177 : BitVec 32 := Scalar.muli v176 c512_i32_101
  v177
def k0_off7 (i : grid0.Coords) (k0_t2 : Fin (k0_t2_loop i).trips) : Fin 2 → Nat :=
  let c2_i32_98 : BitVec 32 := 2#32
  let c0_i32_30 : BitVec 32 := 0#32
  let arg2 : BitVec 32 := BitVec.ofNat 32 (i 2).val
  let c1_i32 : BitVec 32 := 1#32
  let v52 : BitVec 32 := Scalar.shrui arg2 c1_i32
  let v53 : BitVec 32 := Scalar.subi v52 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_33 : BitVec 32 := 1#32
  let arg21 : BitVec 32 := Scf.iv v57 c1_i32_33 k0_t2
  let v174 : BitVec 32 := Scalar.muli c2_i32_98 arg21
  let c1_i32_99 : BitVec 32 := 1#32
  let v175 : BitVec 32 := Scalar.addi v174 c1_i32_99
  let c1_i32_100 : BitVec 32 := 1#32
  let v176 : BitVec 32 := Scalar.addi v175 c1_i32_100
  let c512_i32_101 : BitVec 32 := 512#32
  let v177 : BitVec 32 := Scalar.muli v176 c512_i32_101
  let v178 : BitVec 32 := v177
  let v179 : Index := Scalar.indexCast v178
  let c0_102 : Index := 0#32
  ![v179.toNat, 0]
def k0_off8 (i : grid0.Coords) (k0_t2 : Fin (k0_t2_loop i).trips) : Fin 3 → Nat :=
  let c2_i32_98 : BitVec 32 := 2#32
  let c0_i32_30 : BitVec 32 := 0#32
  let arg2 : BitVec 32 := BitVec.ofNat 32 (i 2).val
  let c1_i32 : BitVec 32 := 1#32
  let v52 : BitVec 32 := Scalar.shrui arg2 c1_i32
  let v53 : BitVec 32 := Scalar.subi v52 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_33 : BitVec 32 := 1#32
  let arg21 : BitVec 32 := Scf.iv v57 c1_i32_33 k0_t2
  let v174 : BitVec 32 := Scalar.muli c2_i32_98 arg21
  let c1_i32_99 : BitVec 32 := 1#32
  let v175 : BitVec 32 := Scalar.addi v174 c1_i32_99
  let c0_i32_111 : BitVec 32 := 0#32
  let v191 : BitVec 1 := Scalar.cmpi .eq v175 c0_i32_111
  let c8_i32_113 : BitVec 32 := 8#32
  let c1_i32_112 : BitVec 32 := 1#32
  let v192 : BitVec 32 := Scalar.subi v175 c1_i32_112
  let v193 : BitVec 32 := Scalar.select v191 c8_i32_113 v192
  let v194 : Index := Scalar.indexCast v193
  let c0_114 : Index := 0#32
  let c0_115 : Index := 0#32
  ![v194.toNat, 0, 0]
def k0_cond2 (i : grid0.Coords) : BitVec 1 :=
  let arg2 : BitVec 32 := BitVec.ofNat 32 (i 2).val
  let c1_i32_34 : BitVec 32 := 1#32
  let v58 : BitVec 32 := Scalar.andi arg2 c1_i32_34
  let c0_i32_35 : BitVec 32 := 0#32
  let v59 : BitVec 1 := Scalar.cmpi .eq v58 c0_i32_35
  let v60 : BitVec 32 := Scalar.extui v59
  let c0_i32_36 : BitVec 32 := 0#32
  let v61 : BitVec 1 := Scalar.cmpi .ne v60 c0_i32_36
  v61

def k0_off9 (i : grid0.Coords) : Fin 3 → Nat :=
  let arg2 : BitVec 32 := BitVec.ofNat 32 (i 2).val
  let c0_i32_58 : BitVec 32 := 0#32
  let v115 : BitVec 1 := Scalar.cmpi .eq arg2 c0_i32_58
  let c8_i32 : BitVec 32 := 8#32
  let c1_i32_59 : BitVec 32 := 1#32
  let v116 : BitVec 32 := Scalar.subi arg2 c1_i32_59
  let v117 : BitVec 32 := Scalar.select v115 c8_i32 v116
  let v118 : Index := Scalar.indexCast v117
  let c0_60 : Index := 0#32
  let c0_61 : Index := 0#32
  ![v118.toNat, 0, 0]
def k0_off10 (i : grid0.Coords) : Fin 3 → Nat :=
  let arg2 : BitVec 32 := BitVec.ofNat 32 (i 2).val
  let v178 : Index := Scalar.indexCast arg2
  let c0_95 : Index := 0#32
  let c0_96 : Index := 0#32
  ![v178.toNat, 0, 0]
def k0_cond3 (i : grid0.Coords) : BitVec 1 :=
  let arg2 : BitVec 32 := BitVec.ofNat 32 (i 2).val
  let c1_i32_37 : BitVec 32 := 1#32
  let v62 : BitVec 32 := Scalar.andi arg2 c1_i32_37
  let c1_i32_38 : BitVec 32 := 1#32
  let v63 : BitVec 1 := Scalar.cmpi .eq v62 c1_i32_38
  let v64 : BitVec 32 := Scalar.extui v63
  let c0_i32_39 : BitVec 32 := 0#32
  let v65 : BitVec 1 := Scalar.cmpi .ne v64 c0_i32_39
  v65

def k0_mult6 (i : grid0.Coords) : BitVec 32 :=
  let arg2 : BitVec 32 := BitVec.ofNat 32 (i 2).val
  let c1_i32_58 : BitVec 32 := 1#32
  let v115 : BitVec 32 := Scalar.subi arg2 c1_i32_58
  let c1_i32_59 : BitVec 32 := 1#32
  let v116 : BitVec 32 := Scalar.addi v115 c1_i32_59
  let c512_i32 : BitVec 32 := 512#32
  let v117 : BitVec 32 := Scalar.muli v116 c512_i32
  v117
def k0_off11 (i : grid0.Coords) : Fin 2 → Nat :=
  let arg2 : BitVec 32 := BitVec.ofNat 32 (i 2).val
  let c1_i32_58 : BitVec 32 := 1#32
  let v115 : BitVec 32 := Scalar.subi arg2 c1_i32_58
  let c1_i32_59 : BitVec 32 := 1#32
  let v116 : BitVec 32 := Scalar.addi v115 c1_i32_59
  let c512_i32 : BitVec 32 := 512#32
  let v117 : BitVec 32 := Scalar.muli v116 c512_i32
  let v118 : BitVec 32 := v117
  let v119 : Index := Scalar.indexCast v118
  let c0_60 : Index := 0#32
  ![v119.toNat, 0]
def k0_off12 (i : grid0.Coords) : Fin 3 → Nat :=
  let arg2 : BitVec 32 := BitVec.ofNat 32 (i 2).val
  let c1_i32_58 : BitVec 32 := 1#32
  let v115 : BitVec 32 := Scalar.subi arg2 c1_i32_58
  let c0_i32_69 : BitVec 32 := 0#32
  let v131 : BitVec 1 := Scalar.cmpi .eq v115 c0_i32_69
  let c8_i32 : BitVec 32 := 8#32
  let c1_i32_70 : BitVec 32 := 1#32
  let v132 : BitVec 32 := Scalar.subi v115 c1_i32_70
  let v133 : BitVec 32 := Scalar.select v131 c8_i32 v132
  let v134 : Index := Scalar.indexCast v133
  let c0_71 : Index := 0#32
  let c0_72 : Index := 0#32
  ![v134.toNat, 0, 0]
def k0_off13 (i : grid0.Coords) : Fin 3 → Nat :=
  let arg2 : BitVec 32 := BitVec.ofNat 32 (i 2).val
  let c0_i32_99 : BitVec 32 := 0#32
  let v174 : BitVec 1 := Scalar.cmpi .eq arg2 c0_i32_99
  let c8_i32_101 : BitVec 32 := 8#32
  let c1_i32_100 : BitVec 32 := 1#32
  let v175 : BitVec 32 := Scalar.subi arg2 c1_i32_100
  let v176 : BitVec 32 := Scalar.select v174 c8_i32_101 v175
  let v177 : Index := Scalar.indexCast v176
  let c0_102 : Index := 0#32
  let c0_103 : Index := 0#32
  ![v177.toNat, 0, 0]
def k0_off14 (i : grid0.Coords) : Fin 3 → Nat :=
  let arg2 : BitVec 32 := BitVec.ofNat 32 (i 2).val
  let v237 : Index := Scalar.indexCast arg2
  let c0_138 : Index := 0#32
  let c0_139 : Index := 0#32
  ![v237.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16384x1536 : Shape := ⟨2, ![16384, 1536]⟩
abbrev S4x64 : Shape := ⟨2, ![4, 64]⟩
abbrev S1x128 : Shape := ⟨2, ![1, 128]⟩
abbrev S16384x512 : Shape := ⟨2, ![16384, 512]⟩
abbrev S4x4096x4x2x64 : Shape := ⟨5, ![4, 4096, 4, 2, 64]⟩
abbrev S4x4096x4x128 : Shape := ⟨4, ![4, 4096, 4, 128]⟩
abbrev S1x64 : Shape := ⟨2, ![1, 64]⟩
abbrev S64 : Shape := ⟨1, ![64]⟩
abbrev S_ : Shape := ⟨0, ![]⟩
abbrev S4x4x2x4096x4096 : Shape := ⟨5, ![4, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S128 : Shape := ⟨1, ![128]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S4x64, .f32⟩
  | .hbm, ⟨2, _⟩ => ⟨S1x128, .f32⟩
  | .hbm, ⟨3, _⟩ => ⟨S16384x1536, .f32⟩
  | .hbm, ⟨4, _⟩ => ⟨S16384x512, .f32⟩
  | .hbm, ⟨5, _⟩ => ⟨S4x4096x4x2x64, .f32⟩
  | .hbm, ⟨6, _⟩ => ⟨S16384x512, .f32⟩
  | .hbm, ⟨7, _⟩ => ⟨S4x4096x4x2x64, .f32⟩
  | .hbm, ⟨8, _⟩ => ⟨S16384x512, .f32⟩
  | .hbm, ⟨9, _⟩ => ⟨S4x4096x4x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x4x2x4096x4096, .f32⟩
  | .hbm, ⟨30, _⟩ => ⟨S4096, .i32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S4x4x2x4096x4096, .i1⟩
  | .hbm, ⟨39, _⟩ => ⟨S4x4x2x4096x4096, .f32⟩
  | .hbm, ⟨40, _⟩ => ⟨S4x4x2x4096x4096, .f32⟩
  | .hbm, ⟨41, _⟩ => ⟨S_, .f32⟩
  | .hbm, ⟨42, _⟩ => ⟨S4x4x2x4096, .f32⟩
  | .hbm, ⟨43, _⟩ => ⟨S_, .f32⟩
  | .hbm, ⟨44, _⟩ => ⟨S4x4x2x4096, .f32⟩
  | .hbm, ⟨45, _⟩ => ⟨S4x4x2x4096, .f32⟩
  | .hbm, ⟨46, _⟩ => ⟨S4x4x2x4096x1, .f32⟩
  | .hbm, ⟨47, _⟩ => ⟨S4x4x2x4096x4096, .f32⟩
  | .hbm, ⟨48, _⟩ => ⟨S4x4x2x4096x4096, .f32⟩
  | .hbm, ⟨49, _⟩ => ⟨S4x4x2x4096x4096, .f32⟩
  | .hbm, ⟨50, _⟩ => ⟨S_, .f32⟩
  | .hbm, ⟨51, _⟩ => ⟨S4x4x2x4096, .f32⟩
  | .hbm, ⟨52, _⟩ => ⟨S4x4x2x4096x1, .f32⟩
  | .hbm, ⟨53, _⟩ => ⟨S4x4x2x4096x4096, .f32⟩
  | .hbm, ⟨54, _⟩ => ⟨S4x4x2x4096x4096, .f32⟩
  | .hbm, ⟨55, _⟩ => ⟨S4x4x1x4096x4096, .f32⟩
  | .hbm, ⟨56, _⟩ => ⟨S4x4x4096x4096, .f32⟩
  | .hbm, ⟨57, _⟩ => ⟨S4x4x1x4096x4096, .f32⟩
  | .hbm, ⟨58, _⟩ => ⟨S4x4x4096x4096, .f32⟩
  | .hbm, ⟨59, _⟩ => ⟨S4x4x4096x4096, .f32⟩
  | .hbm, ⟨60, _⟩ => ⟨S4x4x4096x4096, .f32⟩
  | .hbm, ⟨61, _⟩ => ⟨S4x4x4096x4096, .f32⟩
  | .hbm, ⟨62, _⟩ => ⟨S4x4x128x4096, .f32⟩
  | .hbm, ⟨63, _⟩ => ⟨S4x4096x4x128, .f32⟩
  | .hbm, ⟨64, _⟩ => ⟨S4x4096x4x128, .f32⟩
  | .hbm, ⟨65, _⟩ => ⟨S_, .f32⟩
  | .hbm, ⟨66, _⟩ => ⟨S4x4096x4, .f32⟩
  | .hbm, ⟨67, _⟩ => ⟨S4x4096x4x1, .f32⟩
  | .hbm, ⟨68, _⟩ => ⟨S_, .f32⟩
  | .hbm, ⟨69, _⟩ => ⟨S4x4096x4x1, .f32⟩
  | .hbm, ⟨70, _⟩ => ⟨S4x4096x4x1, .f32⟩
  | .hbm, ⟨71, _⟩ => ⟨S_, .f32⟩
  | .hbm, ⟨72, _⟩ => ⟨S4x4096x4x1, .f32⟩
  | .hbm, ⟨73, _⟩ => ⟨S4x4096x4x1, .f32⟩
  | .hbm, ⟨74, _⟩ => ⟨S4x4096x4x1, .f32⟩
  | .hbm, ⟨75, _⟩ => ⟨S4x4096x4x128, .f32⟩
  | .hbm, ⟨76, _⟩ => ⟨S4x4096x4x128, .f32⟩
  | .hbm, ⟨77, _⟩ => ⟨S128, .f32⟩
  | .hbm, ⟨78, _⟩ => ⟨S1x1x1x128, .f32⟩
  | .hbm, ⟨79, _⟩ => ⟨S4x4096x4x128, .f32⟩
  | .hbm, ⟨80, _⟩ => ⟨S4x4096x4x128, .f32⟩
  | .hbm, ⟨81, _⟩ => ⟨S_, .f32⟩
  | .hbm, ⟨82, _⟩ => ⟨S4x4096x4x128, .f32⟩
  | .hbm, ⟨83, _⟩ => ⟨S4x4096x4x128, .f32⟩
  | .hbm, ⟨84, _⟩ => ⟨S16384x512, .f32⟩
  | .hbm, ⟨85, _⟩ => ⟨S16384x512, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x4096 : Shape := ⟨2, ![1024, 4096]⟩
abbrev S16384x1536 : Shape := ⟨2, ![16384, 1536]⟩
abbrev S16384x2560 : Shape := ⟨2, ![16384, 2560]⟩
abbrev S512x1024 : Shape := ⟨2, ![512, 1024]⟩
abbrev S512x1536 : Shape := ⟨2, ![512, 1536]⟩
abbrev S512x2560 : Shape := ⟨2, ![512, 2560]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S16384x1536, .bf16⟩
  | .hbm, ⟨4, _⟩ => ⟨S16384x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1536, .bf16⟩
  | .local _ .vmem, ⟨5, _⟩ => ⟨S512x1536, .bf16⟩
  | .local _ .vmem, ⟨6, _⟩ => ⟨S512x2560, .f32⟩
  | .local _ .vmem, ⟨7, _⟩ => ⟨S512x2560, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384x1024 : Shape := ⟨2, ![16384, 1024]⟩
abbrev S1x1024 : Shape := ⟨2, ![1, 1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1024 : Shape := ⟨1, ![1024]⟩
abbrev S16384x4096 : Shape := ⟨2, ![16384, 4096]⟩
abbrev S16384x1536 : Shape := ⟨2, ![16384, 1536]⟩
abbrev S16384x2560 : Shape := ⟨2, ![16384, 2560]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x4096, .f32⟩
  | .hbm, ⟨21, _⟩ => ⟨S16384x4096, .f32⟩
  | .hbm, ⟨22, _⟩ => ⟨S16384x1536, .f32⟩
  | .hbm, ⟨23, _⟩ => ⟨S16384x1536, .bf16⟩
  | .hbm, ⟨24, _⟩ => ⟨S16384x2560, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S16384x512 : Shape := ⟨2, ![16384, 512]⟩
abbrev S16384x256 : Shape := ⟨2, ![16384, 256]⟩
abbrev S16384x1024 : Shape := ⟨2, ![16384, 1024]⟩
abbrev S2x1024x1024 : Shape := ⟨3, ![2, 1024, 1024]⟩
abbrev S1x1024 : Shape := ⟨2, ![1, 1024]⟩
abbrev S2x1024x5632 : Shape := ⟨3, ![2, 1024, 5632]⟩
abbrev S3x5632 : Shape := ⟨2, ![3, 5632]⟩
abbrev S1x5632 : Shape := ⟨2, ![1, 5632]⟩
abbrev S2x2816x1024 : Shape := ⟨3, ![2, 2816, 1024]⟩
abbrev S512x512 : Shape := ⟨2, ![512, 512]⟩
abbrev S512x256 : Shape := ⟨2, ![512, 256]⟩
abbrev S512x1024 : Shape := ⟨2, ![512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S528x1024 : Shape := ⟨2, ![528, 1024]⟩
abbrev S512x2816 : Shape := ⟨2, ![512, 2816]⟩
abbrev S2x528x128 : Shape := ⟨3, ![2, 528, 128]⟩
abbrev S8x512x128 : Shape := ⟨3, ![8, 512, 128]⟩
abbrev S16x1024 : Shape := ⟨2, ![16, 1024]⟩
abbrev S1x512x1024 : Shape := ⟨3, ![1, 512, 1024]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S528x256 : Shape := ⟨2, ![528, 256]⟩
abbrev S528x128 : Shape := ⟨2, ![528, 128]⟩
abbrev S1x528x128 : Shape := ⟨3, ![1, 528, 128]⟩
abbrev S3x256 : Shape := ⟨2, ![3, 256]⟩
abbrev S1x256 : Shape := ⟨2, ![1, 256]⟩
abbrev S1x128x128 : Shape := ⟨3, ![1, 128, 128]⟩
abbrev S128x128 : Shape := ⟨2, ![128, 128]⟩
abbrev S512x128 : Shape := ⟨2, ![512, 128]⟩
abbrev S1x2816x256 : Shape := ⟨3, ![1, 2816, 256]⟩
abbrev S2816x256 : Shape := ⟨2, ![2816, 256]⟩
abbrev S1x512x128 : Shape := ⟨3, ![1, 512, 128]⟩

abbrev nBuf : Space → Nat
  | .hbm => 12
  | .vmem => 22
  | .smem => 0
  | _ => 0

abbrev bufTy : (tb : Table) → Fin (tcTables nBuf tb) → BufTy
  | .hbm, ⟨0, _⟩ => ⟨S16384x512, .bf16⟩
  | .hbm, ⟨1, _⟩ => ⟨S16384x256, .bf16⟩
  | .hbm, ⟨2, _⟩ => ⟨S16384x256, .bf16⟩
  | .hbm, ⟨3, _⟩ => ⟨S16384x1024, .f32⟩
  | .hbm, ⟨4, _⟩ => ⟨S2x1024x1024, .bf16⟩
  | .hbm, ⟨5, _⟩ => ⟨S1x1024, .f32⟩
  | .hbm, ⟨6, _⟩ => ⟨S2x1024x5632, .bf16⟩
  | .hbm, ⟨7, _⟩ => ⟨S3x5632, .f32⟩
  | .hbm, ⟨8, _⟩ => ⟨S1x5632, .f32⟩
  | .hbm, ⟨9, _⟩ => ⟨S2x2816x1024, .bf16⟩
  | .hbm, ⟨10, _⟩ => ⟨S1x1024, .f32⟩
  | .hbm, ⟨11, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1x1024x1024, .bf16⟩
  | .local _ .vmem, ⟨9, _⟩ => ⟨S1x1024, .f32⟩
  | .local _ .vmem, ⟨10, _⟩ => ⟨S1x1024x5632, .bf16⟩
  | .local _ .vmem, ⟨11, _⟩ => ⟨S3x5632, .f32⟩
  | .local _ .vmem, ⟨12, _⟩ => ⟨S1x5632, .f32⟩
  | .local _ .vmem, ⟨13, _⟩ => ⟨S1x2816x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S528x1024, .bf16⟩
  | .local _ .vmem, ⟨18, _⟩ => ⟨S512x2816, .bf16⟩
  | .local _ .vmem, ⟨19, _⟩ => ⟨S2x528x128, .f32⟩
  | .local _ .vmem, ⟨20, _⟩ => ⟨S2x528x128, .f32⟩
  | .local _ .vmem, ⟨21, _⟩ => ⟨S8x512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x512 : Shape := ⟨2, ![16384, 512]⟩
abbrev S16384x256 : Shape := ⟨2, ![16384, 256]⟩
abbrev S16384x1024 : Shape := ⟨2, ![16384, 1024]⟩
abbrev S2x1024x1024 : Shape := ⟨3, ![2, 1024, 1024]⟩
abbrev S1x1024 : Shape := ⟨2, ![1, 1024]⟩
abbrev S2x1024x5632 : Shape := ⟨3, ![2, 1024, 5632]⟩
abbrev S3x5632 : Shape := ⟨2, ![3, 5632]⟩
abbrev S1x5632 : Shape := ⟨2, ![1, 5632]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024x5632 : Shape := ⟨3, ![1, 1024, 5632]⟩
abbrev S1024x5632 : Shape := ⟨2, ![1024, 5632]⟩
abbrev S16384x5632 : Shape := ⟨2, ![16384, 5632]⟩
abbrev S4x4096x5632 : Shape := ⟨3, ![4, 4096, 5632]⟩
abbrev S4x4098x5632 : Shape := ⟨3, ![4, 4098, 5632]⟩
abbrev S5632 : Shape := ⟨1, ![5632]⟩
abbrev S1x1x5632 : Shape := ⟨3, ![1, 1, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 105
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x256, .bf16⟩
  | .hbm, ⟨2, _⟩ => ⟨S16384x256, .bf16⟩
  | .hbm, ⟨3, _⟩ => ⟨S16384x1024, .f32⟩
  | .hbm, ⟨4, _⟩ => ⟨S2x1024x1024, .bf16⟩
  | .hbm, ⟨5, _⟩ => ⟨S1x1024, .f32⟩
  | .hbm, ⟨6, _⟩ => ⟨S2x1024x5632, .bf16⟩
  | .hbm, ⟨7, _⟩ => ⟨S3x5632, .f32⟩
  | .hbm, ⟨8, _⟩ => ⟨S1x5632, .f32⟩
  | .hbm, ⟨9, _⟩ => ⟨S2x2816x1024, .bf16⟩
  | .hbm, ⟨10, _⟩ => ⟨S1x1024, .f32⟩
  | .hbm, ⟨11, _⟩ => ⟨S16384x1024, .bf16⟩
  | .hbm, ⟨12, _⟩ => ⟨S16384x1024, .f32⟩
  | .hbm, ⟨13, _⟩ => ⟨S1x1024x1024, .bf16⟩
  | .hbm, ⟨14, _⟩ => ⟨S1024x1024, .bf16⟩
  | .hbm, ⟨15, _⟩ => ⟨S1024x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S1x1024x5632, .bf16⟩
  | .hbm, ⟨36, _⟩ => ⟨S1024x5632, .bf16⟩
  | .hbm, ⟨37, _⟩ => ⟨S1024x5632, .f32⟩
  | .hbm, ⟨38, _⟩ => ⟨S16384x5632, .f32⟩
  | .hbm, ⟨39, _⟩ => ⟨S4x4096x5632, .f32⟩
  | .hbm, ⟨40, _⟩ => ⟨S_, .i32⟩
  | .hbm, ⟨41, _⟩ => ⟨S_, .f32⟩
  | .hbm, ⟨42, _⟩ => ⟨S4x4098x5632, .f32⟩
  | .hbm, ⟨43, _⟩ => ⟨S1x5632, .f32⟩
  | .hbm, ⟨44, _⟩ => ⟨S5632, .f32⟩
  | .hbm, ⟨45, _⟩ => ⟨S4x4096x5632, .f32⟩
  | .hbm, ⟨46, _⟩ => ⟨S1x1x5632, .f32⟩
  | .hbm, ⟨47, _⟩ => ⟨S4x4096x5632, .f32⟩
  | .hbm, ⟨48, _⟩ => ⟨S4x4096x5632, .f32⟩
  | .hbm, ⟨49, _⟩ => ⟨S_, .f32⟩
  | .hbm, ⟨50, _⟩ => ⟨S4x4096x5632, .f32⟩
  | .hbm, ⟨51, _⟩ => ⟨S4x4096x5632, .f32⟩
  | .hbm, ⟨52, _⟩ => ⟨S1x5632, .f32⟩
  | .hbm, ⟨53, _⟩ => ⟨S5632, .f32⟩
  | .hbm, ⟨54, _⟩ => ⟨S4x4096x5632, .f32⟩
  | .hbm, ⟨55, _⟩ => ⟨S1x1x5632, .f32⟩
  | .hbm, ⟨56, _⟩ => ⟨S4x4096x5632, .f32⟩
  | .hbm, ⟨57, _⟩ => ⟨S4x4096x5632, .f32⟩
  | .hbm, ⟨58, _⟩ => ⟨S4x4096x5632, .f32⟩
  | .hbm, ⟨59, _⟩ => ⟨S1x5632, .f32⟩
  | .hbm, ⟨60, _⟩ => ⟨S5632, .f32⟩
  | .hbm, ⟨61, _⟩ => ⟨S4x4096x5632, .f32⟩
  | .hbm, ⟨62, _⟩ => ⟨S1x1x5632, .f32⟩
  | .hbm, ⟨63, _⟩ => ⟨S4x4096x5632, .f32⟩
  | .hbm, ⟨64, _⟩ => ⟨S4x4096x5632, .f32⟩
  | .hbm, ⟨65, _⟩ => ⟨S4x4096x5632, .f32⟩
  | .hbm, ⟨66, _⟩ => ⟨S5632, .f32⟩
  | .hbm, ⟨67, _⟩ => ⟨S1x1x5632, .f32⟩
  | .hbm, ⟨68, _⟩ => ⟨S4x4096x5632, .f32⟩
  | .hbm, ⟨69, _⟩ => ⟨S4x4096x5632, .f32⟩
  | .hbm, ⟨70, _⟩ => ⟨S16384x5632, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S_, .f32⟩
  | .hbm, ⟨76, _⟩ => ⟨S16384x2816, .f32⟩
  | .hbm, ⟨77, _⟩ => ⟨S16384x2816, .f32⟩
  | .hbm, ⟨78, _⟩ => ⟨S_, .f32⟩
  | .hbm, ⟨79, _⟩ => ⟨S16384x2816, .f32⟩
  | .hbm, ⟨80, _⟩ => ⟨S16384x2816, .f32⟩
  | .hbm, ⟨81, _⟩ => ⟨S16384x2816, .f32⟩
  | .hbm, ⟨82, _⟩ => ⟨S16384x2816, .f32⟩
  | .hbm, ⟨83, _⟩ => ⟨S1x2816x1024, .bf16⟩
  | .hbm, ⟨84, _⟩ => ⟨S2816x1024, .bf16⟩
  | .hbm, ⟨85, _⟩ => ⟨S2816x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x1, .f32⟩
  | .hbm, ⟨99, _⟩ => ⟨S16384x1024, .f32⟩
  | .hbm, ⟨100, _⟩ => ⟨S16384x1024, .f32⟩
  | .hbm, ⟨101, _⟩ => ⟨S1024, .f32⟩
  | .hbm, ⟨102, _⟩ => ⟨S1x1024, .f32⟩
  | .hbm, ⟨103, _⟩ => ⟨S16384x1024, .f32⟩
  | .hbm, ⟨104, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_3 : Ref sig .tc := ⟨.hbm, 89, rfl⟩
abbrev main_v64 : Ref sig .tc := ⟨.hbm, 90, rfl⟩
abbrev main_v65 : Ref sig .tc := ⟨.hbm, 91, rfl⟩
abbrev main_cst_4 : Ref sig .tc := ⟨.hbm, 92, rfl⟩
abbrev main_v66 : Ref sig .tc := ⟨.hbm, 93, rfl⟩
abbrev main_v67 : Ref sig .tc := ⟨.hbm, 94, rfl⟩
abbrev main_cst_5 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]
-- ==== Proof.KernelIdealStep.lean ====
/-
  One trip of the attention kernel's loop over pairs of key blocks, as a function of what the scratch buffers hold.
  The loop is a software pipeline over two score buffers: while one block's scores are turned into probabilities, the
  next block's scores are computed, and the previous block's probabilities are multiplied with its values.
-/
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev 𝒱₀ : Variants := Variants.none

local notation "𝕄" => MT nD τ sig Unit (Elt F) ℕ (UR sig nD τ) ℕ

/-- What the buffers hold that a trip of the loop reads and changes: the score block in hand with its column maxima, the
    probabilities not yet multiplied with their values, the running maximum, the running sum, the last rescaling and the
    running numerator. -/
structure St (F : FTy → Type) where
  sa : Vec F S512x1024 .f32
  ma : Vec F S1x1024 .f32
  pb : Vec F S512x1024 .bf16
  m : Vec F S1x1024 .f32
  l : Vec F S1x1024 .f32
  al : Vec F S1x1024 .f32
  acc : Vec F S128x1024 .f32

/-- The state after a trip, from the keys of the next two blocks, the queries and the values of the last two. -/
def tripSt (K0 K1 : Vec F S512x128 .bf16) (QT : Vec F S128x1024 .bf16) (V0 V1 : Vec F S1x128x512 .bf16) (s : St F) : St F :=
  let sb := k0_pay14 K0 QT
  let mb := k0_pay15 K0 QT
  let acc1 := k0_pay17 (k0_pay16 V0 s.pb s.al s.acc)
  let m1 := k0_pay22 s.ma s.m
  let l1 := k0_pay21 s.sa s.ma s.m s.l
  let pa := k0_pay23 s.sa s.ma s.m
  let al1 := k0_pay24 s.ma s.m
  ⟨k0_pay26 K1 QT, k0_pay27 K1 QT, k0_pay91 sb mb m1, k0_pay90 mb m1, k0_pay89 sb mb m1 l1, k0_pay92 mb m1,
    k0_pay28 V1 pa al1 acc1⟩

section Trip

variable (c : Dev nD) (i : grid0.Coords)
  (arg3 : Memref sig .tc .vmem S4x64 .f32) (harg3 : arg3.IsWhole)
  (arg4 : Memref sig .tc .vmem S1x128 .f32) (harg4 : arg4.IsWhole)
  (arg5 : Memref sig .tc .vmem S512x128 .bf16) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S512x128 .bf16) (harg8 : arg8.IsWhole)
  (arg9 : Memref sig .tc .vmem S9x128x512 .bf16) (harg9 : arg9.IsWhole)
  (arg10 : Memref sig .tc .vmem S128x1024 .bf16) (harg10 : arg10.IsWhole)
  (arg11 : Memref sig .tc .vmem S512x1024 .f32) (harg11 : arg11.IsWhole)
  (arg12 : Memref sig .tc .vmem S512x1024 .f32) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S512x1024 .bf16) (harg15 : arg15.IsWhole)
  (arg16 : Memref sig .tc .vmem S512x1024 .bf16) (harg16 : arg16.IsWhole)
  (arg17 : Memref sig .tc .vmem S1x1024 .f32) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S128x1024 .f32) (harg20 : arg20.IsWhole)
  (arg2 : BitVec 32) (v31 : FVec F S1x1024 .f32)

/-- The buffers before a trip: the keys, the queries and the values the loop reads, and the state it changes. -/
abbrev Res (K : Vec F S4096x128 .bf16) (QT : Vec F S128x1024 .bf16) (VT : Vec F S9x128x512 .bf16) (q : PosShare TreeShare) (s : St F) : sProp 𝕄 :=
  iprop((arg6.view.loc (c : Thread nD τ) ↦[arg6.view.set]{q} arg6.view.rep K)
    ∗ (arg10.view.loc (c : Thread nD τ) ↦[arg10.view.set]{fullShare} arg10.view.rep QT)
    ∗ (arg9.view.loc (c : Thread nD τ) ↦[arg9.view.set]{fullShare} arg9.view.rep VT)
    ∗ (arg11.view.loc (c : Thread nD τ) ↦[arg11.view.set]{fullShare} arg11.view.rep s.sa)
    ∗ (∃ g, arg12.view.loc (c : Thread nD τ) ↦[arg12.view.set]{fullShare} g)
    ∗ (arg13.view.loc (c : Thread nD τ) ↦[arg13.view.set]{fullShare} arg13.view.rep s.ma)
    ∗ (∃ g, arg14.view.loc (c : Thread nD τ) ↦[arg14.view.set]{fullShare} g)
    ∗ (∃ g, arg15.view.loc (c : Thread nD τ) ↦[arg15.view.set]{fullShare} g)
    ∗ (arg16.view.loc (c : Thread nD τ) ↦[arg16.view.set]{fullShare} arg16.view.rep s.pb)
    ∗ (arg17.view.loc (c : Thread nD τ) ↦[arg17.view.set]{fullShare} arg17.view.rep s.m)
    ∗ (arg18.view.loc (c : Thread nD τ) ↦[arg18.view.set]{fullShare} arg18.view.rep s.l)
    ∗ (arg19.view.loc (c : Thread nD τ) ↦[arg19.view.set]{fullShare} arg19.view.rep s.al)
    ∗ (arg20.view.loc (c : Thread nD τ) ↦[arg20.view.set]{fullShare} arg20.view.rep s.acc))

/-- The state after trip `k`, the blocks it reads cut out of the keys and the values. -/
def tripAt (K : Vec F S4096x128 .bf16) (QT : Vec F S128x1024 .bf16) (VT : Vec F S9x128x512 .bf16) (k : Fin (k0_t1_loop i).trips) (s : St F) : St F :=
  tripSt (VecWindow.window K (k0_off1 i k) S512x128.size (k0_off1_inb i k)) (VecWindow.window K (k0_off3 i k) S512x128.size (k0_off3_inb i k)) QT
    (VecWindow.window VT (k0_off2 i k) S1x128x512.size (k0_off2_inb i k)) (VecWindow.window VT (k0_off4 i k) S1x128x512.size (k0_off4_inb i k)) s

theorem trip_run (K : Vec F S4096x128 .bf16) (QT : Vec F S128x1024 .bf16) (VT : Vec F S9x128x512 .bf16) (q : PosShare TreeShare) (k : Fin (k0_t1_loop i).trips) (s : St F) :
    Res c arg6 arg9 arg10 arg11 arg12 arg13 arg14 arg15 arg16 arg17 arg18 arg19 arg20 K QT VT q s
      ⊢ wp frame (wpE (defs₀ (F := F)) 𝒱₀ (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v31 k ())
        (fun _ => Res c arg6 arg9 arg10 arg11 arg12 arg13 arg14 arg15 arg16 arg17 arg18 arg19 arg20 K QT VT q (tripAt i K QT VT k s)) := by
  iintro ⟨H6, H10, H9, H11, ⟨%g12, H12⟩, H13, ⟨%g14, H14⟩, ⟨%g15, H15⟩, H16, H17, H18, H19, H20⟩
  sl_unfold [k0_t1_body]
  sl_exec
  sl_step
  ihave H11 := (pointsTo_rep_of_read (c : Thread nD τ) arg11 _ fullShare (tripAt i K QT VT k s).sa (by
    delta trip_run.sl.H12_1 trip_run.sl.H14_1 trip_run.sl.H15_1 trip_run.sl.H17_1 trip_run.sl.H18_1
      trip_run.sl.H19_1 trip_run.sl.H20_1 trip_run.sl.arg21 trip_run.sl.cst_62 trip_run.sl.cst_65
      trip_run.sl.cst_74 trip_run.sl.cst_89 trip_run.sl.v115 trip_run.sl.v116 trip_run.sl.v117 trip_run.sl.v119
      trip_run.sl.v122 trip_run.sl.v124 trip_run.sl.v125 trip_run.sl.v126 trip_run.sl.v127 trip_run.sl.v129
      trip_run.sl.v130 trip_run.sl.v131 trip_run.sl.v132 trip_run.sl.v133 trip_run.sl.v134 trip_run.sl.v136
      trip_run.sl.v138 trip_run.sl.v141 trip_run.sl.v142 trip_run.sl.v143 trip_run.sl.v145 trip_run.sl.v146
      trip_run.sl.v150 trip_run.sl.v151 trip_run.sl.v152 trip_run.sl.v153 trip_run.sl.v154 trip_run.sl.v155
      trip_run.sl.v157 trip_run.sl.v158 trip_run.sl.v159 trip_run.sl.v160 trip_run.sl.v162 trip_run.sl.v163
      trip_run.sl.v165 trip_run.sl.v166 trip_run.sl.v167 trip_run.sl.v169 trip_run.sl.v170 trip_run.sl.v172
      trip_run.sl.v173 trip_run.sl.v176 trip_run.sl.v177 trip_run.sl.v179 trip_run.sl.v182 trip_run.sl.v184
      trip_run.sl.v185 trip_run.sl.v186 trip_run.sl.v187 trip_run.sl.v189 trip_run.sl.v190 trip_run.sl.v191
      trip_run.sl.v192 trip_run.sl.v193 trip_run.sl.v194 trip_run.sl.v196 trip_run.sl.v197 trip_run.sl.v198
      trip_run.sl.v199 trip_run.sl.v200 trip_run.sl.v201 trip_run.sl.v202 trip_run.sl.v203 trip_run.sl.v205
      trip_run.sl.v206 trip_run.sl.v207 trip_run.sl.v208 trip_run.sl.v209 trip_run.sl.v216
    simp only [View.read_writes_full arg11.view, View.readCov_full arg11.view, View.read_writes_full arg12.view,
      View.readCov_full arg12.view, View.read_writes_full arg13.view, View.readCov_full arg13.view,
      View.read_writes_full arg14.view, View.readCov_full arg14.view, View.read_writes_full arg15.view,
      View.readCov_full arg15.view, View.read_writes_full arg16.view, View.readCov_full arg16.view,
      View.read_writes_full arg17.view, View.readCov_full arg17.view, View.read_writes_full arg18.view,
      View.readCov_full arg18.view, View.read_writes_full arg19.view, View.readCov_full arg19.view,
      View.read_writes_full arg20.view, View.readCov_full arg20.view, View.readAt_rep_full arg10.view,
      View.readAt_rep_full arg11.view, View.readAt_rep_full arg12.view, View.readAt_rep_full arg13.view,
      View.readAt_rep_full arg14.view, View.readAt_rep_full arg15.view, View.readAt_rep_full arg16.view,
      View.readAt_rep_full arg17.view, View.readAt_rep_full arg18.view, View.readAt_rep_full arg19.view,
      View.readAt_rep_full arg20.view, fun off inb => View.readAt_rep_unit arg9.view VT (off := off) (size :=
      S1x128x512.size) inb rfl inb, fun off inb => View.readAt_rep_unit arg6.view K (off := off) (size :=
      S512x128.size) inb rfl inb]
    dsimp only [tripAt, tripSt]
    rfl)) $$ H11
  ihave H13 := (pointsTo_rep_of_read (c : Thread nD τ) arg13 _ fullShare (tripAt i K QT VT k s).ma (by
    delta trip_run.sl.H12_1 trip_run.sl.H14_1 trip_run.sl.H15_1 trip_run.sl.H17_1 trip_run.sl.H18_1
      trip_run.sl.H19_1 trip_run.sl.H20_1 trip_run.sl.arg21 trip_run.sl.cst_62 trip_run.sl.cst_65
      trip_run.sl.cst_74 trip_run.sl.cst_89 trip_run.sl.v115 trip_run.sl.v116 trip_run.sl.v117 trip_run.sl.v119
      trip_run.sl.v122 trip_run.sl.v124 trip_run.sl.v125 trip_run.sl.v126 trip_run.sl.v127 trip_run.sl.v129
      trip_run.sl.v130 trip_run.sl.v131 trip_run.sl.v132 trip_run.sl.v133 trip_run.sl.v134 trip_run.sl.v136
      trip_run.sl.v138 trip_run.sl.v141 trip_run.sl.v142 trip_run.sl.v143 trip_run.sl.v145 trip_run.sl.v146
      trip_run.sl.v150 trip_run.sl.v151 trip_run.sl.v152 trip_run.sl.v153 trip_run.sl.v154 trip_run.sl.v155
      trip_run.sl.v157 trip_run.sl.v158 trip_run.sl.v159 trip_run.sl.v160 trip_run.sl.v162 trip_run.sl.v163
      trip_run.sl.v165 trip_run.sl.v166 trip_run.sl.v167 trip_run.sl.v169 trip_run.sl.v170 trip_run.sl.v172
      trip_run.sl.v173 trip_run.sl.v176 trip_run.sl.v177 trip_run.sl.v179 trip_run.sl.v182 trip_run.sl.v184
      trip_run.sl.v185 trip_run.sl.v186 trip_run.sl.v187 trip_run.sl.v189 trip_run.sl.v190 trip_run.sl.v191
      trip_run.sl.v192 trip_run.sl.v193 trip_run.sl.v194 trip_run.sl.v196 trip_run.sl.v197 trip_run.sl.v198
      trip_run.sl.v199 trip_run.sl.v200 trip_run.sl.v201 trip_run.sl.v202 trip_run.sl.v203 trip_run.sl.v205
      trip_run.sl.v206 trip_run.sl.v207 trip_run.sl.v208 trip_run.sl.v209 trip_run.sl.v216
    simp only [View.read_writes_full arg11.view, View.readCov_full arg11.view, View.read_writes_full arg12.view,
      View.readCov_full arg12.view, View.read_writes_full arg13.view, View.readCov_full arg13.view,
      View.read_writes_full arg14.view, View.readCov_full arg14.view, View.read_writes_full arg15.view,
      View.readCov_full arg15.view, View.read_writes_full arg16.view, View.readCov_full arg16.view,
      View.read_writes_full arg17.view, View.readCov_full arg17.view, View.read_writes_full arg18.view,
      View.readCov_full arg18.view, View.read_writes_full arg19.view, View.readCov_full arg19.view,
      View.read_writes_full arg20.view, View.readCov_full arg20.view, View.readAt_rep_full arg10.view,
      View.readAt_rep_full arg11.view, View.readAt_rep_full arg12.view, View.readAt_rep_full arg13.view,
      View.readAt_rep_full arg14.view, View.readAt_rep_full arg15.view, View.readAt_rep_full arg16.view,
      View.readAt_rep_full arg17.view, View.readAt_rep_full arg18.view, View.readAt_rep_full arg19.view,
      View.readAt_rep_full arg20.view, fun off inb => View.readAt_rep_unit arg9.view VT (off := off) (size :=
      S1x128x512.size) inb rfl inb, fun off inb => View.readAt_rep_unit arg6.view K (off := off) (size :=
      S512x128.size) inb rfl inb]
    simp only [tripAt, tripSt, k0_pay27, k0_pay25])) $$ H13
  ihave H16 := (pointsTo_rep_of_read (c : Thread nD τ) arg16 _ fullShare (tripAt i K QT VT k s).pb (by
    delta trip_run.sl.H12_1 trip_run.sl.H14_1 trip_run.sl.H15_1 trip_run.sl.H17_1 trip_run.sl.H18_1
      trip_run.sl.H19_1 trip_run.sl.H20_1 trip_run.sl.arg21 trip_run.sl.cst_62 trip_run.sl.cst_65
      trip_run.sl.cst_74 trip_run.sl.cst_89 trip_run.sl.v115 trip_run.sl.v116 trip_run.sl.v117 trip_run.sl.v119
      trip_run.sl.v122 trip_run.sl.v124 trip_run.sl.v125 trip_run.sl.v126 trip_run.sl.v127 trip_run.sl.v129
      trip_run.sl.v130 trip_run.sl.v131 trip_run.sl.v132 trip_run.sl.v133 trip_run.sl.v134 trip_run.sl.v136
      trip_run.sl.v138 trip_run.sl.v141 trip_run.sl.v142 trip_run.sl.v143 trip_run.sl.v145 trip_run.sl.v146
      trip_run.sl.v150 trip_run.sl.v151 trip_run.sl.v152 trip_run.sl.v153 trip_run.sl.v154 trip_run.sl.v155
      trip_run.sl.v157 trip_run.sl.v158 trip_run.sl.v159 trip_run.sl.v160 trip_run.sl.v162 trip_run.sl.v163
      trip_run.sl.v165 trip_run.sl.v166 trip_run.sl.v167 trip_run.sl.v169 trip_run.sl.v170 trip_run.sl.v172
      trip_run.sl.v173 trip_run.sl.v176 trip_run.sl.v177 trip_run.sl.v179 trip_run.sl.v182 trip_run.sl.v184
      trip_run.sl.v185 trip_run.sl.v186 trip_run.sl.v187 trip_run.sl.v189 trip_run.sl.v190 trip_run.sl.v191
      trip_run.sl.v192 trip_run.sl.v193 trip_run.sl.v194 trip_run.sl.v196 trip_run.sl.v197 trip_run.sl.v198
      trip_run.sl.v199 trip_run.sl.v200 trip_run.sl.v201 trip_run.sl.v202 trip_run.sl.v203 trip_run.sl.v205
      trip_run.sl.v206 trip_run.sl.v207 trip_run.sl.v208 trip_run.sl.v209 trip_run.sl.v216
    simp only [View.read_writes_full arg11.view, View.readCov_full arg11.view, View.read_writes_full arg12.view,
      View.readCov_full arg12.view, View.read_writes_full arg13.view, View.readCov_full arg13.view,
      View.read_writes_full arg14.view, View.readCov_full arg14.view, View.read_writes_full arg15.view,
      View.readCov_full arg15.view, View.read_writes_full arg16.view, View.readCov_full arg16.view,
      View.read_writes_full arg17.view, View.readCov_full arg17.view, View.read_writes_full arg18.view,
      View.readCov_full arg18.view, View.read_writes_full arg19.view, View.readCov_full arg19.view,
      View.read_writes_full arg20.view, View.readCov_full arg20.view, View.readAt_rep_full arg10.view,
      View.readAt_rep_full arg11.view, View.readAt_rep_full arg12.view, View.readAt_rep_full arg13.view,
      View.readAt_rep_full arg14.view, View.readAt_rep_full arg15.view, View.readAt_rep_full arg16.view,
      View.readAt_rep_full arg17.view, View.readAt_rep_full arg18.view, View.readAt_rep_full arg19.view,
      View.readAt_rep_full arg20.view, fun off inb => View.readAt_rep_unit arg9.view VT (off := off) (size :=
      S1x128x512.size) inb rfl inb, fun off inb => View.readAt_rep_unit arg6.view K (off := off) (size :=
      S512x128.size) inb rfl inb]
    dsimp only [tripAt, tripSt]
    rfl)) $$ H16
  ihave H17 := (pointsTo_rep_of_read (c : Thread nD τ) arg17 _ fullShare (tripAt i K QT VT k s).m (by
    delta trip_run.sl.H12_1 trip_run.sl.H14_1 trip_run.sl.H15_1 trip_run.sl.H17_1 trip_run.sl.H18_1
      trip_run.sl.H19_1 trip_run.sl.H20_1 trip_run.sl.arg21 trip_run.sl.cst_62 trip_run.sl.cst_65
      trip_run.sl.cst_74 trip_run.sl.cst_89 trip_run.sl.v115 trip_run.sl.v116 trip_run.sl.v117 trip_run.sl.v119
      trip_run.sl.v122 trip_run.sl.v124 trip_run.sl.v125 trip_run.sl.v126 trip_run.sl.v127 trip_run.sl.v129
      trip_run.sl.v130 trip_run.sl.v131 trip_run.sl.v132 trip_run.sl.v133 trip_run.sl.v134 trip_run.sl.v136
      trip_run.sl.v138 trip_run.sl.v141 trip_run.sl.v142 trip_run.sl.v143 trip_run.sl.v145 trip_run.sl.v146
      trip_run.sl.v150 trip_run.sl.v151 trip_run.sl.v152 trip_run.sl.v153 trip_run.sl.v154 trip_run.sl.v155
      trip_run.sl.v157 trip_run.sl.v158 trip_run.sl.v159 trip_run.sl.v160 trip_run.sl.v162 trip_run.sl.v163
      trip_run.sl.v165 trip_run.sl.v166 trip_run.sl.v167 trip_run.sl.v169 trip_run.sl.v170 trip_run.sl.v172
      trip_run.sl.v173 trip_run.sl.v176 trip_run.sl.v177 trip_run.sl.v179 trip_run.sl.v182 trip_run.sl.v184
      trip_run.sl.v185 trip_run.sl.v186 trip_run.sl.v187 trip_run.sl.v189 trip_run.sl.v190 trip_run.sl.v191
      trip_run.sl.v192 trip_run.sl.v193 trip_run.sl.v194 trip_run.sl.v196 trip_run.sl.v197 trip_run.sl.v198
      trip_run.sl.v199 trip_run.sl.v200 trip_run.sl.v201 trip_run.sl.v202 trip_run.sl.v203 trip_run.sl.v205
      trip_run.sl.v206 trip_run.sl.v207 trip_run.sl.v208 trip_run.sl.v209 trip_run.sl.v216
    simp only [View.read_writes_full arg11.view, View.readCov_full arg11.view, View.read_writes_full arg12.view,
      View.readCov_full arg12.view, View.read_writes_full arg13.view, View.readCov_full arg13.view,
      View.read_writes_full arg14.view, View.readCov_full arg14.view, View.read_writes_full arg15.view,
      View.readCov_full arg15.view, View.read_writes_full arg16.view, View.readCov_full arg16.view,
      View.read_writes_full arg17.view, View.readCov_full arg17.view, View.read_writes_full arg18.view,
      View.readCov_full arg18.view, View.read_writes_full arg19.view, View.readCov_full arg19.view,
      View.read_writes_full arg20.view, View.readCov_full arg20.view, View.readAt_rep_full arg10.view,
      View.readAt_rep_full arg11.view, View.readAt_rep_full arg12.view, View.readAt_rep_full arg13.view,
      View.readAt_rep_full arg14.view, View.readAt_rep_full arg15.view, View.readAt_rep_full arg16.view,
      View.readAt_rep_full arg17.view, View.readAt_rep_full arg18.view, View.readAt_rep_full arg19.view,
      View.readAt_rep_full arg20.view, fun off inb => View.readAt_rep_unit arg9.view VT (off := off) (size :=
      S1x128x512.size) inb rfl inb, fun off inb => View.readAt_rep_unit arg6.view K (off := off) (size :=
      S512x128.size) inb rfl inb]
    dsimp only [tripAt, tripSt]
    rfl)) $$ H17
  ihave H18 := (pointsTo_rep_of_read (c : Thread nD τ) arg18 _ fullShare (tripAt i K QT VT k s).l (by
    delta trip_run.sl.H12_1 trip_run.sl.H14_1 trip_run.sl.H15_1 trip_run.sl.H17_1 trip_run.sl.H18_1
      trip_run.sl.H19_1 trip_run.sl.H20_1 trip_run.sl.arg21 trip_run.sl.cst_62 trip_run.sl.cst_65
      trip_run.sl.cst_74 trip_run.sl.cst_89 trip_run.sl.v115 trip_run.sl.v116 trip_run.sl.v117 trip_run.sl.v119
      trip_run.sl.v122 trip_run.sl.v124 trip_run.sl.v125 trip_run.sl.v126 trip_run.sl.v127 trip_run.sl.v129
      trip_run.sl.v130 trip_run.sl.v131 trip_run.sl.v132 trip_run.sl.v133 trip_run.sl.v134 trip_run.sl.v136
      trip_run.sl.v138 trip_run.sl.v141 trip_run.sl.v142 trip_run.sl.v143 trip_run.sl.v145 trip_run.sl.v146
      trip_run.sl.v150 trip_run.sl.v151 trip_run.sl.v152 trip_run.sl.v153 trip_run.sl.v154 trip_run.sl.v155
      trip_run.sl.v157 trip_run.sl.v158 trip_run.sl.v159 trip_run.sl.v160 trip_run.sl.v162 trip_run.sl.v163
      trip_run.sl.v165 trip_run.sl.v166 trip_run.sl.v167 trip_run.sl.v169 trip_run.sl.v170 trip_run.sl.v172
      trip_run.sl.v173 trip_run.sl.v176 trip_run.sl.v177 trip_run.sl.v179 trip_run.sl.v182 trip_run.sl.v184
      trip_run.sl.v185 trip_run.sl.v186 trip_run.sl.v187 trip_run.sl.v189 trip_run.sl.v190 trip_run.sl.v191
      trip_run.sl.v192 trip_run.sl.v193 trip_run.sl.v194 trip_run.sl.v196 trip_run.sl.v197 trip_run.sl.v198
      trip_run.sl.v199 trip_run.sl.v200 trip_run.sl.v201 trip_run.sl.v202 trip_run.sl.v203 trip_run.sl.v205
      trip_run.sl.v206 trip_run.sl.v207 trip_run.sl.v208 trip_run.sl.v209 trip_run.sl.v216
    simp only [View.read_writes_full arg11.view, View.readCov_full arg11.view, View.read_writes_full arg12.view,
      View.readCov_full arg12.view, View.read_writes_full arg13.view, View.readCov_full arg13.view,
      View.read_writes_full arg14.view, View.readCov_full arg14.view, View.read_writes_full arg15.view,
      View.readCov_full arg15.view, View.read_writes_full arg16.view, View.readCov_full arg16.view,
      View.read_writes_full arg17.view, View.readCov_full arg17.view, View.read_writes_full arg18.view,
      View.readCov_full arg18.view, View.read_writes_full arg19.view, View.readCov_full arg19.view,
      View.read_writes_full arg20.view, View.readCov_full arg20.view, View.readAt_rep_full arg10.view,
      View.readAt_rep_full arg11.view, View.readAt_rep_full arg12.view, View.readAt_rep_full arg13.view,
      View.readAt_rep_full arg14.view, View.readAt_rep_full arg15.view, View.readAt_rep_full arg16.view,
      View.readAt_rep_full arg17.view, View.readAt_rep_full arg18.view, View.readAt_rep_full arg19.view,
      View.readAt_rep_full arg20.view, fun off inb => View.readAt_rep_unit arg9.view VT (off := off) (size :=
      S1x128x512.size) inb rfl inb, fun off inb => View.readAt_rep_unit arg6.view K (off := off) (size :=
      S512x128.size) inb rfl inb]
    dsimp only [tripAt, tripSt]
    rfl)) $$ H18
  ihave H19 := (pointsTo_rep_of_read (c : Thread nD τ) arg19 _ fullShare (tripAt i K QT VT k s).al (by
    delta trip_run.sl.H12_1 trip_run.sl.H14_1 trip_run.sl.H15_1 trip_run.sl.H17_1 trip_run.sl.H18_1
      trip_run.sl.H19_1 trip_run.sl.H20_1 trip_run.sl.arg21 trip_run.sl.cst_62 trip_run.sl.cst_65
      trip_run.sl.cst_74 trip_run.sl.cst_89 trip_run.sl.v115 trip_run.sl.v116 trip_run.sl.v117 trip_run.sl.v119
      trip_run.sl.v122 trip_run.sl.v124 trip_run.sl.v125 trip_run.sl.v126 trip_run.sl.v127 trip_run.sl.v129
      trip_run.sl.v130 trip_run.sl.v131 trip_run.sl.v132 trip_run.sl.v133 trip_run.sl.v134 trip_run.sl.v136
      trip_run.sl.v138 trip_run.sl.v141 trip_run.sl.v142 trip_run.sl.v143 trip_run.sl.v145 trip_run.sl.v146
      trip_run.sl.v150 trip_run.sl.v151 trip_run.sl.v152 trip_run.sl.v153 trip_run.sl.v154 trip_run.sl.v155
      trip_run.sl.v157 trip_run.sl.v158 trip_run.sl.v159 trip_run.sl.v160 trip_run.sl.v162 trip_run.sl.v163
      trip_run.sl.v165 trip_run.sl.v166 trip_run.sl.v167 trip_run.sl.v169 trip_run.sl.v170 trip_run.sl.v172
      trip_run.sl.v173 trip_run.sl.v176 trip_run.sl.v177 trip_run.sl.v179 trip_run.sl.v182 trip_run.sl.v184
      trip_run.sl.v185 trip_run.sl.v186 trip_run.sl.v187 trip_run.sl.v189 trip_run.sl.v190 trip_run.sl.v191
      trip_run.sl.v192 trip_run.sl.v193 trip_run.sl.v194 trip_run.sl.v196 trip_run.sl.v197 trip_run.sl.v198
      trip_run.sl.v199 trip_run.sl.v200 trip_run.sl.v201 trip_run.sl.v202 trip_run.sl.v203 trip_run.sl.v205
      trip_run.sl.v206 trip_run.sl.v207 trip_run.sl.v208 trip_run.sl.v209 trip_run.sl.v216
    simp only [View.read_writes_full arg11.view, View.readCov_full arg11.view, View.read_writes_full arg12.view,
      View.readCov_full arg12.view, View.read_writes_full arg13.view, View.readCov_full arg13.view,
      View.read_writes_full arg14.view, View.readCov_full arg14.view, View.read_writes_full arg15.view,
      View.readCov_full arg15.view, View.read_writes_full arg16.view, View.readCov_full arg16.view,
      View.read_writes_full arg17.view, View.readCov_full arg17.view, View.read_writes_full arg18.view,
      View.readCov_full arg18.view, View.read_writes_full arg19.view, View.readCov_full arg19.view,
      View.read_writes_full arg20.view, View.readCov_full arg20.view, View.readAt_rep_full arg10.view,
      View.readAt_rep_full arg11.view, View.readAt_rep_full arg12.view, View.readAt_rep_full arg13.view,
      View.readAt_rep_full arg14.view, View.readAt_rep_full arg15.view, View.readAt_rep_full arg16.view,
      View.readAt_rep_full arg17.view, View.readAt_rep_full arg18.view, View.readAt_rep_full arg19.view,
      View.readAt_rep_full arg20.view, fun off inb => View.readAt_rep_unit arg9.view VT (off := off) (size :=
      S1x128x512.size) inb rfl inb, fun off inb => View.readAt_rep_unit arg6.view K (off := off) (size :=
      S512x128.size) inb rfl inb]
    dsimp only [tripAt, tripSt]
    rfl)) $$ H19
  ihave H20 := (pointsTo_rep_of_read (c : Thread nD τ) arg20 _ fullShare (tripAt i K QT VT k s).acc (by
    delta trip_run.sl.H12_1 trip_run.sl.H14_1 trip_run.sl.H15_1 trip_run.sl.H17_1 trip_run.sl.H18_1
      trip_run.sl.H19_1 trip_run.sl.H20_1 trip_run.sl.arg21 trip_run.sl.cst_62 trip_run.sl.cst_65
      trip_run.sl.cst_74 trip_run.sl.cst_89 trip_run.sl.v115 trip_run.sl.v116 trip_run.sl.v117 trip_run.sl.v119
      trip_run.sl.v122 trip_run.sl.v124 trip_run.sl.v125 trip_run.sl.v126 trip_run.sl.v127 trip_run.sl.v129
      trip_run.sl.v130 trip_run.sl.v131 trip_run.sl.v132 trip_run.sl.v133 trip_run.sl.v134 trip_run.sl.v136
      trip_run.sl.v138 trip_run.sl.v141 trip_run.sl.v142 trip_run.sl.v143 trip_run.sl.v145 trip_run.sl.v146
      trip_run.sl.v150 trip_run.sl.v151 trip_run.sl.v152 trip_run.sl.v153 trip_run.sl.v154 trip_run.sl.v155
      trip_run.sl.v157 trip_run.sl.v158 trip_run.sl.v159 trip_run.sl.v160 trip_run.sl.v162 trip_run.sl.v163
      trip_run.sl.v165 trip_run.sl.v166 trip_run.sl.v167 trip_run.sl.v169 trip_run.sl.v170 trip_run.sl.v172
      trip_run.sl.v173 trip_run.sl.v176 trip_run.sl.v177 trip_run.sl.v179 trip_run.sl.v182 trip_run.sl.v184
      trip_run.sl.v185 trip_run.sl.v186 trip_run.sl.v187 trip_run.sl.v189 trip_run.sl.v190 trip_run.sl.v191
      trip_run.sl.v192 trip_run.sl.v193 trip_run.sl.v194 trip_run.sl.v196 trip_run.sl.v197 trip_run.sl.v198
      trip_run.sl.v199 trip_run.sl.v200 trip_run.sl.v201 trip_run.sl.v202 trip_run.sl.v203 trip_run.sl.v205
      trip_run.sl.v206 trip_run.sl.v207 trip_run.sl.v208 trip_run.sl.v209 trip_run.sl.v216
    simp only [View.read_writes_full arg11.view, View.readCov_full arg11.view, View.read_writes_full arg12.view,
      View.readCov_full arg12.view, View.read_writes_full arg13.view, View.readCov_full arg13.view,
      View.read_writes_full arg14.view, View.readCov_full arg14.view, View.read_writes_full arg15.view,
      View.readCov_full arg15.view, View.read_writes_full arg16.view, View.readCov_full arg16.view,
      View.read_writes_full arg17.view, View.readCov_full arg17.view, View.read_writes_full arg18.view,
      View.readCov_full arg18.view, View.read_writes_full arg19.view, View.readCov_full arg19.view,
      View.read_writes_full arg20.view, View.readCov_full arg20.view, View.readAt_rep_full arg10.view,
      View.readAt_rep_full arg11.view, View.readAt_rep_full arg12.view, View.readAt_rep_full arg13.view,
      View.readAt_rep_full arg14.view, View.readAt_rep_full arg15.view, View.readAt_rep_full arg16.view,
      View.readAt_rep_full arg17.view, View.readAt_rep_full arg18.view, View.readAt_rep_full arg19.view,
      View.readAt_rep_full arg20.view, fun off inb => View.readAt_rep_unit arg9.view VT (off := off) (size :=
      S1x128x512.size) inb rfl inb, fun off inb => View.readAt_rep_unit arg6.view K (off := off) (size :=
      S512x128.size) inb rfl inb]
    dsimp only [tripAt, tripSt]
    rfl)) $$ H20
  unfold Res
  isplitl [H6]
  · iexact H6
  isplitl [H10]
  · iexact H10
  isplitl [H9]
  · iexact H9
  isplitl [H11]
  · iexact H11
  isplitl [H12]
  · iexists _; iexact H12
  isplitl [H13]
  · iexact H13
  isplitl [H14]
  · iexists _; iexact H14
  isplitl [H15]
  · iexists _; iexact H15
  isplitl [H16]
  · iexact H16
  isplitl [H17]
  · iexact H17
  isplitl [H18]
  · iexact H18
  isplitl [H19]
  · iexact H19
  iexact H20

/-- The state before trip `n` of the loop. -/
def stN (K : Vec F S4096x128 .bf16) (QT : Vec F S128x1024 .bf16) (VT : Vec F S9x128x512 .bf16) (s : St F) : ℕ → St F
  | 0 => s
  | n + 1 => if h : n < (k0_t1_loop i).trips then tripAt i K QT VT ⟨n, h⟩ (stN K QT VT s n) else stN K QT VT s n

theorem loop_step (K : Vec F S4096x128 .bf16) (QT : Vec F S128x1024 .bf16) (VT : Vec F S9x128x512 .bf16) (q : PosShare TreeShare) (s : St F)
    (k : Fin (k0_t1_loop i).trips) (x : PUnit) :
    Res c arg6 arg9 arg10 arg11 arg12 arg13 arg14 arg15 arg16 arg17 arg18 arg19 arg20 K QT VT q (stN i K QT VT s k.val)
      ⊢ wp frame (wpE (defs₀ (F := F)) 𝒱₀ (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v31 k x)
        (fun _ => Res c arg6 arg9 arg10 arg11 arg12 arg13 arg14 arg15 arg16 arg17 arg18 arg19 arg20 K QT VT q (stN i K QT VT s (k.val + 1))) := by
  have e : stN i K QT VT s (k.val + 1) = tripAt i K QT VT k (stN i K QT VT s k.val) := by
    rw [stN, dif_pos k.isLt]
  rw [e]
  exact trip_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v31 K QT VT q k _

end Trip

end Cert.Proof.KernelIdeal

end
-- ==== Proof.KernelIdealBody.lean ====
/-
  The attention kernel's body, run once at each kind of grid point: the first query block (which also lays out the
  values, transposed), a later query block with an even number, and one with an odd number.
-/
module

public import proofs.«01_k».proof.Proof.KernelIdealStep

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The grid point is the first of its row: its query block is block 0. -/
abbrev First (i : grid0.Coords) : Prop :=
  Scalar.cmpi .ne (Scalar.extui (Scalar.cmpi .eq (BitVec.ofNat 32 (i 2).val) 0#32) : BitVec 32) 0#32 = 1#1

/-- The values laid out for the kernel: slice `j < 8` is block `j` of the values, transposed; slice 8 is zero. -/
def vtOf (V : Vec F S4096x128 .bf16) : Vec F S9x128x512 .bf16 :=
  VecWindow.put (VecWindow.put (VecWindow.put (VecWindow.put (VecWindow.put (VecWindow.put (VecWindow.put
    (VecWindow.put (VecWindow.put (fun _ => Scalar.ofBits .bf16 0x0000#16) ![0, 0, 0] S1x128x512.size (k0_pay2
    (VecWindow.window V ![0, 0] S512x128.size inb_S4096x128_S512x128_0_0))) ![1, 0, 0] S1x128x512.size (k0_pay2
    (VecWindow.window V ![512, 0] S512x128.size inb_S4096x128_S512x128_512_0))) ![2, 0, 0] S1x128x512.size (k0_pay2
    (VecWindow.window V ![1024, 0] S512x128.size inb_S4096x128_S512x128_1024_0))) ![3, 0, 0] S1x128x512.size
    (k0_pay2 (VecWindow.window V ![1536, 0] S512x128.size inb_S4096x128_S512x128_1536_0))) ![4, 0, 0]
    S1x128x512.size (k0_pay2 (VecWindow.window V ![2048, 0] S512x128.size inb_S4096x128_S512x128_2048_0))) ![5, 0,
    0] S1x128x512.size (k0_pay2 (VecWindow.window V ![2560, 0] S512x128.size inb_S4096x128_S512x128_2560_0))) ![6,
    0, 0] S1x128x512.size (k0_pay2 (VecWindow.window V ![3072, 0] S512x128.size inb_S4096x128_S512x128_3072_0)))
    ![7, 0, 0] S1x128x512.size (k0_pay2 (VecWindow.window V ![3584, 0] S512x128.size
    inb_S4096x128_S512x128_3584_0))) ![8, 0, 0] S1x128x512.size k0_pay11

/-- The two query blocks laid out side by side, transposed: on the left the first map's features and zeros for the
    second's, on the right the other way round. -/
def qtOf (Q : Vec F S512x128 .bf16) : Vec F S128x1024 .bf16 :=
  VecWindow.put (VecWindow.put (fun _ => Scalar.ofBits .bf16 0x0000#16) ![0, 0] S128x512.size (k0_pay76 Q)) ![0, 512] S128x512.size (k0_pay77 Q)

theorem vt_step {α : Type} (k : ℕ) (f g : S9x128x512.Idx → α) (w : S1x128x512.Idx → α)
    (h : ∀ y : S9x128x512.Idx, (y 0).val < k → f y = g y) (y : S9x128x512.Idx) (hy : (y 0).val < k + 1) :
    VecWindow.put f ![k, 0, 0] S1x128x512.size w y = VecWindow.put g ![k, 0, 0] S1x128x512.size w y := by
  have hy1 : (y 1).val < 128 := (y 1).isLt
  have hy2 : (y 2).val < 512 := (y 2).isLt
  by_cases hk : ∀ a, (![k, 0, 0] : Fin 3 → ℕ) a ≤ (y a).val ∧ (y a).val < (![k, 0, 0] : Fin 3 → ℕ) a + S1x128x512.size a
  · have e : ∀ u : S9x128x512.Idx → α, VecWindow.put u ![k, 0, 0] S1x128x512.size w y = w (Rect.unitLocal (s := S9x128x512) (off := ![k, 0, 0]) (size := S1x128x512.size) y hk) :=
      fun u => dif_pos hk
    rw [e, e]
  · have e : ∀ u : S9x128x512.Idx → α, VecWindow.put u ![k, 0, 0] S1x128x512.size w y = u y := fun u => dif_neg hk
    rw [e, e]
    refine h y ?_
    rcases Nat.lt_succ_iff_lt_or_eq.mp hy with hlt | e
    · exact hlt
    · refine absurd (fun a => ?_) hk
      match a with
      | 0 => exact ⟨le_of_eq e.symm, by show (y 0).val < k + 1; omega⟩
      | 1 => exact ⟨Nat.zero_le _, by show (y 1).val < 0 + 128; omega⟩
      | 2 => exact ⟨Nat.zero_le _, by show (y 2).val < 0 + 512; omega⟩

theorem vt_base {α : Type} (f g : S9x128x512.Idx → α) (w0 w1 w2 w3 w4 w5 w6 w7 w8 : S1x128x512.Idx → α) :
    VecWindow.put (VecWindow.put (VecWindow.put (VecWindow.put (VecWindow.put (VecWindow.put (VecWindow.put
      (VecWindow.put (VecWindow.put (f) ![0, 0, 0] S1x128x512.size w0) ![1, 0, 0] S1x128x512.size w1) ![2, 0, 0]
      S1x128x512.size w2) ![3, 0, 0] S1x128x512.size w3) ![4, 0, 0] S1x128x512.size w4) ![5, 0, 0] S1x128x512.size
      w5) ![6, 0, 0] S1x128x512.size w6) ![7, 0, 0] S1x128x512.size w7) ![8, 0, 0] S1x128x512.size w8
      = VecWindow.put (VecWindow.put (VecWindow.put (VecWindow.put (VecWindow.put (VecWindow.put (VecWindow.put
        (VecWindow.put (VecWindow.put (g) ![0, 0, 0] S1x128x512.size w0) ![1, 0, 0] S1x128x512.size w1) ![2, 0, 0]
        S1x128x512.size w2) ![3, 0, 0] S1x128x512.size w3) ![4, 0, 0] S1x128x512.size w4) ![5, 0, 0]
        S1x128x512.size w5) ![6, 0, 0] S1x128x512.size w6) ![7, 0, 0] S1x128x512.size w7) ![8, 0, 0]
        S1x128x512.size w8 :=
  funext fun y => vt_step 8 _ _ w8 (vt_step 7 _ _ w7 (vt_step 6 _ _ w6 (vt_step 5 _ _ w5 (vt_step 4 _ _ w4 (vt_step 3 _ _ w3
    (vt_step 2 _ _ w2 (vt_step 1 _ _ w1 (vt_step 0 _ _ w0 fun y h => absurd h (Nat.not_lt_zero _))))))))) y (y 0).isLt

theorem qt_base {α : Type} (f g : S128x1024.Idx → α) (w0 w1 : S128x512.Idx → α) :
    VecWindow.put (VecWindow.put f ![0, 0] S128x512.size w0) ![0, 512] S128x512.size w1
      = VecWindow.put (VecWindow.put g ![0, 0] S128x512.size w0) ![0, 512] S128x512.size w1 := by
  funext y
  simp only [VecWindow.put]
  have hy0 : (y 0).val < 128 := (y 0).isLt
  have hy1 : (y 1).val < 1024 := (y 1).isLt
  have key : ∀ k : ℕ, (¬ ∀ a, (![0, k] : Fin 2 → ℕ) a ≤ (y a).val ∧ (y a).val < (![0, k] : Fin 2 → ℕ) a + S128x512.size a) → ¬ (k ≤ (y 1).val ∧ (y 1).val < k + 512) := by
    intro k hk e
    refine hk fun a => ?_
    match a with
    | 0 => exact ⟨Nat.zero_le _, by show (y 0).val < 0 + 128; omega⟩
    | 1 => exact e
  split_ifs with h1 h0
  · rfl
  · rfl
  · have := key 512 h1; have := key 0 h0; omega

/-- The state before the loop: the scores of the first key block, and nothing accumulated. -/
def st0 (K : Vec F S4096x128 .bf16) (QT : Vec F S128x1024 .bf16) (PB : Vec F S512x1024 .bf16) : St F :=
  let K0 := VecWindow.window K ![0, 0] S512x128.size inb_S4096x128_S512x128_0_0
  ⟨k0_pay84 K0 QT, k0_pay85 K0 QT, PB, k0_pay78, k0_pay79, k0_pay81 k0_pay80, k0_pay82⟩

/-- The running sum and numerator after the last key block of an even query block, which is the diagonal one. -/
def evenTail (arg2 : BitVec 32) (V0 V1 : Vec F S1x128x512 .bf16) (s : St F) : Vec F S1x1024 .f32 × Vec F S128x1024 .f32 :=
  let acc1 := k0_pay45 V0 s.pb s.al s.acc
  let sm := k0_pay46 arg2 s.sa
  let mt := k0_pay47 arg2 s.sa
  (k0_pay51 sm mt s.m s.l, k0_pay100 (k0_pay55 (k0_pay54 mt s.m) acc1 V1 (k0_pay53 sm mt s.m)))

/-- The running sum, the numerator and the last probabilities after the last two key blocks of an odd query block. -/
def oddTail (arg2 : BitVec 32) (K1 : Vec F S512x128 .bf16) (QT : Vec F S128x1024 .bf16) (V0 V1 V2 : Vec F S1x128x512 .bf16) (s : St F) :
    Vec F S1x1024 .f32 × Vec F S128x1024 .f32 × Vec F S512x1024 .bf16 :=
  let sb := k0_pay57 K1 QT
  let acc1 := k0_pay59 V0 s.pb s.al s.acc
  let l1 := k0_pay63 s.sa s.ma s.m s.l
  let m1 := k0_pay64 s.ma s.m
  let acc2 := k0_pay68 (k0_pay67 V1) (k0_pay65 s.sa s.ma s.m) (k0_pay66 s.ma s.m) acc1
  let p := k0_pay72 arg2 sb m1
  (k0_pay101 p (k0_pay73 arg2 sb m1 l1), k0_pay105 (k0_pay104 (k0_pay71 arg2 sb m1)) acc2 V2 (k0_pay103 p), k0_pay103 p)

/-- The output block from the sums and the numerator. -/
def outOf (LAMP : Vec F S4x64 .f32) (SUBW : Vec F S1x128 .f32) (l : Vec F S1x1024 .f32) (acc : Vec F S128x1024 .f32) : Vec F S512x128 .bf16 :=
  k0_pay1 (k0_pay106 acc LAMP l) (k0_pay107 acc LAMP l) SUBW

theorem trips2 : ∀ i : grid0.Coords, (k0_t2_loop i).trips = 0 := by decide +kernel

section Body

variable (c : Dev nD) (i : grid0.Coords)
  (arg3 : Memref sig .tc .vmem S4x64 .f32) (harg3 : arg3.IsWhole)
  (arg4 : Memref sig .tc .vmem S1x128 .f32) (harg4 : arg4.IsWhole)
  (arg5 : Memref sig .tc .vmem S512x128 .bf16) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S512x128 .bf16) (harg8 : arg8.IsWhole)
  (arg9 : Memref sig .tc .vmem S9x128x512 .bf16) (harg9 : arg9.IsWhole)
  (arg10 : Memref sig .tc .vmem S128x1024 .bf16) (harg10 : arg10.IsWhole)
  (arg11 : Memref sig .tc .vmem S512x1024 .f32) (harg11 : arg11.IsWhole)
  (arg12 : Memref sig .tc .vmem S512x1024 .f32) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S512x1024 .bf16) (harg15 : arg15.IsWhole)
  (arg16 : Memref sig .tc .vmem S512x1024 .bf16) (harg16 : arg16.IsWhole)
  (arg17 : Memref sig .tc .vmem S1x1024 .f32) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S128x1024 .f32) (harg20 : arg20.IsWhole)

/-- The body at the first query block. -/
theorem bodyA_run (LAMP : Vec F S4x64 .f32) (SUBW : Vec F S1x128 .f32) (Q : Vec F S512x128 .bf16) (K V : Vec F S4096x128 .bf16) (q3 q4 q5 q6 q7 : PosShare TreeShare)
    (h1 : First i) (h2 : k0_cond2 i = 1#1) (h3 : ¬ k0_cond3 i = 1#1) :
    (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)
      ⊢ wp frame (wpE (defs₀ (F := F)) 𝒱₀ (c : Thread nD τ) none) Set.univ (cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (arg8.view.loc (c : Thread nD τ) ↦[arg8.view.set]{fullShare} arg8.view.rep (outOf LAMP SUBW (evenTail (BitVec.ofNat 32 (i 2).val) (VecWindow.window (vtOf V) (k0_off9 i) S1x128x512.size (k0_off9_inb i h2)) (VecWindow.window (vtOf V) (k0_off10 i) S1x128x512.size (k0_off10_inb i h2)) (stN i K (qtOf Q) (vtOf V) (st0 K (qtOf Q) k0_pay12) (k0_t1_loop i).trips)).1 (evenTail (BitVec.ofNat 32 (i 2).val) (VecWindow.window (vtOf V) (k0_off9 i) S1x128x512.size (k0_off9_inb i h2)) (VecWindow.window (vtOf V) (k0_off10 i) S1x128x512.size (k0_off10_inb i h2)) (stN i K (qtOf Q) (vtOf V) (st0 K (qtOf Q) k0_pay12) (k0_t1_loop i).trips)).2)) ∗ (arg9.view.loc (c : Thread nD τ) ↦[arg9.view.set]{fullShare} arg9.view.rep (vtOf V)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (arg16.view.loc (c : Thread nD τ) ↦[arg16.view.set]{fullShare} arg16.view.rep (stN i K (qtOf Q) (vtOf V) (st0 K (qtOf Q) k0_pay12) (k0_t1_loop i).trips).pb) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)) := by
  iintro ⟨H3, H4, H5, H6, H7, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩⟩
  sl_unfold [cc0_diff_attention]
  sl_exec
  have hqt : ∀ inb1 inb2, arg10.view.readCov (Val := Elt F) [⟨Rect.unit ![0, 512] S128x512.size inb1, k0_pay77 Q⟩, ⟨Rect.unit ![0, 0] S128x512.size inb2, k0_pay76 Q⟩]
      (Rect.unit ![0, 0] S128x1024.size inb_S128x1024_S128x1024_0_0).toLoadRect = qtOf Q := fun inb1 inb2 => by
    refine (View.readAt_full arg10.view _ _).trans ?_
    rw [View.read_writes_cons_put _ _ _ _ _ rfl, View.read_writes_cons_put _ _ _ _ _ rfl]
    exact qt_base _ _ _ _
  ihave H9 := (pointsTo_rep_of_read (c : Thread nD τ) arg9 _ fullShare ((vtOf V)) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.cst_85
      bodyA_run.sl.v0 bodyA_run.sl.v1 bodyA_run.sl.v116 bodyA_run.sl.v117 bodyA_run.sl.v118 bodyA_run.sl.v120
      bodyA_run.sl.v121 bodyA_run.sl.v123 bodyA_run.sl.v124 bodyA_run.sl.v125 bodyA_run.sl.v126 bodyA_run.sl.v127
      bodyA_run.sl.v128 bodyA_run.sl.v130 bodyA_run.sl.v131 bodyA_run.sl.v132 bodyA_run.sl.v133 bodyA_run.sl.v134
      bodyA_run.sl.v135 bodyA_run.sl.v137 bodyA_run.sl.v138 bodyA_run.sl.v139 bodyA_run.sl.v140 bodyA_run.sl.v141
      bodyA_run.sl.v142 bodyA_run.sl.v144 bodyA_run.sl.v145 bodyA_run.sl.v146 bodyA_run.sl.v147 bodyA_run.sl.v148
      bodyA_run.sl.v149 bodyA_run.sl.v151 bodyA_run.sl.v152 bodyA_run.sl.v153 bodyA_run.sl.v154 bodyA_run.sl.v155
      bodyA_run.sl.v156 bodyA_run.sl.v158 bodyA_run.sl.v159 bodyA_run.sl.v160 bodyA_run.sl.v161 bodyA_run.sl.v162
      bodyA_run.sl.v163 bodyA_run.sl.v165 bodyA_run.sl.v166 bodyA_run.sl.v167 bodyA_run.sl.v168 bodyA_run.sl.v169
      bodyA_run.sl.v170 bodyA_run.sl.v171 bodyA_run.sl.v172 bodyA_run.sl.v173 bodyA_run.sl.v174 bodyA_run.sl.v175
      bodyA_run.sl.v177 bodyA_run.sl.v178 bodyA_run.sl.v2 bodyA_run.sl.v42 bodyA_run.sl.v52 bodyA_run.sl.v53
      bodyA_run.sl.v55 bodyA_run.sl.v56 bodyA_run.sl.v57
    simp only [fun off inb => View.readAt_rep_unit arg7.view V (off := off) (size := S512x128.size) inb rfl inb]
    rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl]
    exact vt_base _ _ _ _ _ _ _ _ _ _ _)) $$ H9
  ihave H10 := (pointsTo_rep_of_read (c : Thread nD τ) arg10 _ fullShare (qtOf Q) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.cst_85
      bodyA_run.sl.v0 bodyA_run.sl.v1 bodyA_run.sl.v116 bodyA_run.sl.v117 bodyA_run.sl.v118 bodyA_run.sl.v120
      bodyA_run.sl.v121 bodyA_run.sl.v123 bodyA_run.sl.v124 bodyA_run.sl.v125 bodyA_run.sl.v126 bodyA_run.sl.v127
      bodyA_run.sl.v128 bodyA_run.sl.v130 bodyA_run.sl.v131 bodyA_run.sl.v132 bodyA_run.sl.v133 bodyA_run.sl.v134
      bodyA_run.sl.v135 bodyA_run.sl.v137 bodyA_run.sl.v138 bodyA_run.sl.v139 bodyA_run.sl.v140 bodyA_run.sl.v141
      bodyA_run.sl.v142 bodyA_run.sl.v144 bodyA_run.sl.v145 bodyA_run.sl.v146 bodyA_run.sl.v147 bodyA_run.sl.v148
      bodyA_run.sl.v149 bodyA_run.sl.v151 bodyA_run.sl.v152 bodyA_run.sl.v153 bodyA_run.sl.v154 bodyA_run.sl.v155
      bodyA_run.sl.v156 bodyA_run.sl.v158 bodyA_run.sl.v159 bodyA_run.sl.v160 bodyA_run.sl.v161 bodyA_run.sl.v162
      bodyA_run.sl.v163 bodyA_run.sl.v165 bodyA_run.sl.v166 bodyA_run.sl.v167 bodyA_run.sl.v168 bodyA_run.sl.v169
      bodyA_run.sl.v170 bodyA_run.sl.v171 bodyA_run.sl.v172 bodyA_run.sl.v173 bodyA_run.sl.v174 bodyA_run.sl.v175
      bodyA_run.sl.v177 bodyA_run.sl.v178 bodyA_run.sl.v2 bodyA_run.sl.v42 bodyA_run.sl.v52 bodyA_run.sl.v53
      bodyA_run.sl.v55 bodyA_run.sl.v56 bodyA_run.sl.v57
    simp only [View.readAt_rep_full arg5.view]
    rw [View.read_writes_cons_put _ _ _ _ _ rfl, View.read_writes_cons_put _ _ _ _ _ rfl]
    exact qt_base _ _ _ _)) $$ H10
  ihave H11 := (pointsTo_rep_of_read (c : Thread nD τ) arg11 _ fullShare ((st0 K (qtOf Q) k0_pay12).sa) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.cst_85
      bodyA_run.sl.v0 bodyA_run.sl.v1 bodyA_run.sl.v116 bodyA_run.sl.v117 bodyA_run.sl.v118 bodyA_run.sl.v120
      bodyA_run.sl.v121 bodyA_run.sl.v123 bodyA_run.sl.v124 bodyA_run.sl.v125 bodyA_run.sl.v126 bodyA_run.sl.v127
      bodyA_run.sl.v128 bodyA_run.sl.v130 bodyA_run.sl.v131 bodyA_run.sl.v132 bodyA_run.sl.v133 bodyA_run.sl.v134
      bodyA_run.sl.v135 bodyA_run.sl.v137 bodyA_run.sl.v138 bodyA_run.sl.v139 bodyA_run.sl.v140 bodyA_run.sl.v141
      bodyA_run.sl.v142 bodyA_run.sl.v144 bodyA_run.sl.v145 bodyA_run.sl.v146 bodyA_run.sl.v147 bodyA_run.sl.v148
      bodyA_run.sl.v149 bodyA_run.sl.v151 bodyA_run.sl.v152 bodyA_run.sl.v153 bodyA_run.sl.v154 bodyA_run.sl.v155
      bodyA_run.sl.v156 bodyA_run.sl.v158 bodyA_run.sl.v159 bodyA_run.sl.v160 bodyA_run.sl.v161 bodyA_run.sl.v162
      bodyA_run.sl.v163 bodyA_run.sl.v165 bodyA_run.sl.v166 bodyA_run.sl.v167 bodyA_run.sl.v168 bodyA_run.sl.v169
      bodyA_run.sl.v170 bodyA_run.sl.v171 bodyA_run.sl.v172 bodyA_run.sl.v173 bodyA_run.sl.v174 bodyA_run.sl.v175
      bodyA_run.sl.v177 bodyA_run.sl.v178 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H11
  ihave H13 := (pointsTo_rep_of_read (c : Thread nD τ) arg13 _ fullShare ((st0 K (qtOf Q) k0_pay12).ma) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.cst_85
      bodyA_run.sl.v0 bodyA_run.sl.v1 bodyA_run.sl.v116 bodyA_run.sl.v117 bodyA_run.sl.v118 bodyA_run.sl.v120
      bodyA_run.sl.v121 bodyA_run.sl.v123 bodyA_run.sl.v124 bodyA_run.sl.v125 bodyA_run.sl.v126 bodyA_run.sl.v127
      bodyA_run.sl.v128 bodyA_run.sl.v130 bodyA_run.sl.v131 bodyA_run.sl.v132 bodyA_run.sl.v133 bodyA_run.sl.v134
      bodyA_run.sl.v135 bodyA_run.sl.v137 bodyA_run.sl.v138 bodyA_run.sl.v139 bodyA_run.sl.v140 bodyA_run.sl.v141
      bodyA_run.sl.v142 bodyA_run.sl.v144 bodyA_run.sl.v145 bodyA_run.sl.v146 bodyA_run.sl.v147 bodyA_run.sl.v148
      bodyA_run.sl.v149 bodyA_run.sl.v151 bodyA_run.sl.v152 bodyA_run.sl.v153 bodyA_run.sl.v154 bodyA_run.sl.v155
      bodyA_run.sl.v156 bodyA_run.sl.v158 bodyA_run.sl.v159 bodyA_run.sl.v160 bodyA_run.sl.v161 bodyA_run.sl.v162
      bodyA_run.sl.v163 bodyA_run.sl.v165 bodyA_run.sl.v166 bodyA_run.sl.v167 bodyA_run.sl.v168 bodyA_run.sl.v169
      bodyA_run.sl.v170 bodyA_run.sl.v171 bodyA_run.sl.v172 bodyA_run.sl.v173 bodyA_run.sl.v174 bodyA_run.sl.v175
      bodyA_run.sl.v177 bodyA_run.sl.v178 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    simp only [st0, k0_pay85, k0_pay83])) $$ H13
  ihave H17 := (pointsTo_rep_of_read (c : Thread nD τ) arg17 _ fullShare ((st0 K (qtOf Q) k0_pay12).m) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.cst_85
      bodyA_run.sl.v0 bodyA_run.sl.v1 bodyA_run.sl.v116 bodyA_run.sl.v117 bodyA_run.sl.v118 bodyA_run.sl.v120
      bodyA_run.sl.v121 bodyA_run.sl.v123 bodyA_run.sl.v124 bodyA_run.sl.v125 bodyA_run.sl.v126 bodyA_run.sl.v127
      bodyA_run.sl.v128 bodyA_run.sl.v130 bodyA_run.sl.v131 bodyA_run.sl.v132 bodyA_run.sl.v133 bodyA_run.sl.v134
      bodyA_run.sl.v135 bodyA_run.sl.v137 bodyA_run.sl.v138 bodyA_run.sl.v139 bodyA_run.sl.v140 bodyA_run.sl.v141
      bodyA_run.sl.v142 bodyA_run.sl.v144 bodyA_run.sl.v145 bodyA_run.sl.v146 bodyA_run.sl.v147 bodyA_run.sl.v148
      bodyA_run.sl.v149 bodyA_run.sl.v151 bodyA_run.sl.v152 bodyA_run.sl.v153 bodyA_run.sl.v154 bodyA_run.sl.v155
      bodyA_run.sl.v156 bodyA_run.sl.v158 bodyA_run.sl.v159 bodyA_run.sl.v160 bodyA_run.sl.v161 bodyA_run.sl.v162
      bodyA_run.sl.v163 bodyA_run.sl.v165 bodyA_run.sl.v166 bodyA_run.sl.v167 bodyA_run.sl.v168 bodyA_run.sl.v169
      bodyA_run.sl.v170 bodyA_run.sl.v171 bodyA_run.sl.v172 bodyA_run.sl.v173 bodyA_run.sl.v174 bodyA_run.sl.v175
      bodyA_run.sl.v177 bodyA_run.sl.v178 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H17
  ihave H18 := (pointsTo_rep_of_read (c : Thread nD τ) arg18 _ fullShare ((st0 K (qtOf Q) k0_pay12).l) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.cst_85
      bodyA_run.sl.v0 bodyA_run.sl.v1 bodyA_run.sl.v116 bodyA_run.sl.v117 bodyA_run.sl.v118 bodyA_run.sl.v120
      bodyA_run.sl.v121 bodyA_run.sl.v123 bodyA_run.sl.v124 bodyA_run.sl.v125 bodyA_run.sl.v126 bodyA_run.sl.v127
      bodyA_run.sl.v128 bodyA_run.sl.v130 bodyA_run.sl.v131 bodyA_run.sl.v132 bodyA_run.sl.v133 bodyA_run.sl.v134
      bodyA_run.sl.v135 bodyA_run.sl.v137 bodyA_run.sl.v138 bodyA_run.sl.v139 bodyA_run.sl.v140 bodyA_run.sl.v141
      bodyA_run.sl.v142 bodyA_run.sl.v144 bodyA_run.sl.v145 bodyA_run.sl.v146 bodyA_run.sl.v147 bodyA_run.sl.v148
      bodyA_run.sl.v149 bodyA_run.sl.v151 bodyA_run.sl.v152 bodyA_run.sl.v153 bodyA_run.sl.v154 bodyA_run.sl.v155
      bodyA_run.sl.v156 bodyA_run.sl.v158 bodyA_run.sl.v159 bodyA_run.sl.v160 bodyA_run.sl.v161 bodyA_run.sl.v162
      bodyA_run.sl.v163 bodyA_run.sl.v165 bodyA_run.sl.v166 bodyA_run.sl.v167 bodyA_run.sl.v168 bodyA_run.sl.v169
      bodyA_run.sl.v170 bodyA_run.sl.v171 bodyA_run.sl.v172 bodyA_run.sl.v173 bodyA_run.sl.v174 bodyA_run.sl.v175
      bodyA_run.sl.v177 bodyA_run.sl.v178 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H18
  ihave H19 := (pointsTo_rep_of_read (c : Thread nD τ) arg19 _ fullShare ((st0 K (qtOf Q) k0_pay12).al) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.cst_85
      bodyA_run.sl.v0 bodyA_run.sl.v1 bodyA_run.sl.v116 bodyA_run.sl.v117 bodyA_run.sl.v118 bodyA_run.sl.v120
      bodyA_run.sl.v121 bodyA_run.sl.v123 bodyA_run.sl.v124 bodyA_run.sl.v125 bodyA_run.sl.v126 bodyA_run.sl.v127
      bodyA_run.sl.v128 bodyA_run.sl.v130 bodyA_run.sl.v131 bodyA_run.sl.v132 bodyA_run.sl.v133 bodyA_run.sl.v134
      bodyA_run.sl.v135 bodyA_run.sl.v137 bodyA_run.sl.v138 bodyA_run.sl.v139 bodyA_run.sl.v140 bodyA_run.sl.v141
      bodyA_run.sl.v142 bodyA_run.sl.v144 bodyA_run.sl.v145 bodyA_run.sl.v146 bodyA_run.sl.v147 bodyA_run.sl.v148
      bodyA_run.sl.v149 bodyA_run.sl.v151 bodyA_run.sl.v152 bodyA_run.sl.v153 bodyA_run.sl.v154 bodyA_run.sl.v155
      bodyA_run.sl.v156 bodyA_run.sl.v158 bodyA_run.sl.v159 bodyA_run.sl.v160 bodyA_run.sl.v161 bodyA_run.sl.v162
      bodyA_run.sl.v163 bodyA_run.sl.v165 bodyA_run.sl.v166 bodyA_run.sl.v167 bodyA_run.sl.v168 bodyA_run.sl.v169
      bodyA_run.sl.v170 bodyA_run.sl.v171 bodyA_run.sl.v172 bodyA_run.sl.v173 bodyA_run.sl.v174 bodyA_run.sl.v175
      bodyA_run.sl.v177 bodyA_run.sl.v178 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H19
  ihave H20 := (pointsTo_rep_of_read (c : Thread nD τ) arg20 _ fullShare ((st0 K (qtOf Q) k0_pay12).acc) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.cst_85
      bodyA_run.sl.v0 bodyA_run.sl.v1 bodyA_run.sl.v116 bodyA_run.sl.v117 bodyA_run.sl.v118 bodyA_run.sl.v120
      bodyA_run.sl.v121 bodyA_run.sl.v123 bodyA_run.sl.v124 bodyA_run.sl.v125 bodyA_run.sl.v126 bodyA_run.sl.v127
      bodyA_run.sl.v128 bodyA_run.sl.v130 bodyA_run.sl.v131 bodyA_run.sl.v132 bodyA_run.sl.v133 bodyA_run.sl.v134
      bodyA_run.sl.v135 bodyA_run.sl.v137 bodyA_run.sl.v138 bodyA_run.sl.v139 bodyA_run.sl.v140 bodyA_run.sl.v141
      bodyA_run.sl.v142 bodyA_run.sl.v144 bodyA_run.sl.v145 bodyA_run.sl.v146 bodyA_run.sl.v147 bodyA_run.sl.v148
      bodyA_run.sl.v149 bodyA_run.sl.v151 bodyA_run.sl.v152 bodyA_run.sl.v153 bodyA_run.sl.v154 bodyA_run.sl.v155
      bodyA_run.sl.v156 bodyA_run.sl.v158 bodyA_run.sl.v159 bodyA_run.sl.v160 bodyA_run.sl.v161 bodyA_run.sl.v162
      bodyA_run.sl.v163 bodyA_run.sl.v165 bodyA_run.sl.v166 bodyA_run.sl.v167 bodyA_run.sl.v168 bodyA_run.sl.v169
      bodyA_run.sl.v170 bodyA_run.sl.v171 bodyA_run.sl.v172 bodyA_run.sl.v173 bodyA_run.sl.v174 bodyA_run.sl.v175
      bodyA_run.sl.v177 bodyA_run.sl.v178 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H20
  ihave H16 := (pointsTo_rep_of_read (c : Thread nD τ) arg16 _ fullShare ((st0 K (qtOf Q) k0_pay12).pb) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.cst_85
      bodyA_run.sl.v0 bodyA_run.sl.v1 bodyA_run.sl.v116 bodyA_run.sl.v117 bodyA_run.sl.v118 bodyA_run.sl.v120
      bodyA_run.sl.v121 bodyA_run.sl.v123 bodyA_run.sl.v124 bodyA_run.sl.v125 bodyA_run.sl.v126 bodyA_run.sl.v127
      bodyA_run.sl.v128 bodyA_run.sl.v130 bodyA_run.sl.v131 bodyA_run.sl.v132 bodyA_run.sl.v133 bodyA_run.sl.v134
      bodyA_run.sl.v135 bodyA_run.sl.v137 bodyA_run.sl.v138 bodyA_run.sl.v139 bodyA_run.sl.v140 bodyA_run.sl.v141
      bodyA_run.sl.v142 bodyA_run.sl.v144 bodyA_run.sl.v145 bodyA_run.sl.v146 bodyA_run.sl.v147 bodyA_run.sl.v148
      bodyA_run.sl.v149 bodyA_run.sl.v151 bodyA_run.sl.v152 bodyA_run.sl.v153 bodyA_run.sl.v154 bodyA_run.sl.v155
      bodyA_run.sl.v156 bodyA_run.sl.v158 bodyA_run.sl.v159 bodyA_run.sl.v160 bodyA_run.sl.v161 bodyA_run.sl.v162
      bodyA_run.sl.v163 bodyA_run.sl.v165 bodyA_run.sl.v166 bodyA_run.sl.v167 bodyA_run.sl.v168 bodyA_run.sl.v169
      bodyA_run.sl.v170 bodyA_run.sl.v171 bodyA_run.sl.v172 bodyA_run.sl.v173 bodyA_run.sl.v174 bodyA_run.sl.v175
      bodyA_run.sl.v177 bodyA_run.sl.v178 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H16
  sl_for (fun k _ => Res c arg6 arg9 arg10 arg11 arg12 arg13 arg14 arg15 arg16 arg17 arg18 arg19 arg20 K (qtOf Q) (vtOf V) q6 (stN i K (qtOf Q) (vtOf V) (st0 K (qtOf Q) k0_pay12) k)) $$ [H6 H10 H9 H11 H12 H13 H14 H15 H16 H17 H18 H19 H20]
  · intro k x
    exact loop_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ K (qtOf Q) (vtOf V) q6 _ k x
  · unfold Res
    isplitl [H6]
    · iexact H6
    isplitl [H10]
    · iexact H10
    isplitl [H9]
    · iexact H9
    isplitl [H11]
    · iexact H11
    isplitl [H12]
    · iexists _; iexact H12
    isplitl [H13]
    · iexact H13
    isplitl [H14]
    · iexists _; iexact H14
    isplitl [H15]
    · iexists _; iexact H15
    isplitl [H16]
    · iexact H16
    isplitl [H17]
    · iexact H17
    isplitl [H18]
    · iexact H18
    isplitl [H19]
    · iexact H19
    iexact H20
  generalize hS : (stN i K (qtOf Q) (vtOf V) (st0 K (qtOf Q) k0_pay12) (k0_t1_loop i).trips) = s
  have hS' : stN i K (qtOf Q) (vtOf V) (st0 K (qtOf Q) k0_pay12) (k0_t1_loop i).trips = s := hS
  iintro %x HR
  sl_for0 (trips2 i)
  unfold Res
  icases HR with ⟨H6, H10, H9, H11, ⟨%g12', H12⟩, H13, ⟨%g14', H14⟩, ⟨%g15', H15⟩, H16, H17, H18, H19, H20⟩
  sl_exec
  sl_step
  ihave H8 := (pointsTo_rep_of_read (c : Thread nD τ) arg8 _ fullShare (outOf LAMP SUBW (evenTail (BitVec.ofNat 32 (i 2).val) (VecWindow.window (vtOf V) (k0_off9 i) S1x128x512.size (k0_off9_inb i h2)) (VecWindow.window (vtOf V) (k0_off10 i) S1x128x512.size (k0_off10_inb i h2)) s).1 (evenTail (BitVec.ofNat 32 (i 2).val) (VecWindow.window (vtOf V) (k0_off9 i) S1x128x512.size (k0_off9_inb i h2)) (VecWindow.window (vtOf V) (k0_off10 i) S1x128x512.size (k0_off10_inb i h2)) s).2) (by
    delta bodyA_run.sl.H15_1 bodyA_run.sl.H18_1_1 bodyA_run.sl.H19_1_1 bodyA_run.sl.H20_1_1 bodyA_run.sl.H20_2
      bodyA_run.sl.cst_82 bodyA_run.sl.cst_99 bodyA_run.sl.r bodyA_run.sl.r_1 bodyA_run.sl.r_2 bodyA_run.sl.r_3
      bodyA_run.sl.r_4 bodyA_run.sl.v150 bodyA_run.sl.v151_1 bodyA_run.sl.v152_1 bodyA_run.sl.v153_1
      bodyA_run.sl.v154_1 bodyA_run.sl.v155_1 bodyA_run.sl.v157 bodyA_run.sl.v158_1 bodyA_run.sl.v159_1
      bodyA_run.sl.v160_1 bodyA_run.sl.v162_1 bodyA_run.sl.v163_1 bodyA_run.sl.v165_1 bodyA_run.sl.v166_1
      bodyA_run.sl.v167_1 bodyA_run.sl.v169_1 bodyA_run.sl.v170_1 bodyA_run.sl.v172_1 bodyA_run.sl.v173_1
      bodyA_run.sl.v174_1 bodyA_run.sl.v175_1 bodyA_run.sl.v176 bodyA_run.sl.v177_1 bodyA_run.sl.v180
      bodyA_run.sl.v181 bodyA_run.sl.v182 bodyA_run.sl.v183 bodyA_run.sl.v66 bodyA_run.sl.v83
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, fun off inb =>
      View.readAt_rep_unit arg9.view (vtOf V) (off := off) (size := S1x128x512.size) inb rfl inb]
    dsimp only [outOf, evenTail, oddTail]
    rfl)) $$ H8
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexact H16
  isplitl [H17]
  · iexists _; iexact H17
  isplitl [H18]
  · iexists _; iexact H18
  isplitl [H19]
  · iexists _; iexact H19
  iexists _; iexact H20

/-- The body at a later query block with an even number. -/
theorem bodyB_run (LAMP : Vec F S4x64 .f32) (SUBW : Vec F S1x128 .f32) (Q : Vec F S512x128 .bf16) (K V : Vec F S4096x128 .bf16) (q3 q4 q5 q6 q7 : PosShare TreeShare) (VT : Vec F S9x128x512 .bf16) (PB : Vec F S512x1024 .bf16)
    (h1 : ¬ First i) (h2 : k0_cond2 i = 1#1) (h3 : ¬ k0_cond3 i = 1#1) :
    (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (∃ g, (arg8.view.loc (c : Thread nD τ) ↦[arg8.view.set]{fullShare} g)) ∗ (arg9.view.loc (c : Thread nD τ) ↦[arg9.view.set]{fullShare} arg9.view.rep VT) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (arg16.view.loc (c : Thread nD τ) ↦[arg16.view.set]{fullShare} arg16.view.rep PB) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)
      ⊢ wp frame (wpE (defs₀ (F := F)) 𝒱₀ (c : Thread nD τ) none) Set.univ (cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (arg8.view.loc (c : Thread nD τ) ↦[arg8.view.set]{fullShare} arg8.view.rep (outOf LAMP SUBW (evenTail (BitVec.ofNat 32 (i 2).val) (VecWindow.window VT (k0_off9 i) S1x128x512.size (k0_off9_inb i h2)) (VecWindow.window VT (k0_off10 i) S1x128x512.size (k0_off10_inb i h2)) (stN i K (qtOf Q) VT (st0 K (qtOf Q) PB) (k0_t1_loop i).trips)).1 (evenTail (BitVec.ofNat 32 (i 2).val) (VecWindow.window VT (k0_off9 i) S1x128x512.size (k0_off9_inb i h2)) (VecWindow.window VT (k0_off10 i) S1x128x512.size (k0_off10_inb i h2)) (stN i K (qtOf Q) VT (st0 K (qtOf Q) PB) (k0_t1_loop i).trips)).2)) ∗ (arg9.view.loc (c : Thread nD τ) ↦[arg9.view.set]{fullShare} arg9.view.rep VT) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (arg16.view.loc (c : Thread nD τ) ↦[arg16.view.set]{fullShare} arg16.view.rep (stN i K (qtOf Q) VT (st0 K (qtOf Q) PB) (k0_t1_loop i).trips).pb) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)) := by
  iintro ⟨H3, H4, H5, H6, H7, ⟨%g8, H8⟩, H9, ⟨%g10, H10⟩, ⟨%g11, H11⟩, ⟨%g12, H12⟩, ⟨%g13, H13⟩, ⟨%g14, H14⟩, ⟨%g15, H15⟩, H16, ⟨%g17, H17⟩, ⟨%g18, H18⟩, ⟨%g19, H19⟩, ⟨%g20, H20⟩⟩
  sl_unfold [cc0_diff_attention]
  sl_exec
  have hqt : ∀ inb1 inb2, arg10.view.readCov (Val := Elt F) [⟨Rect.unit ![0, 512] S128x512.size inb1, k0_pay77 Q⟩, ⟨Rect.unit ![0, 0] S128x512.size inb2, k0_pay76 Q⟩]
      (Rect.unit ![0, 0] S128x1024.size inb_S128x1024_S128x1024_0_0).toLoadRect = qtOf Q := fun inb1 inb2 => by
    refine (View.readAt_full arg10.view _ _).trans ?_
    rw [View.read_writes_cons_put _ _ _ _ _ rfl, View.read_writes_cons_put _ _ _ _ _ rfl]
    exact qt_base _ _ _ _
  ihave H10 := (pointsTo_rep_of_read (c : Thread nD τ) arg10 _ fullShare (qtOf Q) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.readAt_rep_full arg5.view]
    rw [View.read_writes_cons_put _ _ _ _ _ rfl, View.read_writes_cons_put _ _ _ _ _ rfl]
    exact qt_base _ _ _ _)) $$ H10
  ihave H11 := (pointsTo_rep_of_read (c : Thread nD τ) arg11 _ fullShare ((st0 K (qtOf Q) PB).sa) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H11
  ihave H13 := (pointsTo_rep_of_read (c : Thread nD τ) arg13 _ fullShare ((st0 K (qtOf Q) PB).ma) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    simp only [st0, k0_pay85, k0_pay83])) $$ H13
  ihave H17 := (pointsTo_rep_of_read (c : Thread nD τ) arg17 _ fullShare ((st0 K (qtOf Q) PB).m) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H17
  ihave H18 := (pointsTo_rep_of_read (c : Thread nD τ) arg18 _ fullShare ((st0 K (qtOf Q) PB).l) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H18
  ihave H19 := (pointsTo_rep_of_read (c : Thread nD τ) arg19 _ fullShare ((st0 K (qtOf Q) PB).al) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H19
  ihave H20 := (pointsTo_rep_of_read (c : Thread nD τ) arg20 _ fullShare ((st0 K (qtOf Q) PB).acc) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H20
  sl_for (fun k _ => Res c arg6 arg9 arg10 arg11 arg12 arg13 arg14 arg15 arg16 arg17 arg18 arg19 arg20 K (qtOf Q) VT q6 (stN i K (qtOf Q) VT (st0 K (qtOf Q) PB) k)) $$ [H6 H10 H9 H11 H12 H13 H14 H15 H16 H17 H18 H19 H20]
  · intro k x
    exact loop_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ K (qtOf Q) VT q6 _ k x
  · unfold Res
    isplitl [H6]
    · iexact H6
    isplitl [H10]
    · iexact H10
    isplitl [H9]
    · iexact H9
    isplitl [H11]
    · iexact H11
    isplitl [H12]
    · iexists _; iexact H12
    isplitl [H13]
    · iexact H13
    isplitl [H14]
    · iexists _; iexact H14
    isplitl [H15]
    · iexists _; iexact H15
    isplitl [H16]
    · iexact H16
    isplitl [H17]
    · iexact H17
    isplitl [H18]
    · iexact H18
    isplitl [H19]
    · iexact H19
    iexact H20
  generalize hS : (stN i K (qtOf Q) VT (st0 K (qtOf Q) PB) (k0_t1_loop i).trips) = s
  have hS' : stN i K (qtOf Q) VT (st0 K (qtOf Q) PB) (k0_t1_loop i).trips = s := hS
  iintro %x HR
  sl_for0 (trips2 i)
  unfold Res
  icases HR with ⟨H6, H10, H9, H11, ⟨%g12', H12⟩, H13, ⟨%g14', H14⟩, ⟨%g15', H15⟩, H16, H17, H18, H19, H20⟩
  sl_exec
  sl_step
  ihave H8 := (pointsTo_rep_of_read (c : Thread nD τ) arg8 _ fullShare (outOf LAMP SUBW (evenTail (BitVec.ofNat 32 (i 2).val) (VecWindow.window VT (k0_off9 i) S1x128x512.size (k0_off9_inb i h2)) (VecWindow.window VT (k0_off10 i) S1x128x512.size (k0_off10_inb i h2)) s).1 (evenTail (BitVec.ofNat 32 (i 2).val) (VecWindow.window VT (k0_off9 i) S1x128x512.size (k0_off9_inb i h2)) (VecWindow.window VT (k0_off10 i) S1x128x512.size (k0_off10_inb i h2)) s).2) (by
    delta bodyB_run.sl.H15_1 bodyB_run.sl.H18_1_1 bodyB_run.sl.H19_1_1 bodyB_run.sl.H20_1_1 bodyB_run.sl.H20_2
      bodyB_run.sl.cst_82 bodyB_run.sl.cst_99 bodyB_run.sl.r bodyB_run.sl.r_1 bodyB_run.sl.r_2 bodyB_run.sl.r_3
      bodyB_run.sl.r_4 bodyB_run.sl.v150 bodyB_run.sl.v151 bodyB_run.sl.v152 bodyB_run.sl.v153 bodyB_run.sl.v154
      bodyB_run.sl.v155 bodyB_run.sl.v157 bodyB_run.sl.v158 bodyB_run.sl.v159 bodyB_run.sl.v160 bodyB_run.sl.v162
      bodyB_run.sl.v163 bodyB_run.sl.v165 bodyB_run.sl.v166 bodyB_run.sl.v167 bodyB_run.sl.v169 bodyB_run.sl.v170
      bodyB_run.sl.v172 bodyB_run.sl.v173 bodyB_run.sl.v174 bodyB_run.sl.v175 bodyB_run.sl.v176 bodyB_run.sl.v177
      bodyB_run.sl.v180 bodyB_run.sl.v181 bodyB_run.sl.v182 bodyB_run.sl.v183 bodyB_run.sl.v66 bodyB_run.sl.v83
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, fun off inb =>
      View.readAt_rep_unit arg9.view VT (off := off) (size := S1x128x512.size) inb rfl inb]
    dsimp only [outOf, evenTail, oddTail]
    rfl)) $$ H8
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexact H16
  isplitl [H17]
  · iexists _; iexact H17
  isplitl [H18]
  · iexists _; iexact H18
  isplitl [H19]
  · iexists _; iexact H19
  iexists _; iexact H20

/-- The body at a query block with an odd number. -/
theorem bodyC_run (LAMP : Vec F S4x64 .f32) (SUBW : Vec F S1x128 .f32) (Q : Vec F S512x128 .bf16) (K V : Vec F S4096x128 .bf16) (q3 q4 q5 q6 q7 : PosShare TreeShare) (VT : Vec F S9x128x512 .bf16) (PB : Vec F S512x1024 .bf16)
    (h1 : ¬ First i) (h2 : ¬ k0_cond2 i = 1#1) (h3 : k0_cond3 i = 1#1) :
    (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (∃ g, (arg8.view.loc (c : Thread nD τ) ↦[arg8.view.set]{fullShare} g)) ∗ (arg9.view.loc (c : Thread nD τ) ↦[arg9.view.set]{fullShare} arg9.view.rep VT) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (arg16.view.loc (c : Thread nD τ) ↦[arg16.view.set]{fullShare} arg16.view.rep PB) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)
      ⊢ wp frame (wpE (defs₀ (F := F)) 𝒱₀ (c : Thread nD τ) none) Set.univ (cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (arg8.view.loc (c : Thread nD τ) ↦[arg8.view.set]{fullShare} arg8.view.rep (outOf LAMP SUBW (oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) (stN i K (qtOf Q) VT (st0 K (qtOf Q) PB) (k0_t1_loop i).trips)).1 (oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) (stN i K (qtOf Q) VT (st0 K (qtOf Q) PB) (k0_t1_loop i).trips)).2.1)) ∗ (arg9.view.loc (c : Thread nD τ) ↦[arg9.view.set]{fullShare} arg9.view.rep VT) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (arg16.view.loc (c : Thread nD τ) ↦[arg16.view.set]{fullShare} arg16.view.rep (oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) (stN i K (qtOf Q) VT (st0 K (qtOf Q) PB) (k0_t1_loop i).trips)).2.2) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)) := by
  iintro ⟨H3, H4, H5, H6, H7, ⟨%g8, H8⟩, H9, ⟨%g10, H10⟩, ⟨%g11, H11⟩, ⟨%g12, H12⟩, ⟨%g13, H13⟩, ⟨%g14, H14⟩, ⟨%g15, H15⟩, H16, ⟨%g17, H17⟩, ⟨%g18, H18⟩, ⟨%g19, H19⟩, ⟨%g20, H20⟩⟩
  sl_unfold [cc0_diff_attention]
  sl_exec
  have hqt : ∀ inb1 inb2, arg10.view.readCov (Val := Elt F) [⟨Rect.unit ![0, 512] S128x512.size inb1, k0_pay77 Q⟩, ⟨Rect.unit ![0, 0] S128x512.size inb2, k0_pay76 Q⟩]
      (Rect.unit ![0, 0] S128x1024.size inb_S128x1024_S128x1024_0_0).toLoadRect = qtOf Q := fun inb1 inb2 => by
    refine (View.readAt_full arg10.view _ _).trans ?_
    rw [View.read_writes_cons_put _ _ _ _ _ rfl, View.read_writes_cons_put _ _ _ _ _ rfl]
    exact qt_base _ _ _ _
  ihave H10 := (pointsTo_rep_of_read (c : Thread nD τ) arg10 _ fullShare (qtOf Q) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.readAt_rep_full arg5.view]
    rw [View.read_writes_cons_put _ _ _ _ _ rfl, View.read_writes_cons_put _ _ _ _ _ rfl]
    exact qt_base _ _ _ _)) $$ H10
  ihave H11 := (pointsTo_rep_of_read (c : Thread nD τ) arg11 _ fullShare ((st0 K (qtOf Q) PB).sa) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H11
  ihave H13 := (pointsTo_rep_of_read (c : Thread nD τ) arg13 _ fullShare ((st0 K (qtOf Q) PB).ma) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    simp only [st0, k0_pay85, k0_pay83])) $$ H13
  ihave H17 := (pointsTo_rep_of_read (c : Thread nD τ) arg17 _ fullShare ((st0 K (qtOf Q) PB).m) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H17
  ihave H18 := (pointsTo_rep_of_read (c : Thread nD τ) arg18 _ fullShare ((st0 K (qtOf Q) PB).l) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H18
  ihave H19 := (pointsTo_rep_of_read (c : Thread nD τ) arg19 _ fullShare ((st0 K (qtOf Q) PB).al) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H19
  ihave H20 := (pointsTo_rep_of_read (c : Thread nD τ) arg20 _ fullShare ((st0 K (qtOf Q) PB).acc) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first
      | (dsimp only [st0]; done)
      | (dsimp only [st0]; rfl))) $$ H20
  sl_for (fun k _ => Res c arg6 arg9 arg10 arg11 arg12 arg13 arg14 arg15 arg16 arg17 arg18 arg19 arg20 K (qtOf Q) VT q6 (stN i K (qtOf Q) VT (st0 K (qtOf Q) PB) k)) $$ [H6 H10 H9 H11 H12 H13 H14 H15 H16 H17 H18 H19 H20]
  · intro k x
    exact loop_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ K (qtOf Q) VT q6 _ k x
  · unfold Res
    isplitl [H6]
    · iexact H6
    isplitl [H10]
    · iexact H10
    isplitl [H9]
    · iexact H9
    isplitl [H11]
    · iexact H11
    isplitl [H12]
    · iexists _; iexact H12
    isplitl [H13]
    · iexact H13
    isplitl [H14]
    · iexists _; iexact H14
    isplitl [H15]
    · iexists _; iexact H15
    isplitl [H16]
    · iexact H16
    isplitl [H17]
    · iexact H17
    isplitl [H18]
    · iexact H18
    isplitl [H19]
    · iexact H19
    iexact H20
  generalize hS : (stN i K (qtOf Q) VT (st0 K (qtOf Q) PB) (k0_t1_loop i).trips) = s
  have hS' : stN i K (qtOf Q) VT (st0 K (qtOf Q) PB) (k0_t1_loop i).trips = s := hS
  iintro %x HR
  sl_for0 (trips2 i)
  unfold Res
  icases HR with ⟨H6, H10, H9, H11, ⟨%g12', H12⟩, H13, ⟨%g14', H14⟩, ⟨%g15', H15⟩, H16, H17, H18, H19, H20⟩
  sl_exec
  sl_step
  ihave H8 := (pointsTo_rep_of_read (c : Thread nD τ) arg8 _ fullShare (outOf LAMP SUBW (oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) s).1 (oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) s).2.1) (by
    delta bodyC_run.sl.H12_1 bodyC_run.sl.H15_1 bodyC_run.sl.H16_1 bodyC_run.sl.H17_1_1 bodyC_run.sl.H18_1_1
      bodyC_run.sl.H18_2 bodyC_run.sl.H19_1_1 bodyC_run.sl.H19_2 bodyC_run.sl.H20_1_1 bodyC_run.sl.H20_2
      bodyC_run.sl.H20_3 bodyC_run.sl.cst_63 bodyC_run.sl.cst_66 bodyC_run.sl.cst_75 bodyC_run.sl.cst_90
      bodyC_run.sl.r bodyC_run.sl.r_1 bodyC_run.sl.r_2 bodyC_run.sl.r_3 bodyC_run.sl.r_4 bodyC_run.sl.r_5
      bodyC_run.sl.v115 bodyC_run.sl.v116 bodyC_run.sl.v117 bodyC_run.sl.v119 bodyC_run.sl.v122 bodyC_run.sl.v124
      bodyC_run.sl.v125 bodyC_run.sl.v126 bodyC_run.sl.v127 bodyC_run.sl.v129 bodyC_run.sl.v130 bodyC_run.sl.v131
      bodyC_run.sl.v132 bodyC_run.sl.v133 bodyC_run.sl.v134 bodyC_run.sl.v136 bodyC_run.sl.v138 bodyC_run.sl.v141
      bodyC_run.sl.v142 bodyC_run.sl.v143 bodyC_run.sl.v145 bodyC_run.sl.v146 bodyC_run.sl.v150 bodyC_run.sl.v151
      bodyC_run.sl.v152 bodyC_run.sl.v153 bodyC_run.sl.v154 bodyC_run.sl.v155 bodyC_run.sl.v157 bodyC_run.sl.v158
      bodyC_run.sl.v159 bodyC_run.sl.v160 bodyC_run.sl.v162 bodyC_run.sl.v163 bodyC_run.sl.v165 bodyC_run.sl.v166
      bodyC_run.sl.v167 bodyC_run.sl.v169 bodyC_run.sl.v170 bodyC_run.sl.v172 bodyC_run.sl.v173 bodyC_run.sl.v174
      bodyC_run.sl.v176 bodyC_run.sl.v177 bodyC_run.sl.v179 bodyC_run.sl.v180 bodyC_run.sl.v182 bodyC_run.sl.v183
      bodyC_run.sl.v190 bodyC_run.sl.v208 bodyC_run.sl.v215 bodyC_run.sl.v233 bodyC_run.sl.v234 bodyC_run.sl.v240
      bodyC_run.sl.v66 bodyC_run.sl.v83
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, fun off inb =>
      View.readAt_rep_unit arg9.view VT (off := off) (size := S1x128x512.size) inb rfl inb]
    dsimp only [outOf, evenTail, oddTail]
    rfl)) $$ H8
  ihave H16 := (pointsTo_rep_of_read (c : Thread nD τ) arg16 _ fullShare ((oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) s).2.2) (by
    delta bodyC_run.sl.H12_1 bodyC_run.sl.H15_1 bodyC_run.sl.H16_1 bodyC_run.sl.H17_1_1 bodyC_run.sl.H18_1_1
      bodyC_run.sl.H18_2 bodyC_run.sl.H19_1_1 bodyC_run.sl.H19_2 bodyC_run.sl.H20_1_1 bodyC_run.sl.H20_2
      bodyC_run.sl.H20_3 bodyC_run.sl.cst_63 bodyC_run.sl.cst_66 bodyC_run.sl.cst_75 bodyC_run.sl.cst_90
      bodyC_run.sl.r bodyC_run.sl.r_1 bodyC_run.sl.r_2 bodyC_run.sl.r_3 bodyC_run.sl.r_4 bodyC_run.sl.r_5
      bodyC_run.sl.v115 bodyC_run.sl.v116 bodyC_run.sl.v117 bodyC_run.sl.v119 bodyC_run.sl.v122 bodyC_run.sl.v124
      bodyC_run.sl.v125 bodyC_run.sl.v126 bodyC_run.sl.v127 bodyC_run.sl.v129 bodyC_run.sl.v130 bodyC_run.sl.v131
      bodyC_run.sl.v132 bodyC_run.sl.v133 bodyC_run.sl.v134 bodyC_run.sl.v136 bodyC_run.sl.v138 bodyC_run.sl.v141
      bodyC_run.sl.v142 bodyC_run.sl.v143 bodyC_run.sl.v145 bodyC_run.sl.v146 bodyC_run.sl.v150 bodyC_run.sl.v151
      bodyC_run.sl.v152 bodyC_run.sl.v153 bodyC_run.sl.v154 bodyC_run.sl.v155 bodyC_run.sl.v157 bodyC_run.sl.v158
      bodyC_run.sl.v159 bodyC_run.sl.v160 bodyC_run.sl.v162 bodyC_run.sl.v163 bodyC_run.sl.v165 bodyC_run.sl.v166
      bodyC_run.sl.v167 bodyC_run.sl.v169 bodyC_run.sl.v170 bodyC_run.sl.v172 bodyC_run.sl.v173 bodyC_run.sl.v174
      bodyC_run.sl.v176 bodyC_run.sl.v177 bodyC_run.sl.v179 bodyC_run.sl.v180 bodyC_run.sl.v182 bodyC_run.sl.v183
      bodyC_run.sl.v190 bodyC_run.sl.v208 bodyC_run.sl.v215 bodyC_run.sl.v233 bodyC_run.sl.v234 bodyC_run.sl.v240
      bodyC_run.sl.v66 bodyC_run.sl.v83
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, fun off inb =>
      View.readAt_rep_unit arg9.view VT (off := off) (size := S1x128x512.size) inb rfl inb]
    dsimp only [oddTail]
    rfl)) $$ H16
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexact H16
  isplitl [H17]
  · iexists _; iexact H17
  isplitl [H18]
  · iexists _; iexact H18
  isplitl [H19]
  · iexists _; iexact H19
  iexists _; iexact H20

end Body

end Cert.Proof.KernelIdeal

end
-- ==== Proof.KernelIdealRun.lean ====
/-
  The attention kernel's run: what the pipeline's buffers hold at each grid point, the body's obligation there, and
  the run of the whole program with the contents of its output array.
-/
module

public import proofs.«01_k».proof.Proof.KernelIdealBody
public import proofs.«01_k».proof.Proof.Gen.KernelIdeal.Frame
public import Idealize.ShloMosaic.Lib.Pipeline.TableIdle

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## One grid point -/

/-- The state after the paired key blocks of the grid point. -/
def loopEnd (i : grid0.Coords) (Q : Vec F S512x128 .bf16) (K : Vec F S4096x128 .bf16) (VT : Vec F S9x128x512 .bf16) (PB : Vec F S512x1024 .bf16) : St F :=
  stN i K (qtOf Q) VT (st0 K (qtOf Q) PB) (k0_t1_loop i).trips

/-- The end of an even grid point. -/
def evenEnd (i : grid0.Coords) (h2 : k0_cond2 i = 1#1) (VT : Vec F S9x128x512 .bf16) (s : St F) : Vec F S1x1024 .f32 × Vec F S128x1024 .f32 :=
  evenTail (BitVec.ofNat 32 (i 2).val) (VecWindow.window VT (k0_off9 i) S1x128x512.size (k0_off9_inb i h2)) (VecWindow.window VT (k0_off10 i) S1x128x512.size (k0_off10_inb i h2)) s

/-- The end of an odd grid point. -/
def oddEnd (i : grid0.Coords) (h3 : k0_cond3 i = 1#1) (Q : Vec F S512x128 .bf16) (K : Vec F S4096x128 .bf16) (VT : Vec F S9x128x512 .bf16) (s : St F) :
    Vec F S1x1024 .f32 × Vec F S128x1024 .f32 × Vec F S512x1024 .bf16 :=
  oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) s

/-- The values' layout a grid point works with: laid out there, or what the points before left. -/
def vtAt (i : grid0.Coords) (V : Vec F S4096x128 .bf16) (vt : Vec F S9x128x512 .bf16) : Vec F S9x128x512 .bf16 :=
  if First i then vtOf V else vt

/-- The pending probabilities a grid point begins with. -/
def pbAt (i : grid0.Coords) (pb : Vec F S512x1024 .bf16) : Vec F S512x1024 .bf16 :=
  if First i then k0_pay12 else pb

/-- The output block of a grid point. -/
def outPt (i : grid0.Coords) (LAMP : Vec F S4x64 .f32) (SUBW : Vec F S1x128 .f32) (Q : Vec F S512x128 .bf16) (K V : Vec F S4096x128 .bf16)
    (vt : Vec F S9x128x512 .bf16) (pb : Vec F S512x1024 .bf16) : Vec F S512x128 .bf16 :=
  if h2 : k0_cond2 i = 1#1 then
    outOf LAMP SUBW (evenEnd i h2 (vtAt i V vt) (loopEnd i Q K (vtAt i V vt) (pbAt i pb))).1 (evenEnd i h2 (vtAt i V vt) (loopEnd i Q K (vtAt i V vt) (pbAt i pb))).2
  else if h3 : k0_cond3 i = 1#1 then
    outOf LAMP SUBW (oddEnd i h3 Q K (vtAt i V vt) (loopEnd i Q K (vtAt i V vt) (pbAt i pb))).1 (oddEnd i h3 Q K (vtAt i V vt) (loopEnd i Q K (vtAt i V vt) (pbAt i pb))).2.1
  else fun _ => Scalar.ofBits .bf16 0x0000#16

/-- The pending probabilities a grid point leaves. -/
def pbPt (i : grid0.Coords) (Q : Vec F S512x128 .bf16) (K V : Vec F S4096x128 .bf16)
    (vt : Vec F S9x128x512 .bf16) (pb : Vec F S512x1024 .bf16) : Vec F S512x1024 .bf16 :=
  if h2 : k0_cond2 i = 1#1 then (loopEnd i Q K (vtAt i V vt) (pbAt i pb)).pb
  else if h3 : k0_cond3 i = 1#1 then (oddEnd i h3 Q K (vtAt i V vt) (loopEnd i Q K (vtAt i V vt) (pbAt i pb))).2.2
  else pb

variable (m : (ℓ : Loc nD τ sig) → Buf (Elt F) ℓ) (ρ : Dev nD → PrngReg)

abbrev lampB (c : Dev nD) (t : Fin cfg0.N) : Vec F S4x64 .f32 := Gen.iblk m c 0 t
abbrev subwB (c : Dev nD) (t : Fin cfg0.N) : Vec F S1x128 .f32 := Gen.iblk m c 1 t
abbrev qB (c : Dev nD) (t : Fin cfg0.N) : Vec F S512x128 .bf16 := Gen.iblk m c 2 t
abbrev kB (c : Dev nD) (t : Fin cfg0.N) : Vec F S4096x128 .bf16 := Gen.iblk m c 3 t
abbrev vB (c : Dev nD) (t : Fin cfg0.N) : Vec F S4096x128 .bf16 := Gen.iblk m c 4 t

/-- What the first `n` grid points leave: the values' layout and the pending probabilities. -/
def carry (c : Dev nD) : ℕ → Vec F S9x128x512 .bf16 × Vec F S512x1024 .bf16
  | 0 => (fun _ => Scalar.ofBits .bf16 0x0000#16, fun _ => Scalar.ofBits .bf16 0x0000#16)
  | n + 1 => if h : n < cfg0.N then
      (vtAt (grid0.coords ⟨n, h⟩) (vB m c ⟨n, h⟩) (carry c n).1,
        pbPt (grid0.coords ⟨n, h⟩) (qB m c ⟨n, h⟩) (kB m c ⟨n, h⟩) (vB m c ⟨n, h⟩) (carry c n).1 (carry c n).2)
    else carry c n

theorem carry_succ (c : Dev nD) (t : Fin cfg0.N) : carry m c (t.val + 1) =
    (vtAt (grid0.coords t) (vB m c t) (carry m c t.val).1,
      pbPt (grid0.coords t) (qB m c t) (kB m c t) (vB m c t) (carry m c t.val).1 (carry m c t.val).2) := by
  rw [carry, dif_pos t.isLt]

/-- The output block of point `t`. -/
def outAt (c : Dev nD) (t : Fin cfg0.N) : Vec F S512x128 .bf16 :=
  outPt (grid0.coords t) (lampB m c t) (subwB m c t) (qB m c t) (kB m c t) (vB m c t) (carry m c t.val).1 (carry m c t.val).2

theorem first_iff : ∀ t : Fin cfg0.N, First (grid0.coords t) ↔ t.val % 8 = 0 := by decide +kernel
theorem even_iff : ∀ t : Fin cfg0.N, k0_cond2 (grid0.coords t) = 1#1 ↔ t.val % 2 = 0 := by decide +kernel
theorem odd_iff : ∀ t : Fin cfg0.N, k0_cond3 (grid0.coords t) = 1#1 ↔ t.val % 2 = 1 := by decide +kernel

/-! ## The pipeline's proof data -/

abbrev sc9 := Memref.whole cc0_scratch0
abbrev sc10 := Memref.whole cc0_scratch1
abbrev sc11 := Memref.whole cc0_scratch2
abbrev sc12 := Memref.whole cc0_scratch3
abbrev sc13 := Memref.whole cc0_scratch4
abbrev sc14 := Memref.whole cc0_scratch5
abbrev sc15 := Memref.whole cc0_scratch6
abbrev sc16 := Memref.whole cc0_scratch7
abbrev sc17 := Memref.whole cc0_scratch8
abbrev sc18 := Memref.whole cc0_scratch9
abbrev sc19 := Memref.whole cc0_scratch10
abbrev sc20 := Memref.whole cc0_scratch11

/-- The scratch buffers at the start of a row of grid points: anything. -/
def ΦX (c : Dev nD) : sProp 𝕄 :=
  iprop((∃ g, ((sc9 : Memref sig .tc _ _ _).view.loc (c : Thread nD τ) ↦[(sc9).view.set]{fullShare} g)) ∗ (∃ g, ((sc10 : Memref sig .tc _ _ _).view.loc (c : Thread nD τ) ↦[(sc10).view.set]{fullShare} g)) ∗ (∃ g, ((sc11 : Memref sig .tc _ _ _).view.loc (c : Thread nD τ) ↦[(sc11).view.set]{fullShare} g)) ∗ (∃ g, ((sc12 : Memref sig .tc _ _ _).view.loc (c : Thread nD τ) ↦[(sc12).view.set]{fullShare} g)) ∗ (∃ g, ((sc13 : Memref sig .tc _ _ _).view.loc (c : Thread nD τ) ↦[(sc13).view.set]{fullShare} g)) ∗ (∃ g, ((sc14 : Memref sig .tc _ _ _).view.loc (c : Thread nD τ) ↦[(sc14).view.set]{fullShare} g)) ∗ (∃ g, ((sc15 : Memref sig .tc _ _ _).view.loc (c : Thread nD τ) ↦[(sc15).view.set]{fullShare} g)) ∗ (∃ g, ((sc16 : Memref sig .tc _ _ _).view.loc (c : Thread nD τ) ↦[(sc16).view.set]{fullShare} g)) ∗ (∃ g, ((sc17 : Memref sig .tc _ _ _).view.loc (c : Thread nD τ) ↦[(sc17).view.set]{fullShare} g)) ∗ (∃ g, ((sc18 : Memref sig .tc _ _ _).view.loc (c : Thread nD τ) ↦[(sc18).view.set]{fullShare} g)) ∗ (∃ g, ((sc19 : Memref sig .tc _ _ _).view.loc (c : Thread nD τ) ↦[(sc19).view.set]{fullShare} g)) ∗ (∃ g, ((sc20 : Memref sig .tc _ _ _).view.loc (c : Thread nD τ) ↦[(sc20).view.set]{fullShare} g)) ∗ ∃ r, prngReg c r)
/-- The scratch buffers within a row: the values' layout and the pending probabilities, the others at anything. -/
def ΦR (c : Dev nD) (vt : Vec F S9x128x512 .bf16) (pb : Vec F S512x1024 .bf16) : sProp 𝕄 :=
  iprop(((sc9).view.loc (c : Thread nD τ) ↦[(sc9).view.set]{fullShare} (sc9).view.rep (vt)) ∗ (∃ g, ((sc10 : Memref sig .tc _ _ _).view.loc (c : Thread nD τ) ↦[(sc10).view.set]{fullShare} g)) ∗ (∃ g, ((sc11 : Memref sig .tc _ _ _).view.loc (c : Thread nD τ) ↦[(sc11).view.set]{fullShare} g)) ∗ (∃ g, ((sc12 : Memref sig .tc _ _ _).view.loc (c : Thread nD τ) ↦[(sc12).view.set]{fullShare} g)) ∗ (∃ g, ((sc13 : Memref sig .tc _ _ _).view.loc (c : Thread nD τ) ↦[(sc13).view.set]{fullShare} g)) ∗ (∃ g, ((sc14 : Memref sig .tc _ _ _).view.loc (c : Thread nD τ) ↦[(sc14).view.set]{fullShare} g)) ∗ (∃ g, ((sc15 : Memref sig .tc _ _ _).view.loc (c : Thread nD τ) ↦[(sc15).view.set]{fullShare} g)) ∗ ((sc16).view.loc (c : Thread nD τ) ↦[(sc16).view.set]{fullShare} (sc16).view.rep (pb)) ∗ (∃ g, ((sc17 : Memref sig .tc _ _ _).view.loc (c : Thread nD τ) ↦[(sc17).view.set]{fullShare} g)) ∗ (∃ g, ((sc18 : Memref sig .tc _ _ _).view.loc (c : Thread nD τ) ↦[(sc18).view.set]{fullShare} g)) ∗ (∃ g, ((sc19 : Memref sig .tc _ _ _).view.loc (c : Thread nD τ) ↦[(sc19).view.set]{fullShare} g)) ∗ (∃ g, ((sc20 : Memref sig .tc _ _ _).view.loc (c : Thread nD τ) ↦[(sc20).view.set]{fullShare} g)) ∗ ∃ r, prngReg c r)

def Φat (c : Dev nD) (n : ℕ) : sProp 𝕄 :=
  if n % 8 = 0 then ΦX c else ΦR c (carry m c n).1 (carry m c n).2

def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => outAt m c t
  Φ t := Φat m c t.val
  q w := Pipeline.shareOf spec0 w
  owed _ := 0

theorem before_w0 (c : Dev nD) (t : Fin cfg0.N) (d) : (dats m 0 c).before 0 t d = Gen.iblk m c 0 t :=
  Gen.before0_0_of m (dats m 0 c) rfl (fun _ => rfl) t d
theorem before_w1 (c : Dev nD) (t : Fin cfg0.N) (d) : (dats m 0 c).before 1 t d = Gen.iblk m c 1 t :=
  Gen.before0_1_of m (dats m 0 c) rfl (fun _ => rfl) t d
theorem before_w2 (c : Dev nD) (t : Fin cfg0.N) (d) : (dats m 0 c).before 2 t d = Gen.iblk m c 2 t :=
  Gen.before0_2_of m (dats m 0 c) rfl (fun _ => rfl) t d
theorem before_w3 (c : Dev nD) (t : Fin cfg0.N) (d) : (dats m 0 c).before 3 t d = Gen.iblk m c 3 t :=
  Gen.before0_3_of m (dats m 0 c) rfl (fun _ => rfl) t d
theorem before_w4 (c : Dev nD) (t : Fin cfg0.N) (d) : (dats m 0 c).before 4 t d = Gen.iblk m c 4 t :=
  Gen.before0_4_of m (dats m 0 c) rfl (fun _ => rfl) t d
theorem after_w0 (c : Dev nD) (t : Fin cfg0.N) : (dats m 0 c).after 0 t = Gen.iblk m c 0 t := by dsimp only [dats]
theorem after_w1 (c : Dev nD) (t : Fin cfg0.N) : (dats m 0 c).after 1 t = Gen.iblk m c 1 t := by dsimp only [dats]
theorem after_w2 (c : Dev nD) (t : Fin cfg0.N) : (dats m 0 c).after 2 t = Gen.iblk m c 2 t := by dsimp only [dats]
theorem after_w3 (c : Dev nD) (t : Fin cfg0.N) : (dats m 0 c).after 3 t = Gen.iblk m c 3 t := by dsimp only [dats]
theorem after_w4 (c : Dev nD) (t : Fin cfg0.N) : (dats m 0 c).after 4 t = Gen.iblk m c 4 t := by dsimp only [dats]
theorem after_w5 (c : Dev nD) (t : Fin cfg0.N) : (dats m 0 c).after 5 t = outAt m c t := by dsimp only [dats]

theorem defs_tc : (defs₀ (F := F)) .tc cfg0.body
    = fun a => cc0_diff_attention (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (sc9) (Memref.isWhole_whole _) (sc10) (Memref.isWhole_whole _) (sc11) (Memref.isWhole_whole _) (sc12) (Memref.isWhole_whole _) (sc13) (Memref.isWhole_whole _) (sc14) (Memref.isWhole_whole _) (sc15) (Memref.isWhole_whole _) (sc16) (Memref.isWhole_whole _) (sc17) (Memref.isWhole_whole _) (sc18) (Memref.isWhole_whole _) (sc19) (Memref.isWhole_whole _) (sc20) (Memref.isWhole_whole _) := rfl
theorem prog_eq (t : Fin cfg0.N) : (defs₀ (F := F)) .tc cfg0.body (cfg0.bodyArgs t (cfg0.slots t)) = Gen.bodyAt0 t :=
  (congrFun defs_tc _).trans rfl

set_option maxHeartbeats 4000000 in
theorem point_A (c : Dev nD) (t : Fin cfg0.N) (h : t.val % 8 = 0) :
    (iprop(((st0_0 t).view.loc (c : Thread nD τ) ↦[(st0_0 t).view.set]{fullShare} (st0_0 t).view.rep (lampB m c t)) ∗ ((st0_1 t).view.loc (c : Thread nD τ) ↦[(st0_1 t).view.set]{fullShare} (st0_1 t).view.rep (subwB m c t)) ∗ ((st0_2 t).view.loc (c : Thread nD τ) ↦[(st0_2 t).view.set]{fullShare} (st0_2 t).view.rep (qB m c t)) ∗ ((st0_3 t).view.loc (c : Thread nD τ) ↦[(st0_3 t).view.set]{fullShare} (st0_3 t).view.rep (kB m c t)) ∗ ((st0_4 t).view.loc (c : Thread nD τ) ↦[(st0_4 t).view.set]{fullShare} (st0_4 t).view.rep (vB m c t)) ∗ (∃ g, ((st0_5 t).view.loc (c : Thread nD τ) ↦[(st0_5 t).view.set]{fullShare} g)) ∗ Φat m c t.val) : sProp 𝕄)
      ⊢ wp frame (wpE (defs₀ (F := F)) 𝒱₀ (c : Thread nD τ) none) Set.univ (Gen.bodyAt0 t)
        (fun _ => (iprop(((st0_0 t).view.loc (c : Thread nD τ) ↦[(st0_0 t).view.set]{fullShare} (st0_0 t).view.rep (lampB m c t)) ∗ ((st0_1 t).view.loc (c : Thread nD τ) ↦[(st0_1 t).view.set]{fullShare} (st0_1 t).view.rep (subwB m c t)) ∗ ((st0_2 t).view.loc (c : Thread nD τ) ↦[(st0_2 t).view.set]{fullShare} (st0_2 t).view.rep (qB m c t)) ∗ ((st0_3 t).view.loc (c : Thread nD τ) ↦[(st0_3 t).view.set]{fullShare} (st0_3 t).view.rep (kB m c t)) ∗ ((st0_4 t).view.loc (c : Thread nD τ) ↦[(st0_4 t).view.set]{fullShare} (st0_4 t).view.rep (vB m c t)) ∗ ((st0_5 t).view.loc (c : Thread nD τ) ↦[(st0_5 t).view.set]{fullShare} (st0_5 t).view.rep (outAt m c t)) ∗ Φat m c (t.val + 1)) : sProp 𝕄)) := by
  have h1 : First (grid0.coords t) := (first_iff t).2 h
  have h2 : k0_cond2 (grid0.coords t) = 1#1 := (even_iff t).2 (by omega)
  have h3 : ¬ k0_cond3 (grid0.coords t) = 1#1 := fun e => by have := (odd_iff t).1 e; omega
  have hpre : Φat m c t.val = ΦX c := if_pos h
  have hR : Φat m c (t.val + 1) = ΦR c (vtOf (vB m c t)) (loopEnd (grid0.coords t) (qB m c t) (kB m c t) (vtOf (vB m c t)) k0_pay12).pb := by
    unfold Φat; rw [if_neg (by omega), carry_succ]; unfold vtAt pbPt pbAt vtAt; rw [if_pos h1, dif_pos h2, if_pos h1]
  have hout : outAt m c t = outOf (lampB m c t) (subwB m c t) (evenEnd (grid0.coords t) h2 (vtOf (vB m c t)) (loopEnd (grid0.coords t) (qB m c t) (kB m c t) (vtOf (vB m c t)) k0_pay12)).1 (evenEnd (grid0.coords t) h2 (vtOf (vB m c t)) (loopEnd (grid0.coords t) (qB m c t) (kB m c t) (vtOf (vB m c t)) k0_pay12)).2 := by
    unfold outAt outPt vtAt pbAt; rw [dif_pos h2, if_pos h1, if_pos h1]
  rw [hpre]
  unfold ΦX
  iintro ⟨H3, H4, H5, H6, H7, H8, H9, H10, H11, H12, H13, H14, H15, H16, H17, H18, H19, H20, Hr⟩
  iapply (wp_wand_r Idealize.ShloMosaic.frame (wpE (defs₀ (F := F)) 𝒱₀ (c : Thread nD τ) none) Set.univ)
  isplitl [H3 H4 H5 H6 H7 H8 H9 H10 H11 H12 H13 H14 H15 H16 H17 H18 H19 H20]
  · iapply (bodyA_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (sc9) (Memref.isWhole_whole _) (sc10) (Memref.isWhole_whole _) (sc11) (Memref.isWhole_whole _) (sc12) (Memref.isWhole_whole _) (sc13) (Memref.isWhole_whole _) (sc14) (Memref.isWhole_whole _) (sc15) (Memref.isWhole_whole _) (sc16) (Memref.isWhole_whole _) (sc17) (Memref.isWhole_whole _) (sc18) (Memref.isWhole_whole _) (sc19) (Memref.isWhole_whole _) (sc20) (Memref.isWhole_whole _) (lampB m c t) (subwB m c t) (qB m c t) (kB m c t) (vB m c t) fullShare fullShare fullShare fullShare fullShare h1 h2 h3)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · iintro %x ⟨H3, H4, H5, H6, H7, H8, H9, H10, H11, H12, H13, H14, H15, H16, H17, H18, H19, H20⟩
    rw [hout]
    rw [hR]; unfold ΦR
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact Hr

set_option maxHeartbeats 4000000 in
theorem point_B (c : Dev nD) (t : Fin cfg0.N) (h : ¬ t.val % 8 = 0) (he : t.val % 2 = 0) :
    (iprop(((st0_0 t).view.loc (c : Thread nD τ) ↦[(st0_0 t).view.set]{fullShare} (st0_0 t).view.rep (lampB m c t)) ∗ ((st0_1 t).view.loc (c : Thread nD τ) ↦[(st0_1 t).view.set]{fullShare} (st0_1 t).view.rep (subwB m c t)) ∗ ((st0_2 t).view.loc (c : Thread nD τ) ↦[(st0_2 t).view.set]{fullShare} (st0_2 t).view.rep (qB m c t)) ∗ ((st0_3 t).view.loc (c : Thread nD τ) ↦[(st0_3 t).view.set]{fullShare} (st0_3 t).view.rep (kB m c t)) ∗ ((st0_4 t).view.loc (c : Thread nD τ) ↦[(st0_4 t).view.set]{fullShare} (st0_4 t).view.rep (vB m c t)) ∗ (∃ g, ((st0_5 t).view.loc (c : Thread nD τ) ↦[(st0_5 t).view.set]{fullShare} g)) ∗ Φat m c t.val) : sProp 𝕄)
      ⊢ wp frame (wpE (defs₀ (F := F)) 𝒱₀ (c : Thread nD τ) none) Set.univ (Gen.bodyAt0 t)
        (fun _ => (iprop(((st0_0 t).view.loc (c : Thread nD τ) ↦[(st0_0 t).view.set]{fullShare} (st0_0 t).view.rep (lampB m c t)) ∗ ((st0_1 t).view.loc (c : Thread nD τ) ↦[(st0_1 t).view.set]{fullShare} (st0_1 t).view.rep (subwB m c t)) ∗ ((st0_2 t).view.loc (c : Thread nD τ) ↦[(st0_2 t).view.set]{fullShare} (st0_2 t).view.rep (qB m c t)) ∗ ((st0_3 t).view.loc (c : Thread nD τ) ↦[(st0_3 t).view.set]{fullShare} (st0_3 t).view.rep (kB m c t)) ∗ ((st0_4 t).view.loc (c : Thread nD τ) ↦[(st0_4 t).view.set]{fullShare} (st0_4 t).view.rep (vB m c t)) ∗ ((st0_5 t).view.loc (c : Thread nD τ) ↦[(st0_5 t).view.set]{fullShare} (st0_5 t).view.rep (outAt m c t)) ∗ Φat m c (t.val + 1)) : sProp 𝕄)) := by
  have h1 : ¬ First (grid0.coords t) := fun e => h ((first_iff t).1 e)
  have h2 : k0_cond2 (grid0.coords t) = 1#1 := (even_iff t).2 he
  have h3 : ¬ k0_cond3 (grid0.coords t) = 1#1 := fun e => by have := (odd_iff t).1 e; omega
  have hpre : Φat m c t.val = ΦR c (carry m c t.val).1 (carry m c t.val).2 := if_neg h
  have hR : Φat m c (t.val + 1) = ΦR c (carry m c t.val).1 (loopEnd (grid0.coords t) (qB m c t) (kB m c t) (carry m c t.val).1 (carry m c t.val).2).pb := by
    unfold Φat; rw [if_neg (by omega), carry_succ]; unfold vtAt pbPt pbAt vtAt; rw [if_neg h1, dif_pos h2, if_neg h1]
  have hout : outAt m c t = outOf (lampB m c t) (subwB m c t) (evenEnd (grid0.coords t) h2 (carry m c t.val).1 (loopEnd (grid0.coords t) (qB m c t) (kB m c t) (carry m c t.val).1 (carry m c t.val).2)).1 (evenEnd (grid0.coords t) h2 (carry m c t.val).1 (loopEnd (grid0.coords t) (qB m c t) (kB m c t) (carry m c t.val).1 (carry m c t.val).2)).2 := by
    unfold outAt outPt vtAt pbAt; rw [dif_pos h2, if_neg h1, if_neg h1]
  rw [hpre]
  unfold ΦR
  iintro ⟨H3, H4, H5, H6, H7, H8, H9, H10, H11, H12, H13, H14, H15, H16, H17, H18, H19, H20, Hr⟩
  iapply (wp_wand_r Idealize.ShloMosaic.frame (wpE (defs₀ (F := F)) 𝒱₀ (c : Thread nD τ) none) Set.univ)
  isplitl [H3 H4 H5 H6 H7 H8 H9 H10 H11 H12 H13 H14 H15 H16 H17 H18 H19 H20]
  · iapply (bodyB_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (sc9) (Memref.isWhole_whole _) (sc10) (Memref.isWhole_whole _) (sc11) (Memref.isWhole_whole _) (sc12) (Memref.isWhole_whole _) (sc13) (Memref.isWhole_whole _) (sc14) (Memref.isWhole_whole _) (sc15) (Memref.isWhole_whole _) (sc16) (Memref.isWhole_whole _) (sc17) (Memref.isWhole_whole _) (sc18) (Memref.isWhole_whole _) (sc19) (Memref.isWhole_whole _) (sc20) (Memref.isWhole_whole _) (lampB m c t) (subwB m c t) (qB m c t) (kB m c t) (vB m c t) fullShare fullShare fullShare fullShare fullShare (carry m c t.val).1 (carry m c t.val).2 h1 h2 h3)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · iintro %x ⟨H3, H4, H5, H6, H7, H8, H9, H10, H11, H12, H13, H14, H15, H16, H17, H18, H19, H20⟩
    rw [hout]
    rw [hR]; unfold ΦR
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact Hr

set_option maxHeartbeats 4000000 in
theorem point_C (c : Dev nD) (t : Fin cfg0.N) (ho : t.val % 2 = 1) :
    (iprop(((st0_0 t).view.loc (c : Thread nD τ) ↦[(st0_0 t).view.set]{fullShare} (st0_0 t).view.rep (lampB m c t)) ∗ ((st0_1 t).view.loc (c : Thread nD τ) ↦[(st0_1 t).view.set]{fullShare} (st0_1 t).view.rep (subwB m c t)) ∗ ((st0_2 t).view.loc (c : Thread nD τ) ↦[(st0_2 t).view.set]{fullShare} (st0_2 t).view.rep (qB m c t)) ∗ ((st0_3 t).view.loc (c : Thread nD τ) ↦[(st0_3 t).view.set]{fullShare} (st0_3 t).view.rep (kB m c t)) ∗ ((st0_4 t).view.loc (c : Thread nD τ) ↦[(st0_4 t).view.set]{fullShare} (st0_4 t).view.rep (vB m c t)) ∗ (∃ g, ((st0_5 t).view.loc (c : Thread nD τ) ↦[(st0_5 t).view.set]{fullShare} g)) ∗ Φat m c t.val) : sProp 𝕄)
      ⊢ wp frame (wpE (defs₀ (F := F)) 𝒱₀ (c : Thread nD τ) none) Set.univ (Gen.bodyAt0 t)
        (fun _ => (iprop(((st0_0 t).view.loc (c : Thread nD τ) ↦[(st0_0 t).view.set]{fullShare} (st0_0 t).view.rep (lampB m c t)) ∗ ((st0_1 t).view.loc (c : Thread nD τ) ↦[(st0_1 t).view.set]{fullShare} (st0_1 t).view.rep (subwB m c t)) ∗ ((st0_2 t).view.loc (c : Thread nD τ) ↦[(st0_2 t).view.set]{fullShare} (st0_2 t).view.rep (qB m c t)) ∗ ((st0_3 t).view.loc (c : Thread nD τ) ↦[(st0_3 t).view.set]{fullShare} (st0_3 t).view.rep (kB m c t)) ∗ ((st0_4 t).view.loc (c : Thread nD τ) ↦[(st0_4 t).view.set]{fullShare} (st0_4 t).view.rep (vB m c t)) ∗ ((st0_5 t).view.loc (c : Thread nD τ) ↦[(st0_5 t).view.set]{fullShare} (st0_5 t).view.rep (outAt m c t)) ∗ Φat m c (t.val + 1)) : sProp 𝕄)) := by
  have h1 : ¬ First (grid0.coords t) := fun e => by have := (first_iff t).1 e; omega
  have h2 : ¬ k0_cond2 (grid0.coords t) = 1#1 := fun e => by have := (even_iff t).1 e; omega
  have h3 : k0_cond3 (grid0.coords t) = 1#1 := (odd_iff t).2 ho
  have hpre : Φat m c t.val = ΦR c (carry m c t.val).1 (carry m c t.val).2 := if_neg (by omega)
  have hX : (t.val + 1) % 8 = 0 → Φat m c (t.val + 1) = ΦX c := fun h => if_pos h
  have hR : ¬ (t.val + 1) % 8 = 0 → Φat m c (t.val + 1) = ΦR c (carry m c t.val).1 (oddEnd (grid0.coords t) h3 (qB m c t) (kB m c t) (carry m c t.val).1 (loopEnd (grid0.coords t) (qB m c t) (kB m c t) (carry m c t.val).1 (carry m c t.val).2)).2.2 := fun h => by
    unfold Φat; rw [if_neg h, carry_succ]; unfold vtAt pbPt pbAt vtAt; rw [if_neg h1, dif_neg h2, dif_pos h3, if_neg h1]
  have hout : outAt m c t = outOf (lampB m c t) (subwB m c t) (oddEnd (grid0.coords t) h3 (qB m c t) (kB m c t) (carry m c t.val).1 (loopEnd (grid0.coords t) (qB m c t) (kB m c t) (carry m c t.val).1 (carry m c t.val).2)).1 (oddEnd (grid0.coords t) h3 (qB m c t) (kB m c t) (carry m c t.val).1 (loopEnd (grid0.coords t) (qB m c t) (kB m c t) (carry m c t.val).1 (carry m c t.val).2)).2.1 := by
    unfold outAt outPt vtAt pbAt; rw [dif_neg h2, dif_pos h3, if_neg h1, if_neg h1]
  rw [hpre]
  unfold ΦR
  iintro ⟨H3, H4, H5, H6, H7, H8, H9, H10, H11, H12, H13, H14, H15, H16, H17, H18, H19, H20, Hr⟩
  iapply (wp_wand_r Idealize.ShloMosaic.frame (wpE (defs₀ (F := F)) 𝒱₀ (c : Thread nD τ) none) Set.univ)
  isplitl [H3 H4 H5 H6 H7 H8 H9 H10 H11 H12 H13 H14 H15 H16 H17 H18 H19 H20]
  · iapply (bodyC_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (sc9) (Memref.isWhole_whole _) (sc10) (Memref.isWhole_whole _) (sc11) (Memref.isWhole_whole _) (sc12) (Memref.isWhole_whole _) (sc13) (Memref.isWhole_whole _) (sc14) (Memref.isWhole_whole _) (sc15) (Memref.isWhole_whole _) (sc16) (Memref.isWhole_whole _) (sc17) (Memref.isWhole_whole _) (sc18) (Memref.isWhole_whole _) (sc19) (Memref.isWhole_whole _) (sc20) (Memref.isWhole_whole _) (lampB m c t) (subwB m c t) (qB m c t) (kB m c t) (vB m c t) fullShare fullShare fullShare fullShare fullShare (carry m c t.val).1 (carry m c t.val).2 h1 h2 h3)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · iintro %x ⟨H3, H4, H5, H6, H7, H8, H9, H10, H11, H12, H13, H14, H15, H16, H17, H18, H19, H20⟩
    rw [hout]
    by_cases h8 : (t.val + 1) % 8 = 0
    · rw [hX h8]; unfold ΦX
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexact H17
      isplitl [H18]; · iexact H18
      isplitl [H19]; · iexact H19
      isplitl [H20]; · iexact H20
      iexact Hr
    · rw [hR h8]; unfold ΦR
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact Hr

theorem point_run (c : Dev nD) (t : Fin cfg0.N) :
    (iprop(((st0_0 t).view.loc (c : Thread nD τ) ↦[(st0_0 t).view.set]{fullShare} (st0_0 t).view.rep (lampB m c t)) ∗ ((st0_1 t).view.loc (c : Thread nD τ) ↦[(st0_1 t).view.set]{fullShare} (st0_1 t).view.rep (subwB m c t)) ∗ ((st0_2 t).view.loc (c : Thread nD τ) ↦[(st0_2 t).view.set]{fullShare} (st0_2 t).view.rep (qB m c t)) ∗ ((st0_3 t).view.loc (c : Thread nD τ) ↦[(st0_3 t).view.set]{fullShare} (st0_3 t).view.rep (kB m c t)) ∗ ((st0_4 t).view.loc (c : Thread nD τ) ↦[(st0_4 t).view.set]{fullShare} (st0_4 t).view.rep (vB m c t)) ∗ (∃ g, ((st0_5 t).view.loc (c : Thread nD τ) ↦[(st0_5 t).view.set]{fullShare} g)) ∗ Φat m c t.val) : sProp 𝕄)
      ⊢ wp frame (wpE (defs₀ (F := F)) 𝒱₀ (c : Thread nD τ) none) Set.univ (Gen.bodyAt0 t)
        (fun _ => (iprop(((st0_0 t).view.loc (c : Thread nD τ) ↦[(st0_0 t).view.set]{fullShare} (st0_0 t).view.rep (lampB m c t)) ∗ ((st0_1 t).view.loc (c : Thread nD τ) ↦[(st0_1 t).view.set]{fullShare} (st0_1 t).view.rep (subwB m c t)) ∗ ((st0_2 t).view.loc (c : Thread nD τ) ↦[(st0_2 t).view.set]{fullShare} (st0_2 t).view.rep (qB m c t)) ∗ ((st0_3 t).view.loc (c : Thread nD τ) ↦[(st0_3 t).view.set]{fullShare} (st0_3 t).view.rep (kB m c t)) ∗ ((st0_4 t).view.loc (c : Thread nD τ) ↦[(st0_4 t).view.set]{fullShare} (st0_4 t).view.rep (vB m c t)) ∗ ((st0_5 t).view.loc (c : Thread nD τ) ↦[(st0_5 t).view.set]{fullShare} (st0_5 t).view.rep (outAt m c t)) ∗ Φat m c (t.val + 1)) : sProp 𝕄)) := by
  by_cases h : t.val % 8 = 0
  · exact point_A m c t h
  · by_cases he : t.val % 2 = 0
    · exact point_B m c t h he
    · exact point_C m c t (by omega)

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, after_w0, after_w1, after_w2, after_w3, after_w4, after_w5]
  rw [show (dats m 0 c).Φ t.castSucc = Φat m c t.val from rfl, show (dats m 0 c).Φ t.succ = Φat m c (t.val + 1) from rfl]
  unfold Dat.owesAt Pipeline.owesWithin
  rw [show (dats m 0 c).owed t.castSucc = 0 from rfl, show (dats m 0 c).owed t.succ = 0 from rfl]
  simp only [owns_eq_rep]
  iintro ⟨HΦ, ⟨%W, -, HW⟩, ⟨%d0, H0⟩, ⟨%d1, H1⟩, ⟨%d2, H2⟩, ⟨%d3, H3⟩, ⟨%d4, H4⟩, ⟨%d5, H5⟩⟩
  sl_rw [prog_eq t]
  iapply (wp_wand_r Idealize.ShloMosaic.frame (wpE (defs₀ (F := F)) 𝒱₀ (c : Thread nD τ) none) Set.univ)
  isplitl [HΦ H0 H1 H2 H3 H4 H5]
  · iapply (point_run m c t)
    isplitl [H0]; · iexact H0
    isplitl [H1]; · iexact H1
    isplitl [H2]; · iexact H2
    isplitl [H3]; · iexact H3
    isplitl [H4]; · iexact H4
    isplitl [H5]; · iexists _; iexact H5
    iexact HΦ
  · iintro %x ⟨H0, H1, H2, H3, H4, H5, HΦ⟩
    isplitl [HΦ]; · iexact HΦ
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

theorem Φat_zero (c : Dev nD) : Φat m c 0 = ΦX c := by
  unfold Φat; rw [if_pos (by decide)]
theorem Φat_last (c : Dev nD) : Φat m c cfg0.N = ΦX c := by
  unfold Φat; rw [if_pos (by decide)]

theorem ΦX_in (c : Dev nD) : (Pipeline.ΦA spec0 c : sProp 𝕄) ⊢ ΦX c := by
  unfold ΦX Pipeline.ΦA
  rw [scopedRest0_eq]
  simp only [Memref.view_whole, View.set_whole]
  iintro ⟨⟨H9, H10, H11, H12, H13, H14, H15, H16, H17, H18, H19, H20⟩, Hr⟩
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact Hr

theorem ΦX_out (c : Dev nD) : (ΦX c : sProp 𝕄) ⊢ Pipeline.ΦA spec0 c := by
  unfold ΦX Pipeline.ΦA
  rw [scopedRest0_eq]
  simp only [Memref.view_whole, View.set_whole]
  iintro ⟨H9, H10, H11, H12, H13, H14, H15, H16, H17, H18, H19, H20, Hr⟩
  isplitr [Hr]
  · isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iexact Hr

set_option backward.isDefEq.respectTransparency.types false in
/-- The whole run: every array at what the grid points leave in it, every counter at zero. -/
theorem run_main : θ_run defs (onTc (τ := τ) (main (F := F))) (s₀ m ρ) (fun r => Pipeline.FramePost cfgs (dats m) 0 (Gen.V m) r ∧ r.2.sem = fun _ => 0) :=
  Pipeline.θ_run_frame_track_shared cfgs (dats m) (0 : Fin 1) launch₀0 defs₀ 𝒱₀ m ρ main
    (fun c => (body_obligation m c).loose) (fun _ _ _ => rfl) (fun _ _ => rfl) (Gen.V m) (Gen.hmain m 𝒱₀) (fun _ _ => rfl)
    (fun c => by
      show _ ⊢ Φat m c 0
      rw [Φat_zero]
      exact ΦX_in c)
    (fun c => by
      show Φat m c cfg0.N ⊢ _
      rw [Φat_last]
      exact ΦX_out c)
    _ (fun _ h => h)

/-- The frame: every execution ends, leaves the arguments as they were and every counter at zero. -/
theorem frame_main : θ_run defs (onTc (τ := τ) (main (F := F))) (s₀ m ρ) (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).1 4).trans ((dats m 0 c).arrAt_in 4 rfl _),
      ((h.1 c).1 0).trans ((dats m 0 c).arrAt_in 0 rfl _),
      ((h.1 c).1 1).trans ((dats m 0 c).arrAt_in 1 rfl _)⟩, h.2⟩) (run_main m ρ)

end Cert.Proof.KernelIdeal

end
-- ==== Proof.KernelBody.lean ====
/-
  The attention kernel's body, run once at each kind of grid point: the first query block (which also lays out the
  values, transposed), a later query block with an even number, and one with an odd number.
-/
module

public import proofs.«01_k».proof.Proof.KernelStep

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The grid point is the first of its row: its query block is block 0. -/
abbrev First (i : grid0.Coords) : Prop :=
  Scalar.cmpi .ne (Scalar.extui (Scalar.cmpi .eq (BitVec.ofNat 32 (i 2).val) 0#32) : BitVec 32) 0#32 = 1#1

/-- The values laid out for the kernel: slice `j < 8` is block `j` of the values, transposed; slice 8 is zero. -/
def vtOf (V : Vec F S4096x128 .bf16) : Vec F S9x128x512 .bf16 :=
  VecWindow.put (VecWindow.put (VecWindow.put (VecWindow.put (VecWindow.put (VecWindow.put (VecWindow.put
    (VecWindow.put (VecWindow.put (fun _ => Scalar.ofBits .bf16 0x0000#16) ![0, 0, 0] S1x128x512.size (k0_pay2
    (VecWindow.window V ![0, 0] S512x128.size inb_S4096x128_S512x128_0_0))) ![1, 0, 0] S1x128x512.size (k0_pay2
    (VecWindow.window V ![512, 0] S512x128.size inb_S4096x128_S512x128_512_0))) ![2, 0, 0] S1x128x512.size (k0_pay2
    (VecWindow.window V ![1024, 0] S512x128.size inb_S4096x128_S512x128_1024_0))) ![3, 0, 0] S1x128x512.size
    (k0_pay2 (VecWindow.window V ![1536, 0] S512x128.size inb_S4096x128_S512x128_1536_0))) ![4, 0, 0]
    S1x128x512.size (k0_pay2 (VecWindow.window V ![2048, 0] S512x128.size inb_S4096x128_S512x128_2048_0))) ![5, 0,
    0] S1x128x512.size (k0_pay2 (VecWindow.window V ![2560, 0] S512x128.size inb_S4096x128_S512x128_2560_0))) ![6,
    0, 0] S1x128x512.size (k0_pay2 (VecWindow.window V ![3072, 0] S512x128.size inb_S4096x128_S512x128_3072_0)))
    ![7, 0, 0] S1x128x512.size (k0_pay2 (VecWindow.window V ![3584, 0] S512x128.size
    inb_S4096x128_S512x128_3584_0))) ![8, 0, 0] S1x128x512.size k0_pay11

/-- The two query blocks laid out side by side, transposed: on the left the first map's features and zeros for the
    second's, on the right the other way round. -/
def qtOf (Q : Vec F S512x128 .bf16) : Vec F S128x1024 .bf16 :=
  VecWindow.put (VecWindow.put (fun _ => Scalar.ofBits .bf16 0x0000#16) ![0, 0] S128x512.size (k0_pay76 Q)) ![0, 512] S128x512.size (k0_pay77 Q)

theorem vt_step {α : Type} (k : ℕ) (f g : S9x128x512.Idx → α) (w : S1x128x512.Idx → α)
    (h : ∀ y : S9x128x512.Idx, (y 0).val < k → f y = g y) (y : S9x128x512.Idx) (hy : (y 0).val < k + 1) :
    VecWindow.put f ![k, 0, 0] S1x128x512.size w y = VecWindow.put g ![k, 0, 0] S1x128x512.size w y := by
  have hy1 : (y 1).val < 128 := (y 1).isLt
  have hy2 : (y 2).val < 512 := (y 2).isLt
  by_cases hk : ∀ a, (![k, 0, 0] : Fin 3 → ℕ) a ≤ (y a).val ∧ (y a).val < (![k, 0, 0] : Fin 3 → ℕ) a + S1x128x512.size a
  · have e : ∀ u : S9x128x512.Idx → α, VecWindow.put u ![k, 0, 0] S1x128x512.size w y = w (Rect.unitLocal (s := S9x128x512) (off := ![k, 0, 0]) (size := S1x128x512.size) y hk) :=
      fun u => dif_pos hk
    rw [e, e]
  · have e : ∀ u : S9x128x512.Idx → α, VecWindow.put u ![k, 0, 0] S1x128x512.size w y = u y := fun u => dif_neg hk
    rw [e, e]
    refine h y ?_
    rcases Nat.lt_succ_iff_lt_or_eq.mp hy with hlt | e
    · exact hlt
    · refine absurd (fun a => ?_) hk
      match a with
      | 0 => exact ⟨le_of_eq e.symm, by show (y 0).val < k + 1; omega⟩
      | 1 => exact ⟨Nat.zero_le _, by show (y 1).val < 0 + 128; omega⟩
      | 2 => exact ⟨Nat.zero_le _, by show (y 2).val < 0 + 512; omega⟩

theorem vt_base {α : Type} (f g : S9x128x512.Idx → α) (w0 w1 w2 w3 w4 w5 w6 w7 w8 : S1x128x512.Idx → α) :
    VecWindow.put (VecWindow.put (VecWindow.put (VecWindow.put (VecWindow.put (VecWindow.put (VecWindow.put
      (VecWindow.put (VecWindow.put (f) ![0, 0, 0] S1x128x512.size w0) ![1, 0, 0] S1x128x512.size w1) ![2, 0, 0]
      S1x128x512.size w2) ![3, 0, 0] S1x128x512.size w3) ![4, 0, 0] S1x128x512.size w4) ![5, 0, 0] S1x128x512.size
      w5) ![6, 0, 0] S1x128x512.size w6) ![7, 0, 0] S1x128x512.size w7) ![8, 0, 0] S1x128x512.size w8
      = VecWindow.put (VecWindow.put (VecWindow.put (VecWindow.put (VecWindow.put (VecWindow.put (VecWindow.put
        (VecWindow.put (VecWindow.put (g) ![0, 0, 0] S1x128x512.size w0) ![1, 0, 0] S1x128x512.size w1) ![2, 0, 0]
        S1x128x512.size w2) ![3, 0, 0] S1x128x512.size w3) ![4, 0, 0] S1x128x512.size w4) ![5, 0, 0]
        S1x128x512.size w5) ![6, 0, 0] S1x128x512.size w6) ![7, 0, 0] S1x128x512.size w7) ![8, 0, 0]
        S1x128x512.size w8 :=
  funext fun y => vt_step 8 _ _ w8 (vt_step 7 _ _ w7 (vt_step 6 _ _ w6 (vt_step 5 _ _ w5 (vt_step 4 _ _ w4 (vt_step 3 _ _ w3
    (vt_step 2 _ _ w2 (vt_step 1 _ _ w1 (vt_step 0 _ _ w0 fun y h => absurd h (Nat.not_lt_zero _))))))))) y (y 0).isLt

theorem qt_base {α : Type} (f g : S128x1024.Idx → α) (w0 w1 : S128x512.Idx → α) :
    VecWindow.put (VecWindow.put f ![0, 0] S128x512.size w0) ![0, 512] S128x512.size w1
      = VecWindow.put (VecWindow.put g ![0, 0] S128x512.size w0) ![0, 512] S128x512.size w1 := by
  funext y
  simp only [VecWindow.put]
  have hy0 : (y 0).val < 128 := (y 0).isLt
  have hy1 : (y 1).val < 1024 := (y 1).isLt
  have key : ∀ k : ℕ, (¬ ∀ a, (![0, k] : Fin 2 → ℕ) a ≤ (y a).val ∧ (y a).val < (![0, k] : Fin 2 → ℕ) a + S128x512.size a) → ¬ (k ≤ (y 1).val ∧ (y 1).val < k + 512) := by
    intro k hk e
    refine hk fun a => ?_
    match a with
    | 0 => exact ⟨Nat.zero_le _, by show (y 0).val < 0 + 128; omega⟩
    | 1 => exact e
  split_ifs with h1 h0
  · rfl
  · rfl
  · have := key 512 h1; have := key 0 h0; omega

/-- The state before the loop: the scores of the first key block, and nothing accumulated. -/
def st0 (K : Vec F S4096x128 .bf16) (QT : Vec F S128x1024 .bf16) (PB : Vec F S512x1024 .bf16) : St F :=
  let K0 := VecWindow.window K ![0, 0] S512x128.size inb_S4096x128_S512x128_0_0
  ⟨k0_pay84 K0 QT, k0_pay85 K0 QT, PB, k0_pay78, k0_pay79, k0_pay81 k0_pay80, k0_pay82⟩

/-- The running sum and numerator after the last key block of an even query block, which is the diagonal one. -/
def evenTail (arg2 : BitVec 32) (V0 V1 : Vec F S1x128x512 .bf16) (s : St F) : Vec F S1x1024 .f32 × Vec F S128x1024 .f32 :=
  let acc1 := k0_pay45 V0 s.pb s.al s.acc
  let sm := k0_pay46 arg2 s.sa
  let mt := k0_pay47 arg2 s.sa
  (k0_pay51 sm mt s.m s.l, k0_pay100 (k0_pay55 (k0_pay54 mt s.m) acc1 V1 (k0_pay53 sm mt s.m)))

/-- The running sum, the numerator and the last probabilities after the last two key blocks of an odd query block. -/
def oddTail (arg2 : BitVec 32) (K1 : Vec F S512x128 .bf16) (QT : Vec F S128x1024 .bf16) (V0 V1 V2 : Vec F S1x128x512 .bf16) (s : St F) :
    Vec F S1x1024 .f32 × Vec F S128x1024 .f32 × Vec F S512x1024 .bf16 :=
  let sb := k0_pay57 K1 QT
  let acc1 := k0_pay59 V0 s.pb s.al s.acc
  let l1 := k0_pay63 s.sa s.ma s.m s.l
  let m1 := k0_pay64 s.ma s.m
  let acc2 := k0_pay68 (k0_pay67 V1) (k0_pay65 s.sa s.ma s.m) (k0_pay66 s.ma s.m) acc1
  let p := k0_pay72 arg2 sb m1
  (k0_pay101 p (k0_pay73 arg2 sb m1 l1), k0_pay105 (k0_pay104 (k0_pay71 arg2 sb m1)) acc2 V2 (k0_pay103 p), k0_pay103 p)

/-- The output block from the sums and the numerator. -/
def outOf (LAMP : Vec F S4x64 .f32) (SUBW : Vec F S1x128 .f32) (l : Vec F S1x1024 .f32) (acc : Vec F S128x1024 .f32) : Vec F S512x128 .bf16 :=
  k0_pay1 (k0_pay106 acc LAMP l) (k0_pay107 acc LAMP l) SUBW

theorem trips2 : ∀ i : grid0.Coords, (k0_t2_loop i).trips = 0 := by decide +kernel

section Body

variable (c : Dev nD) (i : grid0.Coords)
  (arg3 : Memref sig .tc .vmem S4x64 .f32) (harg3 : arg3.IsWhole)
  (arg4 : Memref sig .tc .vmem S1x128 .f32) (harg4 : arg4.IsWhole)
  (arg5 : Memref sig .tc .vmem S512x128 .bf16) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S512x128 .bf16) (harg8 : arg8.IsWhole)
  (arg9 : Memref sig .tc .vmem S9x128x512 .bf16) (harg9 : arg9.IsWhole)
  (arg10 : Memref sig .tc .vmem S128x1024 .bf16) (harg10 : arg10.IsWhole)
  (arg11 : Memref sig .tc .vmem S512x1024 .f32) (harg11 : arg11.IsWhole)
  (arg12 : Memref sig .tc .vmem S512x1024 .f32) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S512x1024 .bf16) (harg15 : arg15.IsWhole)
  (arg16 : Memref sig .tc .vmem S512x1024 .bf16) (harg16 : arg16.IsWhole)
  (arg17 : Memref sig .tc .vmem S1x1024 .f32) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S128x1024 .f32) (harg20 : arg20.IsWhole)

/-- The body at the first query block. -/
theorem bodyA_run (LAMP : Vec F S4x64 .f32) (SUBW : Vec F S1x128 .f32) (Q : Vec F S512x128 .bf16) (K V : Vec F S4096x128 .bf16) (q3 q4 q5 q6 q7 : PosShare TreeShare)
    (h1 : First i) (h2 : k0_cond2 i = 1#1) (h3 : ¬ k0_cond3 i = 1#1) :
    (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)
      ⊢ wp frame (wpE (defs₀ (F := F)) 𝒱₀ (c : Thread nD τ) none) Set.univ (cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (arg8.view.loc (c : Thread nD τ) ↦[arg8.view.set]{fullShare} arg8.view.rep (outOf LAMP SUBW (evenTail (BitVec.ofNat 32 (i 2).val) (VecWindow.window (vtOf V) (k0_off9 i) S1x128x512.size (k0_off9_inb i h2)) (VecWindow.window (vtOf V) (k0_off10 i) S1x128x512.size (k0_off10_inb i h2)) (stN i K (qtOf Q) (vtOf V) (st0 K (qtOf Q) k0_pay12) (k0_t1_loop i).trips)).1 (evenTail (BitVec.ofNat 32 (i 2).val) (VecWindow.window (vtOf V) (k0_off9 i) S1x128x512.size (k0_off9_inb i h2)) (VecWindow.window (vtOf V) (k0_off10 i) S1x128x512.size (k0_off10_inb i h2)) (stN i K (qtOf Q) (vtOf V) (st0 K (qtOf Q) k0_pay12) (k0_t1_loop i).trips)).2)) ∗ (arg9.view.loc (c : Thread nD τ) ↦[arg9.view.set]{fullShare} arg9.view.rep (vtOf V)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (arg16.view.loc (c : Thread nD τ) ↦[arg16.view.set]{fullShare} arg16.view.rep (stN i K (qtOf Q) (vtOf V) (st0 K (qtOf Q) k0_pay12) (k0_t1_loop i).trips).pb) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)) := by
  iintro ⟨H3, H4, H5, H6, H7, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩⟩
  sl_unfold [cc0_diff_attention]
  sl_exec
  have hqt : ∀ inb1 inb2, arg10.view.readCov (Val := Elt F) [⟨Rect.unit ![0, 512] S128x512.size inb1, k0_pay77 Q⟩, ⟨Rect.unit ![0, 0] S128x512.size inb2, k0_pay76 Q⟩]
      (Rect.unit ![0, 0] S128x1024.size inb_S128x1024_S128x1024_0_0).toLoadRect = qtOf Q := fun inb1 inb2 => by
    refine (View.readAt_full arg10.view _ _).trans ?_
    rw [View.read_writes_cons_put _ _ _ _ _ rfl, View.read_writes_cons_put _ _ _ _ _ rfl]
    exact qt_base _ _ _ _
  ihave H9 := (pointsTo_rep_of_read (c : Thread nD τ) arg9 _ fullShare ((vtOf V)) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.r
      bodyA_run.sl.v0 bodyA_run.sl.v1 bodyA_run.sl.v2 bodyA_run.sl.v42 bodyA_run.sl.v52 bodyA_run.sl.v53
      bodyA_run.sl.v55 bodyA_run.sl.v56 bodyA_run.sl.v57
    simp only [fun off inb => View.readAt_rep_unit arg7.view V (off := off) (size := S512x128.size) inb rfl inb]
    rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl]
    exact vt_base _ _ _ _ _ _ _ _ _ _ _)) $$ H9
  ihave H10 := (pointsTo_rep_of_read (c : Thread nD τ) arg10 _ fullShare (qtOf Q) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.r
      bodyA_run.sl.v0 bodyA_run.sl.v1 bodyA_run.sl.v2 bodyA_run.sl.v42 bodyA_run.sl.v52 bodyA_run.sl.v53
      bodyA_run.sl.v55 bodyA_run.sl.v56 bodyA_run.sl.v57
    simp only [View.readAt_rep_full arg5.view]
    rw [View.read_writes_cons_put _ _ _ _ _ rfl, View.read_writes_cons_put _ _ _ _ _ rfl]
    exact qt_base _ _ _ _)) $$ H10
  ihave H11 := (pointsTo_rep_of_read (c : Thread nD τ) arg11 _ fullShare ((st0 K (qtOf Q) k0_pay12).sa) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.r
      bodyA_run.sl.v0 bodyA_run.sl.v1 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H11
  ihave H13 := (pointsTo_rep_of_read (c : Thread nD τ) arg13 _ fullShare ((st0 K (qtOf Q) k0_pay12).ma) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.r
      bodyA_run.sl.v0 bodyA_run.sl.v1 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | simp only [st0, k0_pay85, k0_pay83])) $$ H13
  ihave H17 := (pointsTo_rep_of_read (c : Thread nD τ) arg17 _ fullShare ((st0 K (qtOf Q) k0_pay12).m) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.r
      bodyA_run.sl.v0 bodyA_run.sl.v1 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H17
  ihave H18 := (pointsTo_rep_of_read (c : Thread nD τ) arg18 _ fullShare ((st0 K (qtOf Q) k0_pay12).l) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.r
      bodyA_run.sl.v0 bodyA_run.sl.v1 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H18
  ihave H19 := (pointsTo_rep_of_read (c : Thread nD τ) arg19 _ fullShare ((st0 K (qtOf Q) k0_pay12).al) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.r
      bodyA_run.sl.v0 bodyA_run.sl.v1 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H19
  ihave H20 := (pointsTo_rep_of_read (c : Thread nD τ) arg20 _ fullShare ((st0 K (qtOf Q) k0_pay12).acc) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.r
      bodyA_run.sl.v0 bodyA_run.sl.v1 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H20
  ihave H16 := (pointsTo_rep_of_read (c : Thread nD τ) arg16 _ fullShare ((st0 K (qtOf Q) k0_pay12).pb) (by
    delta bodyA_run.sl.H10_2 bodyA_run.sl.H11_1 bodyA_run.sl.H13_1 bodyA_run.sl.H16_1 bodyA_run.sl.H17_1
      bodyA_run.sl.H18_1 bodyA_run.sl.H19_1 bodyA_run.sl.H20_1 bodyA_run.sl.H9_9 bodyA_run.sl.r
      bodyA_run.sl.v0 bodyA_run.sl.v1 bodyA_run.sl.v2 bodyA_run.sl.v42 bodyA_run.sl.v52 bodyA_run.sl.v53
      bodyA_run.sl.v55 bodyA_run.sl.v56 bodyA_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H16
  sl_for (fun k _ => Res c arg6 arg9 arg10 arg11 arg12 arg13 arg14 arg15 arg16 arg17 arg18 arg19 arg20 K (qtOf Q) (vtOf V) q6 (stN i K (qtOf Q) (vtOf V) (st0 K (qtOf Q) k0_pay12) k)) $$ [H6 H10 H9 H11 H12 H13 H14 H15 H16 H17 H18 H19 H20]
  · intro k x
    exact loop_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ K (qtOf Q) (vtOf V) q6 _ k x
  · unfold Res
    isplitl [H6]
    · iexact H6
    isplitl [H10]
    · iexact H10
    isplitl [H9]
    · iexact H9
    isplitl [H11]
    · iexact H11
    isplitl [H12]
    · iexists _; iexact H12
    isplitl [H13]
    · iexact H13
    isplitl [H14]
    · iexists _; iexact H14
    isplitl [H15]
    · iexists _; iexact H15
    isplitl [H16]
    · iexact H16
    isplitl [H17]
    · iexact H17
    isplitl [H18]
    · iexact H18
    isplitl [H19]
    · iexact H19
    iexact H20
  generalize hS : (stN i K (qtOf Q) (vtOf V) (st0 K (qtOf Q) k0_pay12) (k0_t1_loop i).trips) = s
  have hS' : stN i K (qtOf Q) (vtOf V) (st0 K (qtOf Q) k0_pay12) (k0_t1_loop i).trips = s := hS
  iintro %x HR
  sl_for0 (trips2 i)
  unfold Res
  icases HR with ⟨H6, H10, H9, H11, ⟨%g12', H12⟩, H13, ⟨%g14', H14⟩, ⟨%g15', H15⟩, H16, H17, H18, H19, H20⟩
  sl_exec
  sl_step
  ihave H8 := (pointsTo_rep_of_read (c : Thread nD τ) arg8 _ fullShare (outOf LAMP SUBW (evenTail (BitVec.ofNat 32 (i 2).val) (VecWindow.window (vtOf V) (k0_off9 i) S1x128x512.size (k0_off9_inb i h2)) (VecWindow.window (vtOf V) (k0_off10 i) S1x128x512.size (k0_off10_inb i h2)) s).1 (evenTail (BitVec.ofNat 32 (i 2).val) (VecWindow.window (vtOf V) (k0_off9 i) S1x128x512.size (k0_off9_inb i h2)) (VecWindow.window (vtOf V) (k0_off10 i) S1x128x512.size (k0_off10_inb i h2)) s).2) (by
    delta bodyA_run.sl.H10_2 bodyA_run.sl.H11_1 bodyA_run.sl.H13_1 bodyA_run.sl.H15_1 bodyA_run.sl.H16_1
      bodyA_run.sl.H17_1 bodyA_run.sl.H18_1 bodyA_run.sl.H18_1_1 bodyA_run.sl.H19_1 bodyA_run.sl.H19_1_1
      bodyA_run.sl.H20_1 bodyA_run.sl.H20_1_1 bodyA_run.sl.H20_2 bodyA_run.sl.H9_9 bodyA_run.sl.prog.body_1
      bodyA_run.sl.prog.body_2 bodyA_run.sl.prog.cont_1 bodyA_run.sl.prog.cont_2 bodyA_run.sl.r
      bodyA_run.sl.r_1 bodyA_run.sl.r_2 bodyA_run.sl.r_3 bodyA_run.sl.r_4 bodyA_run.sl.r_5 bodyA_run.sl.r_6
      bodyA_run.sl.v0 bodyA_run.sl.v1 bodyA_run.sl.v174 bodyA_run.sl.v175 bodyA_run.sl.v181 bodyA_run.sl.v2
      bodyA_run.sl.v42 bodyA_run.sl.v52 bodyA_run.sl.v53 bodyA_run.sl.v55 bodyA_run.sl.v56 bodyA_run.sl.v57
      bodyA_run.sl.v66 bodyA_run.sl.v83
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, fun off inb =>
      View.readAt_rep_unit arg9.view (vtOf V) (off := off) (size := S1x128x512.size) inb rfl inb]
    first | done | (dsimp only [outOf, evenTail, oddTail]; done) | (dsimp only [outOf, evenTail, oddTail]; rfl))) $$ H8
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexact H16
  isplitl [H17]
  · iexists _; iexact H17
  isplitl [H18]
  · iexists _; iexact H18
  isplitl [H19]
  · iexists _; iexact H19
  iexists _; iexact H20

/-- The body at a later query block with an even number. -/
theorem bodyB_run (LAMP : Vec F S4x64 .f32) (SUBW : Vec F S1x128 .f32) (Q : Vec F S512x128 .bf16) (K V : Vec F S4096x128 .bf16) (q3 q4 q5 q6 q7 : PosShare TreeShare) (VT : Vec F S9x128x512 .bf16) (PB : Vec F S512x1024 .bf16)
    (h1 : ¬ First i) (h2 : k0_cond2 i = 1#1) (h3 : ¬ k0_cond3 i = 1#1) :
    (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (∃ g, (arg8.view.loc (c : Thread nD τ) ↦[arg8.view.set]{fullShare} g)) ∗ (arg9.view.loc (c : Thread nD τ) ↦[arg9.view.set]{fullShare} arg9.view.rep VT) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (arg16.view.loc (c : Thread nD τ) ↦[arg16.view.set]{fullShare} arg16.view.rep PB) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)
      ⊢ wp frame (wpE (defs₀ (F := F)) 𝒱₀ (c : Thread nD τ) none) Set.univ (cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (arg8.view.loc (c : Thread nD τ) ↦[arg8.view.set]{fullShare} arg8.view.rep (outOf LAMP SUBW (evenTail (BitVec.ofNat 32 (i 2).val) (VecWindow.window VT (k0_off9 i) S1x128x512.size (k0_off9_inb i h2)) (VecWindow.window VT (k0_off10 i) S1x128x512.size (k0_off10_inb i h2)) (stN i K (qtOf Q) VT (st0 K (qtOf Q) PB) (k0_t1_loop i).trips)).1 (evenTail (BitVec.ofNat 32 (i 2).val) (VecWindow.window VT (k0_off9 i) S1x128x512.size (k0_off9_inb i h2)) (VecWindow.window VT (k0_off10 i) S1x128x512.size (k0_off10_inb i h2)) (stN i K (qtOf Q) VT (st0 K (qtOf Q) PB) (k0_t1_loop i).trips)).2)) ∗ (arg9.view.loc (c : Thread nD τ) ↦[arg9.view.set]{fullShare} arg9.view.rep VT) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (arg16.view.loc (c : Thread nD τ) ↦[arg16.view.set]{fullShare} arg16.view.rep (stN i K (qtOf Q) VT (st0 K (qtOf Q) PB) (k0_t1_loop i).trips).pb) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)) := by
  iintro ⟨H3, H4, H5, H6, H7, ⟨%g8, H8⟩, H9, ⟨%g10, H10⟩, ⟨%g11, H11⟩, ⟨%g12, H12⟩, ⟨%g13, H13⟩, ⟨%g14, H14⟩, ⟨%g15, H15⟩, H16, ⟨%g17, H17⟩, ⟨%g18, H18⟩, ⟨%g19, H19⟩, ⟨%g20, H20⟩⟩
  sl_unfold [cc0_diff_attention]
  sl_exec
  have hqt : ∀ inb1 inb2, arg10.view.readCov (Val := Elt F) [⟨Rect.unit ![0, 512] S128x512.size inb1, k0_pay77 Q⟩, ⟨Rect.unit ![0, 0] S128x512.size inb2, k0_pay76 Q⟩]
      (Rect.unit ![0, 0] S128x1024.size inb_S128x1024_S128x1024_0_0).toLoadRect = qtOf Q := fun inb1 inb2 => by
    refine (View.readAt_full arg10.view _ _).trans ?_
    rw [View.read_writes_cons_put _ _ _ _ _ rfl, View.read_writes_cons_put _ _ _ _ _ rfl]
    exact qt_base _ _ _ _
  ihave H10 := (pointsTo_rep_of_read (c : Thread nD τ) arg10 _ fullShare (qtOf Q) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.readAt_rep_full arg5.view]
    rw [View.read_writes_cons_put _ _ _ _ _ rfl, View.read_writes_cons_put _ _ _ _ _ rfl]
    exact qt_base _ _ _ _)) $$ H10
  ihave H11 := (pointsTo_rep_of_read (c : Thread nD τ) arg11 _ fullShare ((st0 K (qtOf Q) PB).sa) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H11
  ihave H13 := (pointsTo_rep_of_read (c : Thread nD τ) arg13 _ fullShare ((st0 K (qtOf Q) PB).ma) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | simp only [st0, k0_pay85, k0_pay83])) $$ H13
  ihave H17 := (pointsTo_rep_of_read (c : Thread nD τ) arg17 _ fullShare ((st0 K (qtOf Q) PB).m) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H17
  ihave H18 := (pointsTo_rep_of_read (c : Thread nD τ) arg18 _ fullShare ((st0 K (qtOf Q) PB).l) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H18
  ihave H19 := (pointsTo_rep_of_read (c : Thread nD τ) arg19 _ fullShare ((st0 K (qtOf Q) PB).al) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H19
  ihave H20 := (pointsTo_rep_of_read (c : Thread nD τ) arg20 _ fullShare ((st0 K (qtOf Q) PB).acc) (by
    delta bodyB_run.sl.H10_2 bodyB_run.sl.H11_1 bodyB_run.sl.H13_1 bodyB_run.sl.H17_1 bodyB_run.sl.H18_1
      bodyB_run.sl.H19_1 bodyB_run.sl.H20_1 bodyB_run.sl.v0 bodyB_run.sl.v1 bodyB_run.sl.v2 bodyB_run.sl.v42
      bodyB_run.sl.v52 bodyB_run.sl.v53 bodyB_run.sl.v55 bodyB_run.sl.v56 bodyB_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H20
  sl_for (fun k _ => Res c arg6 arg9 arg10 arg11 arg12 arg13 arg14 arg15 arg16 arg17 arg18 arg19 arg20 K (qtOf Q) VT q6 (stN i K (qtOf Q) VT (st0 K (qtOf Q) PB) k)) $$ [H6 H10 H9 H11 H12 H13 H14 H15 H16 H17 H18 H19 H20]
  · intro k x
    exact loop_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ K (qtOf Q) VT q6 _ k x
  · unfold Res
    isplitl [H6]
    · iexact H6
    isplitl [H10]
    · iexact H10
    isplitl [H9]
    · iexact H9
    isplitl [H11]
    · iexact H11
    isplitl [H12]
    · iexists _; iexact H12
    isplitl [H13]
    · iexact H13
    isplitl [H14]
    · iexists _; iexact H14
    isplitl [H15]
    · iexists _; iexact H15
    isplitl [H16]
    · iexact H16
    isplitl [H17]
    · iexact H17
    isplitl [H18]
    · iexact H18
    isplitl [H19]
    · iexact H19
    iexact H20
  generalize hS : (stN i K (qtOf Q) VT (st0 K (qtOf Q) PB) (k0_t1_loop i).trips) = s
  have hS' : stN i K (qtOf Q) VT (st0 K (qtOf Q) PB) (k0_t1_loop i).trips = s := hS
  iintro %x HR
  sl_for0 (trips2 i)
  unfold Res
  icases HR with ⟨H6, H10, H9, H11, ⟨%g12', H12⟩, H13, ⟨%g14', H14⟩, ⟨%g15', H15⟩, H16, H17, H18, H19, H20⟩
  sl_exec
  sl_step
  ihave H8 := (pointsTo_rep_of_read (c : Thread nD τ) arg8 _ fullShare (outOf LAMP SUBW (evenTail (BitVec.ofNat 32 (i 2).val) (VecWindow.window VT (k0_off9 i) S1x128x512.size (k0_off9_inb i h2)) (VecWindow.window VT (k0_off10 i) S1x128x512.size (k0_off10_inb i h2)) s).1 (evenTail (BitVec.ofNat 32 (i 2).val) (VecWindow.window VT (k0_off9 i) S1x128x512.size (k0_off9_inb i h2)) (VecWindow.window VT (k0_off10 i) S1x128x512.size (k0_off10_inb i h2)) s).2) (by
    delta bodyB_run.sl.H10_2 bodyB_run.sl.H11_1 bodyB_run.sl.H13_1 bodyB_run.sl.H15_1 bodyB_run.sl.H17_1
      bodyB_run.sl.H18_1 bodyB_run.sl.H18_1_1 bodyB_run.sl.H19_1 bodyB_run.sl.H19_1_1 bodyB_run.sl.H20_1
      bodyB_run.sl.H20_1_1 bodyB_run.sl.H20_2 bodyB_run.sl.prog.body_1 bodyB_run.sl.prog.body_2
      bodyB_run.sl.prog.cont_1 bodyB_run.sl.prog.cont_2 bodyB_run.sl.r bodyB_run.sl.r_1 bodyB_run.sl.r_2
      bodyB_run.sl.r_3 bodyB_run.sl.r_4 bodyB_run.sl.r_5 bodyB_run.sl.v0 bodyB_run.sl.v1 bodyB_run.sl.v174
      bodyB_run.sl.v175 bodyB_run.sl.v181 bodyB_run.sl.v2 bodyB_run.sl.v42 bodyB_run.sl.v52 bodyB_run.sl.v53
      bodyB_run.sl.v55 bodyB_run.sl.v56 bodyB_run.sl.v57 bodyB_run.sl.v66 bodyB_run.sl.v83
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, fun off inb =>
      View.readAt_rep_unit arg9.view VT (off := off) (size := S1x128x512.size) inb rfl inb]
    first | done | (dsimp only [outOf, evenTail, oddTail]; done) | (dsimp only [outOf, evenTail, oddTail]; rfl))) $$ H8
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexact H16
  isplitl [H17]
  · iexists _; iexact H17
  isplitl [H18]
  · iexists _; iexact H18
  isplitl [H19]
  · iexists _; iexact H19
  iexists _; iexact H20

/-- The body at a query block with an odd number. -/
theorem bodyC_run (LAMP : Vec F S4x64 .f32) (SUBW : Vec F S1x128 .f32) (Q : Vec F S512x128 .bf16) (K V : Vec F S4096x128 .bf16) (q3 q4 q5 q6 q7 : PosShare TreeShare) (VT : Vec F S9x128x512 .bf16) (PB : Vec F S512x1024 .bf16)
    (h1 : ¬ First i) (h2 : ¬ k0_cond2 i = 1#1) (h3 : k0_cond3 i = 1#1) :
    (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (∃ g, (arg8.view.loc (c : Thread nD τ) ↦[arg8.view.set]{fullShare} g)) ∗ (arg9.view.loc (c : Thread nD τ) ↦[arg9.view.set]{fullShare} arg9.view.rep VT) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (arg16.view.loc (c : Thread nD τ) ↦[arg16.view.set]{fullShare} arg16.view.rep PB) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)
      ⊢ wp frame (wpE (defs₀ (F := F)) 𝒱₀ (c : Thread nD τ) none) Set.univ (cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => (iprop((arg3.view.loc (c : Thread nD τ) ↦[arg3.view.set]{q3} arg3.view.rep LAMP) ∗ (arg4.view.loc (c : Thread nD τ) ↦[arg4.view.set]{q4} arg4.view.rep SUBW) ∗ (arg5.view.loc (c : Thread nD τ) ↦[arg5.view.set]{q5} arg5.view.rep Q) ∗ (arg6.view.loc (c : Thread nD τ) ↦[arg6.view.set]{q6} arg6.view.rep K) ∗ (arg7.view.loc (c : Thread nD τ) ↦[arg7.view.set]{q7} arg7.view.rep V) ∗ (arg8.view.loc (c : Thread nD τ) ↦[arg8.view.set]{fullShare} arg8.view.rep (outOf LAMP SUBW (oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) (stN i K (qtOf Q) VT (st0 K (qtOf Q) PB) (k0_t1_loop i).trips)).1 (oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) (stN i K (qtOf Q) VT (st0 K (qtOf Q) PB) (k0_t1_loop i).trips)).2.1)) ∗ (arg9.view.loc (c : Thread nD τ) ↦[arg9.view.set]{fullShare} arg9.view.rep VT) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (arg16.view.loc (c : Thread nD τ) ↦[arg16.view.set]{fullShare} arg16.view.rep (oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) (stN i K (qtOf Q) VT (st0 K (qtOf Q) PB) (k0_t1_loop i).trips)).2.2) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) : sProp 𝕄)) := by
  iintro ⟨H3, H4, H5, H6, H7, ⟨%g8, H8⟩, H9, ⟨%g10, H10⟩, ⟨%g11, H11⟩, ⟨%g12, H12⟩, ⟨%g13, H13⟩, ⟨%g14, H14⟩, ⟨%g15, H15⟩, H16, ⟨%g17, H17⟩, ⟨%g18, H18⟩, ⟨%g19, H19⟩, ⟨%g20, H20⟩⟩
  sl_unfold [cc0_diff_attention]
  sl_exec
  have hqt : ∀ inb1 inb2, arg10.view.readCov (Val := Elt F) [⟨Rect.unit ![0, 512] S128x512.size inb1, k0_pay77 Q⟩, ⟨Rect.unit ![0, 0] S128x512.size inb2, k0_pay76 Q⟩]
      (Rect.unit ![0, 0] S128x1024.size inb_S128x1024_S128x1024_0_0).toLoadRect = qtOf Q := fun inb1 inb2 => by
    refine (View.readAt_full arg10.view _ _).trans ?_
    rw [View.read_writes_cons_put _ _ _ _ _ rfl, View.read_writes_cons_put _ _ _ _ _ rfl]
    exact qt_base _ _ _ _
  ihave H10 := (pointsTo_rep_of_read (c : Thread nD τ) arg10 _ fullShare (qtOf Q) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.readAt_rep_full arg5.view]
    rw [View.read_writes_cons_put _ _ _ _ _ rfl, View.read_writes_cons_put _ _ _ _ _ rfl]
    exact qt_base _ _ _ _)) $$ H10
  ihave H11 := (pointsTo_rep_of_read (c : Thread nD τ) arg11 _ fullShare ((st0 K (qtOf Q) PB).sa) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H11
  ihave H13 := (pointsTo_rep_of_read (c : Thread nD τ) arg13 _ fullShare ((st0 K (qtOf Q) PB).ma) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | simp only [st0, k0_pay85, k0_pay83])) $$ H13
  ihave H17 := (pointsTo_rep_of_read (c : Thread nD τ) arg17 _ fullShare ((st0 K (qtOf Q) PB).m) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H17
  ihave H18 := (pointsTo_rep_of_read (c : Thread nD τ) arg18 _ fullShare ((st0 K (qtOf Q) PB).l) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H18
  ihave H19 := (pointsTo_rep_of_read (c : Thread nD τ) arg19 _ fullShare ((st0 K (qtOf Q) PB).al) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H19
  ihave H20 := (pointsTo_rep_of_read (c : Thread nD τ) arg20 _ fullShare ((st0 K (qtOf Q) PB).acc) (by
    delta bodyC_run.sl.H10_2 bodyC_run.sl.H11_1 bodyC_run.sl.H13_1 bodyC_run.sl.H17_1 bodyC_run.sl.H18_1
      bodyC_run.sl.H19_1 bodyC_run.sl.H20_1 bodyC_run.sl.v0 bodyC_run.sl.v1 bodyC_run.sl.v2 bodyC_run.sl.v42
      bodyC_run.sl.v52 bodyC_run.sl.v53 bodyC_run.sl.v55 bodyC_run.sl.v56 bodyC_run.sl.v57
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, hqt]
    first | done | (dsimp only [st0]; done) | (dsimp only [st0]; rfl))) $$ H20
  sl_for (fun k _ => Res c arg6 arg9 arg10 arg11 arg12 arg13 arg14 arg15 arg16 arg17 arg18 arg19 arg20 K (qtOf Q) VT q6 (stN i K (qtOf Q) VT (st0 K (qtOf Q) PB) k)) $$ [H6 H10 H9 H11 H12 H13 H14 H15 H16 H17 H18 H19 H20]
  · intro k x
    exact loop_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ K (qtOf Q) VT q6 _ k x
  · unfold Res
    isplitl [H6]
    · iexact H6
    isplitl [H10]
    · iexact H10
    isplitl [H9]
    · iexact H9
    isplitl [H11]
    · iexact H11
    isplitl [H12]
    · iexists _; iexact H12
    isplitl [H13]
    · iexact H13
    isplitl [H14]
    · iexists _; iexact H14
    isplitl [H15]
    · iexists _; iexact H15
    isplitl [H16]
    · iexact H16
    isplitl [H17]
    · iexact H17
    isplitl [H18]
    · iexact H18
    isplitl [H19]
    · iexact H19
    iexact H20
  generalize hS : (stN i K (qtOf Q) VT (st0 K (qtOf Q) PB) (k0_t1_loop i).trips) = s
  have hS' : stN i K (qtOf Q) VT (st0 K (qtOf Q) PB) (k0_t1_loop i).trips = s := hS
  iintro %x HR
  sl_for0 (trips2 i)
  unfold Res
  icases HR with ⟨H6, H10, H9, H11, ⟨%g12', H12⟩, H13, ⟨%g14', H14⟩, ⟨%g15', H15⟩, H16, H17, H18, H19, H20⟩
  sl_exec
  sl_step
  ihave H8 := (pointsTo_rep_of_read (c : Thread nD τ) arg8 _ fullShare (outOf LAMP SUBW (oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) s).1 (oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) s).2.1) (by
    delta bodyC_run.sl.H10_2 bodyC_run.sl.H11_1 bodyC_run.sl.H12_1 bodyC_run.sl.H13_1 bodyC_run.sl.H15_1
      bodyC_run.sl.H16_1 bodyC_run.sl.H17_1 bodyC_run.sl.H17_1_1 bodyC_run.sl.H18_1 bodyC_run.sl.H18_1_1
      bodyC_run.sl.H18_2 bodyC_run.sl.H19_1 bodyC_run.sl.H19_1_1 bodyC_run.sl.H19_2 bodyC_run.sl.H20_1
      bodyC_run.sl.H20_1_1 bodyC_run.sl.H20_2 bodyC_run.sl.H20_3 bodyC_run.sl.prog.body_1
      bodyC_run.sl.prog.body_2 bodyC_run.sl.prog.cont_1 bodyC_run.sl.prog.cont_2 bodyC_run.sl.r
      bodyC_run.sl.r_1 bodyC_run.sl.r_2 bodyC_run.sl.r_3 bodyC_run.sl.r_4 bodyC_run.sl.r_5 bodyC_run.sl.r_6
      bodyC_run.sl.r_7 bodyC_run.sl.v0 bodyC_run.sl.v1 bodyC_run.sl.v180 bodyC_run.sl.v182 bodyC_run.sl.v183
      bodyC_run.sl.v190 bodyC_run.sl.v2 bodyC_run.sl.v208 bodyC_run.sl.v215 bodyC_run.sl.v233
      bodyC_run.sl.v234 bodyC_run.sl.v240 bodyC_run.sl.v42 bodyC_run.sl.v52 bodyC_run.sl.v53 bodyC_run.sl.v55
      bodyC_run.sl.v56 bodyC_run.sl.v57 bodyC_run.sl.v66 bodyC_run.sl.v83
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, fun off inb =>
      View.readAt_rep_unit arg9.view VT (off := off) (size := S1x128x512.size) inb rfl inb]
    first | done | (dsimp only [outOf, evenTail, oddTail]; done) | (dsimp only [outOf, evenTail, oddTail]; rfl))) $$ H8
  ihave H16 := (pointsTo_rep_of_read (c : Thread nD τ) arg16 _ fullShare ((oddTail (BitVec.ofNat 32 (i 2).val) (VecWindow.window K (k0_off11 i) S512x128.size (k0_off11_inb i h3)) (qtOf Q) (VecWindow.window VT (k0_off12 i) S1x128x512.size (k0_off12_inb i h3)) (VecWindow.window VT (k0_off13 i) S1x128x512.size (k0_off13_inb i h3)) (VecWindow.window VT (k0_off14 i) S1x128x512.size (k0_off14_inb i h3)) s).2.2) (by
    delta bodyC_run.sl.H10_2 bodyC_run.sl.H11_1 bodyC_run.sl.H12_1 bodyC_run.sl.H13_1 bodyC_run.sl.H15_1
      bodyC_run.sl.H16_1 bodyC_run.sl.H17_1 bodyC_run.sl.H17_1_1 bodyC_run.sl.H18_1 bodyC_run.sl.H18_1_1
      bodyC_run.sl.H18_2 bodyC_run.sl.H19_1 bodyC_run.sl.H19_1_1 bodyC_run.sl.H19_2 bodyC_run.sl.H20_1
      bodyC_run.sl.H20_1_1 bodyC_run.sl.H20_2 bodyC_run.sl.H20_3 bodyC_run.sl.prog.body_1
      bodyC_run.sl.prog.body_2 bodyC_run.sl.prog.cont_1 bodyC_run.sl.prog.cont_2 bodyC_run.sl.r
      bodyC_run.sl.r_1 bodyC_run.sl.r_2 bodyC_run.sl.r_3 bodyC_run.sl.r_4 bodyC_run.sl.r_5 bodyC_run.sl.r_6
      bodyC_run.sl.r_7 bodyC_run.sl.v0 bodyC_run.sl.v1 bodyC_run.sl.v180 bodyC_run.sl.v182 bodyC_run.sl.v183
      bodyC_run.sl.v190 bodyC_run.sl.v2 bodyC_run.sl.v208 bodyC_run.sl.v215 bodyC_run.sl.v233
      bodyC_run.sl.v234 bodyC_run.sl.v240 bodyC_run.sl.v42 bodyC_run.sl.v52 bodyC_run.sl.v53 bodyC_run.sl.v55
      bodyC_run.sl.v56 bodyC_run.sl.v57 bodyC_run.sl.v66 bodyC_run.sl.v83
    simp only [View.read_writes_full arg8.view, View.readCov_full arg8.view, View.read_writes_full arg11.view,
      View.readCov_full arg11.view, View.read_writes_full arg12.view, View.readCov_full arg12.view,
      View.read_writes_full arg13.view, View.readCov_full arg13.view, View.read_writes_full arg14.view,
      View.readCov_full arg14.view, View.read_writes_full arg15.view, View.readCov_full arg15.view,
      View.read_writes_full arg16.view, View.readCov_full arg16.view, View.read_writes_full arg17.view,
      View.readCov_full arg17.view, View.read_writes_full arg18.view, View.readCov_full arg18.view,
      View.read_writes_full arg19.view, View.readCov_full arg19.view, View.read_writes_full arg20.view,
      View.readCov_full arg20.view, View.readAt_rep_full arg3.view, View.readAt_rep_full arg4.view,
      View.readAt_rep_full arg5.view, View.readAt_rep_full arg10.view, View.readAt_rep_full arg11.view,
      View.readAt_rep_full arg12.view, View.readAt_rep_full arg13.view, View.readAt_rep_full arg14.view,
      View.readAt_rep_full arg15.view, View.readAt_rep_full arg16.view, View.readAt_rep_full arg17.view,
      View.readAt_rep_full arg18.view, View.readAt_rep_full arg19.view, View.readAt_rep_full arg20.view, fun off
      inb => View.readAt_rep_unit arg6.view K (off := off) (size := S512x128.size) inb rfl inb, fun off inb =>
      View.readAt_rep_unit arg9.view VT (off := off) (size := S1x128x512.size) inb rfl inb]
    first | done | (dsimp only [oddTail]; done) | (dsimp only [oddTail]; rfl))) $$ H16
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexact H16
  isplitl [H17]
  · iexists _; iexact H17
  isplitl [H18]
  · iexists _; iexact H18
  isplitl [H19]
  · iexists _; iexact H19
  iexists _; iexact H20

end Body

end Cert.Proof.Kernel

end
-- ==== Proof.Frames.lean ====
/-
  The frames of the three programs and the named constants.
-/
module

public import proofs.«01_k».proof.Defs
public import proofs.«01_k».proof.Proof.Gen.ReferenceIdeal.Run
public import proofs.«01_k».proof.Proof.KernelIdealRun
public import proofs.«01_k».proof.Proof.KernelRun

@[expose] public section

noncomputable section

namespace Cert.Proof

open Idealize.ShloMosaic Idealize.ShloMosaic.TcCoe Idealize.SL.Sem

theorem frame_p : Cert.quiescent_Kernel := fun m ρ _ => Cert.Proof.Kernel.frame_main (F := Bits) m ρ

theorem frame_pi : Cert.quiescent_KernelIdeal := fun m ρ _ => Cert.Proof.KernelIdeal.frame_main (F := Ideal) m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl⟩

end Cert.Proof

end
-- ==== Proof.Flash.lean ====
/-
  The arithmetic of a softmax accumulated block by block, over the extended reals: a running maximum `m`, a running sum
  `l` and a running numerator `a`, both relative to the maximum.
-/
module

public import Idealize.ShloMosaic.PureOps.Ideal.Laws
public import Mathlib.Analysis.SpecialFunctions.Pow.Real

@[expose] public section

noncomputable section

namespace Cert.Proof.Flash

open Idealize.ShloMosaic

/-- The weight of a score in base 2: nothing for a masked one. -/
def wt (e : EReal) : ℝ := (Ideal.exp2 e).toReal

theorem wt_coe (x : ℝ) : wt (x : EReal) = (2 : ℝ) ^ x := rfl

theorem wt_bot : wt ⊥ = 0 := rfl

theorem exp2_sub {e : EReal} (he : e ≠ ⊤) (μ : ℝ) : Ideal.exp2 (e - (μ : EReal)) = ((wt e * (2 : ℝ) ^ (-μ) : ℝ) : EReal) := by
  induction e using EReal.rec with
  | bot => rw [EReal.bot_sub, wt_bot, zero_mul]; rfl
  | coe x =>
    rw [← EReal.coe_sub, wt_coe, ← Real.rpow_add two_pos, ← sub_eq_add_neg]; rfl
  | top => exact absurd rfl he

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The running sum and numerator of total weight `L` and weighted total `N`, relative to the running maximum. -/
def Rel (m l a : EReal) (L N : ℝ) : Prop :=
  (m = ⊥ ∧ l = 0 ∧ a = 0 ∧ L = 0 ∧ N = 0) ∨
    ∃ μ : ℝ, m = (μ : EReal) ∧ l = ((L * (2 : ℝ) ^ (-μ) : ℝ) : EReal) ∧ a = ((N * (2 : ℝ) ^ (-μ) : ℝ) : EReal)

/-- The largest of finitely many scores, not all masked, is a real. -/
theorem fold_max_real {n : ℕ} (e : Fin n → EReal) (ht : ∀ r, e r ≠ ⊤) (hb : ∃ r, e r ≠ ⊥) :
    ∃ ν : ℝ, (Finset.univ : Finset (Fin n)).fold max ⊥ e = (ν : EReal) := by
  have h1 : (Finset.univ : Finset (Fin n)).fold max ⊥ e ≠ ⊤ := by
    intro h
    have : (⊤ : EReal) ≤ (Finset.univ : Finset (Fin n)).fold max ⊥ e := h.symm.le
    rcases (Finset.le_fold_max _).1 this with h | ⟨r, _, h⟩
    · exact absurd h (by simp)
    · exact ht r (top_le_iff.1 h)
  have h2 : (Finset.univ : Finset (Fin n)).fold max ⊥ e ≠ ⊥ := by
    obtain ⟨r, hr⟩ := hb
    intro h
    have : e r ≤ (Finset.univ : Finset (Fin n)).fold max ⊥ e := (Finset.le_fold_max _).2 (.inr ⟨r, Finset.mem_univ _, le_rfl⟩)
    rw [h] at this
    exact hr (le_bot_iff.1 this)
  exact ⟨_, (EReal.coe_toReal h1 h2).symm⟩

/-- One more block of scores, with the values it weighs. -/
theorem Rel.step {n : ℕ} {m l a : EReal} {L N : ℝ} (h : Rel m l a L N) (e : Fin n → EReal) (v : Fin n → ℝ) (he : ∀ r, e r ≠ ⊤)
    (ν : ℝ) {m' : EReal} (hm' : m' = max m (ν : EReal)) :
    Rel m' (Ideal.exp2 (m - m') * l + ∑ r, Ideal.exp2 (e r - m')) (Ideal.exp2 (m - m') * a + ∑ r, (v r : EReal) * Ideal.exp2 (e r - m'))
      (L + ∑ r, wt (e r)) (N + ∑ r, v r * wt (e r)) := by
  obtain ⟨μ', hμ'⟩ : ∃ μ' : ℝ, m' = (μ' : EReal) := by
    rcases h with ⟨hm, _⟩ | ⟨μ, hm, _⟩
    · exact ⟨ν, by rw [hm', hm]; exact max_eq_right bot_le⟩
    · exact ⟨max μ ν, by rw [hm', hm]; exact (EReal.coe_strictMono.monotone.map_max).symm⟩
  have hs1 : (∑ r, Ideal.exp2 (e r - m')) = (((∑ r, wt (e r)) * (2 : ℝ) ^ (-μ') : ℝ) : EReal) := by
    rw [hμ', Finset.sum_mul, ← coe_sum]
    exact Finset.sum_congr rfl fun r _ => exp2_sub (he r) μ'
  have hs2 : (∑ r, (v r : EReal) * Ideal.exp2 (e r - m')) = (((∑ r, v r * wt (e r)) * (2 : ℝ) ^ (-μ') : ℝ) : EReal) := by
    rw [hμ', Finset.sum_mul, ← coe_sum]
    exact Finset.sum_congr rfl fun r _ => by rw [exp2_sub (he r) μ', ← EReal.coe_mul, mul_assoc]
  refine .inr ⟨μ', hμ', ?_, ?_⟩
  · rw [hs1]
    rcases h with ⟨hm, hl, _, hL, _⟩ | ⟨μ, hm, hl, _⟩
    · rw [hl, hL, mul_zero, zero_add, zero_add]
    · rw [hl, hm, hμ', exp2_sub (EReal.coe_ne_top μ), wt_coe, ← EReal.coe_mul, ← EReal.coe_add, add_mul]
      have : (2 : ℝ) ^ μ * (2 : ℝ) ^ (-μ) = 1 := by rw [← Real.rpow_add two_pos, add_neg_cancel, Real.rpow_zero]
      refine congrArg _ (congrArg (· + _) ?_)
      calc (2 : ℝ) ^ μ * 2 ^ (-μ') * (L * 2 ^ (-μ)) = (2 ^ μ * 2 ^ (-μ)) * (L * 2 ^ (-μ')) := by ring
        _ = _ := by rw [this, one_mul]
  · rw [hs2]
    rcases h with ⟨hm, _, ha, _, hN⟩ | ⟨μ, hm, _, ha⟩
    · rw [ha, hN, mul_zero, zero_add, zero_add]
    · rw [ha, hm, hμ', exp2_sub (EReal.coe_ne_top μ), wt_coe, ← EReal.coe_mul, ← EReal.coe_add, add_mul]
      have : (2 : ℝ) ^ μ * (2 : ℝ) ^ (-μ) = 1 := by rw [← Real.rpow_add two_pos, add_neg_cancel, Real.rpow_zero]
      refine congrArg _ (congrArg (· + _) ?_)
      calc (2 : ℝ) ^ μ * 2 ^ (-μ') * (N * 2 ^ (-μ)) = (2 ^ μ * 2 ^ (-μ)) * (N * 2 ^ (-μ')) := by ring
        _ = _ := by rw [this, one_mul]

/-- The numerator over the sum. -/
theorem Rel.quot {m l a : EReal} {L N : ℝ} (h : Rel m l a L N) (hL : 0 < L) : a * Ideal.div 1 l = ((N / L : ℝ) : EReal) := by
  rcases h with ⟨_, _, _, hL0, _⟩ | ⟨μ, _, hl, ha⟩
  · exact absurd hL0 hL.ne'
  · have hp : (2 : ℝ) ^ (-μ) ≠ 0 := (Real.rpow_pos_of_pos two_pos _).ne'
    rw [hl, ha, Ideal.div_coe (mul_ne_zero hL.ne' hp), one_mul, ← EReal.coe_mul]
    refine congrArg _ ?_
    field_simp

/-- The weight of a score in base e. -/
def ew (e : EReal) : ℝ := (Ideal.exp e).toReal

theorem ew_coe (x : ℝ) : ew (x : EReal) = Real.exp x := rfl

theorem ew_bot : ew ⊥ = 0 := rfl

theorem ew_nonneg (e : EReal) : 0 ≤ ew e := by
  induction e using EReal.rec with
  | bot => exact le_rfl
  | coe x => exact (Real.exp_pos x).le
  | top => exact le_rfl

theorem exp_sub {e : EReal} (he : e ≠ ⊤) (μ : ℝ) : Ideal.exp (e - (μ : EReal)) = ((ew e * Real.exp (-μ) : ℝ) : EReal) := by
  induction e using EReal.rec with
  | bot => rw [EReal.bot_sub, ew_bot, zero_mul]; rfl
  | coe x => rw [← EReal.coe_sub, ew_coe, ← Real.exp_add, ← sub_eq_add_neg]; rfl
  | top => exact absurd rfl he

/-- A softmax with its maximum taken off first is the quotient of the weights. -/
theorem softmax {n : ℕ} (e : Fin n → EReal) (ht : ∀ r, e r ≠ ⊤) (hb : ∃ r, e r ≠ ⊥) (r : Fin n) {M : EReal}
    (hM : M = (Finset.univ : Finset (Fin n)).fold max ⊥ e) :
    Ideal.div (Ideal.exp (e r - M)) (∑ k, Ideal.exp (e k - M)) = ((ew (e r) / ∑ k, ew (e k) : ℝ) : EReal) := by
  obtain ⟨ν, hν⟩ := fold_max_real e ht hb
  have hMν : M = (ν : EReal) := hM.trans hν
  have hs : (∑ k, Ideal.exp (e k - M)) = (((∑ k, ew (e k)) * Real.exp (-ν) : ℝ) : EReal) := by
    rw [hMν, Finset.sum_mul, ← coe_sum]
    exact Finset.sum_congr rfl fun k _ => exp_sub (ht k) ν
  have hpos : 0 < ∑ k, ew (e k) := by
    obtain ⟨r0, hr0⟩ := hb
    refine lt_of_lt_of_le ?_ (Finset.single_le_sum (fun k _ => ew_nonneg (e k)) (Finset.mem_univ r0))
    rw [← EReal.coe_toReal (ht r0) hr0, ew_coe]
    exact Real.exp_pos _
  have he : Real.exp (-ν) ≠ 0 := (Real.exp_pos _).ne'
  rw [hs, hMν, exp_sub (ht r), Ideal.div_coe (mul_ne_zero hpos.ne' he), ← EReal.coe_mul]
  refine congrArg _ ?_
  have := hpos.ne'
  field_simp

theorem wt_log2e (x : ℝ) : wt ((x * (Real.log 2)⁻¹ : ℝ) : EReal) = Real.exp x := by
  rw [wt_coe, Real.rpow_def_of_pos two_pos]
  refine congrArg _ ?_
  have : Real.log 2 ≠ 0 := (Real.log_pos one_lt_two).ne'
  field_simp

/-- A sum over `n` blocks of `k` is the sum over the first `n * k`. -/
theorem sum_blocks (k n : ℕ) (f : ℕ → ℝ) : ∑ t ∈ Finset.range n, ∑ r : Fin k, f (k * t + r.val) = ∑ j ∈ Finset.range (k * n), f j := by
  induction n with
  | zero => simp
  | succ n ih =>
    rw [Finset.sum_range_succ, ih, Nat.mul_succ, Finset.sum_range_add]
    exact congrArg _ (Fin.sum_univ_eq_sum_range (fun r => f (k * n + r)) k)

end Cert.Proof.Flash

end
-- ==== Proof.KernelIdealOps.lean ====
/-
  The attention kernel's tensor operations at the ideal values, read at an index.
-/
module

public import proofs.«01_k».proof.Proof.KernelIdealBody
public import proofs.«01_k».proof.Proof.Flash
public import Idealize.ShloMosaic.Lib.MatmulPlain
public import Idealize.ShloMosaic.Lib.ValueIdx
public import Idealize.ShloMosaic.Lib.Pipeline.Value
public import Idealize.ShloMosaic.PureOps.IdealRules

@[expose] public section

set_option maxRecDepth 16384

noncomputable section

namespace Cert.Proof.KernelIdeal

open Cert.KernelIdeal Cert.KernelIdeal.Gen Cert.Proof.Flash
open Idealize.ShloMosaic Idealize.ShloMosaic.ValueIdx Idealize.ShloMosaic.TcCoe

/-! ## The operations -/

/-- Scores of a key block against the queries. -/
def sc (K : FVec Ideal S512x128 .bf16) (QT : FVec Ideal S128x1024 .bf16) : FVec Ideal S512x1024 .f32 :=
  matmul dot_S512x128_S128x1024_S512x1024_1_0_0_1_n_n none K QT (constant S512x1024 .f32 0x00000000#32)

/-- Column maxima. -/
def cmx (s : FVec Ideal S512x1024 .f32) : FVec Ideal S1x1024 .f32 :=
  shapeCast S1x1024 (multiReduction .maximumf [0] S1024 s 0xFF800000#32 reduces_S512x1024_S1024 (.inl rfl) rfl) shapeCasts_S1024_S1x1024

/-- Column sums. -/
def csm (s : FVec Ideal S512x1024 .f32) : FVec Ideal S1x1024 .f32 :=
  shapeCast S1x1024 (multiReduction .add [0] S1024 s 0x00000000#32 reduces_S512x1024_S1024 (.inl rfl) rfl) shapeCasts_S1024_S1x1024

/-- The new running maximum. -/
def mN (t m : FVec Ideal S1x1024 .f32) : FVec Ideal S1x1024 .f32 := maximumf m t

/-- The rescaling of what has been accumulated. -/
def alN (t m : FVec Ideal S1x1024 .f32) : FVec Ideal S1x1024 .f32 := exp2 (subf m (mN t m))

/-- The block's weights. -/
def pN (s : FVec Ideal S512x1024 .f32) (t m : FVec Ideal S1x1024 .f32) : FVec Ideal S512x1024 .f32 :=
  exp2 (subf s (broadcastTo S512x1024 (mN t m) broadcasts_S1x1024_S512x1024))

/-- The same, as the values' product takes them. -/
def pB (s : FVec Ideal S512x1024 .f32) (t m : FVec Ideal S1x1024 .f32) : FVec Ideal S512x1024 .bf16 := truncf .bf16 (pN s t m) bitsLt_bf16_f32

/-- The new running sum. -/
def lN (s : FVec Ideal S512x1024 .f32) (t m l : FVec Ideal S1x1024 .f32) : FVec Ideal S1x1024 .f32 :=
  addf (mulf (alN t m) l) (csm (pN s t m))

/-- The new running numerator. -/
def aN (V : FVec Ideal S1x128x512 .bf16) (p : FVec Ideal S512x1024 .bf16) (al : FVec Ideal S1x1024 .f32) (acc : FVec Ideal S128x1024 .f32) :
    FVec Ideal S128x1024 .f32 :=
  addf (mulf (broadcastTo S128x1024 al broadcasts_S1x1024_S128x1024) acc)
    (matmul dot_S128x512_S512x1024_S128x1024_1_0_0_1_n_n none (shapeCast S128x512 V shapeCasts_S1x128x512_S128x512) p
      (constant S128x1024 .f32 0x00000000#32))

/-! ## The stored values as these operations -/

theorem pay14_eq (K : FVec Ideal S512x128 .bf16) (QT : FVec Ideal S128x1024 .bf16) : k0_pay14 (F := Ideal) K QT = sc K QT := by
  simp only [k0_pay14, k0_pay13, shapeCast_self]; rfl
theorem pay26_eq (K : FVec Ideal S512x128 .bf16) (QT : FVec Ideal S128x1024 .bf16) : k0_pay26 (F := Ideal) K QT = sc K QT := by
  simp only [k0_pay26, k0_pay25, shapeCast_self]; rfl
theorem pay57_eq (K : FVec Ideal S512x128 .bf16) (QT : FVec Ideal S128x1024 .bf16) : k0_pay57 (F := Ideal) K QT = sc K QT := by
  simp only [k0_pay57, k0_pay56, shapeCast_self]; rfl
theorem pay84_eq (K : FVec Ideal S512x128 .bf16) (QT : FVec Ideal S128x1024 .bf16) : k0_pay84 (F := Ideal) K QT = sc K QT := by
  simp only [k0_pay84, k0_pay83, shapeCast_self]; rfl

theorem pay15_eq (K : FVec Ideal S512x128 .bf16) (QT : FVec Ideal S128x1024 .bf16) : k0_pay15 (F := Ideal) K QT = cmx (sc K QT) := by
  simp only [k0_pay15, k0_pay13, shapeCast_self]; rfl
theorem pay27_eq (K : FVec Ideal S512x128 .bf16) (QT : FVec Ideal S128x1024 .bf16) : k0_pay27 (F := Ideal) K QT = cmx (sc K QT) := by
  simp only [k0_pay27, k0_pay25, shapeCast_self]; rfl
theorem pay85_eq (K : FVec Ideal S512x128 .bf16) (QT : FVec Ideal S128x1024 .bf16) : k0_pay85 (F := Ideal) K QT = cmx (sc K QT) := by
  simp only [k0_pay85, k0_pay83, shapeCast_self]; rfl

theorem pay17_eq (V : FVec Ideal S1x128x512 .bf16) (p : FVec Ideal S512x1024 .bf16) (al : FVec Ideal S1x1024 .f32) (acc : FVec Ideal S128x1024 .f32) :
    k0_pay17 (F := Ideal) (k0_pay16 (F := Ideal) V p al acc) = aN V p al acc := by
  simp only [k0_pay17, k0_pay16, shapeCast_self]; rfl
theorem pay28_eq (V : FVec Ideal S1x128x512 .bf16) (p : FVec Ideal S512x1024 .bf16) (al : FVec Ideal S1x1024 .f32) (acc : FVec Ideal S128x1024 .f32) :
    k0_pay28 (F := Ideal) V p al acc = aN V p al acc := by
  simp only [k0_pay28, shapeCast_self]; rfl
theorem pay45_eq (V : FVec Ideal S1x128x512 .bf16) (p : FVec Ideal S512x1024 .bf16) (al : FVec Ideal S1x1024 .f32) (acc : FVec Ideal S128x1024 .f32) :
    k0_pay45 (F := Ideal) V p al acc = aN V p al acc := by
  simp only [k0_pay45, shapeCast_self]; rfl
theorem pay59_eq (V : FVec Ideal S1x128x512 .bf16) (p : FVec Ideal S512x1024 .bf16) (al : FVec Ideal S1x1024 .f32) (acc : FVec Ideal S128x1024 .f32) :
    k0_pay59 (F := Ideal) V p al acc = aN V p al acc := by
  simp only [k0_pay59, shapeCast_self]; rfl
theorem pay100_eq (V : FVec Ideal S1x128x512 .bf16) (p : FVec Ideal S512x1024 .bf16) (al : FVec Ideal S1x1024 .f32) (acc : FVec Ideal S128x1024 .f32) :
    k0_pay100 (F := Ideal) (k0_pay55 (F := Ideal) al acc V p) = aN V p al acc := by
  simp only [k0_pay100, k0_pay55, shapeCast_self]; rfl
theorem pay68_eq (V : FVec Ideal S1x128x512 .bf16) (p : FVec Ideal S512x1024 .bf16) (al : FVec Ideal S1x1024 .f32) (acc : FVec Ideal S128x1024 .f32) :
    k0_pay68 (F := Ideal) (k0_pay67 (F := Ideal) V) p al acc = aN V p al acc := by
  simp only [k0_pay68, k0_pay67, shapeCast_self]; rfl
theorem pay105_eq (V : FVec Ideal S1x128x512 .bf16) (p : FVec Ideal S512x1024 .bf16) (al : FVec Ideal S1x1024 .f32) (acc : FVec Ideal S128x1024 .f32) :
    k0_pay105 (F := Ideal) al acc V p = aN V p al acc := by
  simp only [k0_pay105, shapeCast_self]; rfl

theorem pay22_eq (t m : FVec Ideal S1x1024 .f32) : k0_pay22 (F := Ideal) t m = mN t m := by simp only [k0_pay22, k0_pay18, shapeCast_self]; rfl
theorem pay64_eq (t m : FVec Ideal S1x1024 .f32) : k0_pay64 (F := Ideal) t m = mN t m := by simp only [k0_pay64, k0_pay60, shapeCast_self]; rfl
theorem pay90_eq (t m : FVec Ideal S1x1024 .f32) : k0_pay90 (F := Ideal) t m = mN t m := by simp only [k0_pay90, k0_pay86, shapeCast_self]; rfl

theorem pay24_eq (t m : FVec Ideal S1x1024 .f32) : k0_pay24 (F := Ideal) t m = alN t m := by simp only [k0_pay24, k0_pay19, k0_pay18, shapeCast_self]; rfl
theorem pay54_eq (t m : FVec Ideal S1x1024 .f32) : k0_pay54 (F := Ideal) t m = alN t m := by simp only [k0_pay54, k0_pay49, k0_pay48, shapeCast_self]; rfl
theorem pay66_eq (t m : FVec Ideal S1x1024 .f32) : k0_pay66 (F := Ideal) t m = alN t m := by simp only [k0_pay66, k0_pay61, k0_pay60, shapeCast_self]; rfl
theorem pay92_eq (t m : FVec Ideal S1x1024 .f32) : k0_pay92 (F := Ideal) t m = alN t m := by simp only [k0_pay92, k0_pay87, k0_pay86, shapeCast_self]; rfl

theorem pay23_eq (s : FVec Ideal S512x1024 .f32) (t m : FVec Ideal S1x1024 .f32) : k0_pay23 (F := Ideal) s t m = pB s t m := by
  simp only [k0_pay23, k0_pay20, k0_pay18, shapeCast_self]; rfl
theorem pay53_eq (s : FVec Ideal S512x1024 .f32) (t m : FVec Ideal S1x1024 .f32) : k0_pay53 (F := Ideal) s t m = pB s t m := by
  simp only [k0_pay53, k0_pay50, k0_pay48, shapeCast_self]; rfl
theorem pay65_eq (s : FVec Ideal S512x1024 .f32) (t m : FVec Ideal S1x1024 .f32) : k0_pay65 (F := Ideal) s t m = pB s t m := by
  simp only [k0_pay65, k0_pay62, k0_pay60, shapeCast_self]; rfl
theorem pay91_eq (s : FVec Ideal S512x1024 .f32) (t m : FVec Ideal S1x1024 .f32) : k0_pay91 (F := Ideal) s t m = pB s t m := by
  simp only [k0_pay91, k0_pay88, k0_pay86, shapeCast_self]; rfl

theorem pay21_eq (s : FVec Ideal S512x1024 .f32) (t m l : FVec Ideal S1x1024 .f32) : k0_pay21 (F := Ideal) s t m l = lN s t m l := by
  simp only [k0_pay21, k0_pay20, k0_pay19, k0_pay18, shapeCast_self]; rfl
theorem pay51_eq (s : FVec Ideal S512x1024 .f32) (t m l : FVec Ideal S1x1024 .f32) : k0_pay51 (F := Ideal) s t m l = lN s t m l := by
  simp only [k0_pay51, k0_pay50, k0_pay49, k0_pay48, shapeCast_self]; rfl
theorem pay63_eq (s : FVec Ideal S512x1024 .f32) (t m l : FVec Ideal S1x1024 .f32) : k0_pay63 (F := Ideal) s t m l = lN s t m l := by
  simp only [k0_pay63, k0_pay62, k0_pay61, k0_pay60, shapeCast_self]; rfl
theorem pay89_eq (s : FVec Ideal S512x1024 .f32) (t m l : FVec Ideal S1x1024 .f32) : k0_pay89 (F := Ideal) s t m l = lN s t m l := by
  simp only [k0_pay89, k0_pay88, k0_pay87, k0_pay86, shapeCast_self]; rfl

/-- The diagonal block's scores, those of later keys masked. -/
abbrev msk (arg2 : BitVec 32) (s : FVec Ideal S512x1024 .f32) : FVec Ideal S512x1024 .f32 := k0_pay46 (F := Ideal) arg2 s

theorem pay47_eq (arg2 : BitVec 32) (s : FVec Ideal S512x1024 .f32) : k0_pay47 (F := Ideal) arg2 s = cmx (msk arg2 s) := by simp only [k0_pay47]; rfl

theorem pay69_eq (arg2 : BitVec 32) (s : FVec Ideal S512x1024 .f32) : k0_pay69 (F := Ideal) arg2 s = msk arg2 s := by simp only [k0_pay69, msk, k0_pay46]

theorem pay70_eq (arg2 : BitVec 32) (s : FVec Ideal S512x1024 .f32) (m : FVec Ideal S1x1024 .f32) :
    k0_pay70 (F := Ideal) arg2 s m = mN (cmx (msk arg2 s)) m := by simp only [k0_pay70, pay69_eq]; rfl

theorem pay72_eq (arg2 : BitVec 32) (s : FVec Ideal S512x1024 .f32) (m : FVec Ideal S1x1024 .f32) :
    k0_pay72 (F := Ideal) arg2 s m = pN (msk arg2 s) (cmx (msk arg2 s)) m := by simp only [k0_pay72, pay69_eq, pay70_eq]; rfl

theorem pay103_eq (arg2 : BitVec 32) (s : FVec Ideal S512x1024 .f32) (m : FVec Ideal S1x1024 .f32) :
    k0_pay103 (F := Ideal) (k0_pay72 (F := Ideal) arg2 s m) = pB (msk arg2 s) (cmx (msk arg2 s)) m := by
  simp only [k0_pay103, pay72_eq, shapeCast_self]; rfl

theorem pay104_eq (arg2 : BitVec 32) (s : FVec Ideal S512x1024 .f32) (m : FVec Ideal S1x1024 .f32) :
    k0_pay104 (F := Ideal) (k0_pay71 (F := Ideal) arg2 s m) = alN (cmx (msk arg2 s)) m := by
  simp only [k0_pay104, k0_pay71, pay70_eq, shapeCast_self]; rfl

theorem pay101_eq (arg2 : BitVec 32) (s : FVec Ideal S512x1024 .f32) (m l : FVec Ideal S1x1024 .f32) :
    k0_pay101 (F := Ideal) (k0_pay72 (F := Ideal) arg2 s m) (k0_pay73 (F := Ideal) arg2 s m l) = lN (msk arg2 s) (cmx (msk arg2 s)) m l := by
  simp only [k0_pay101, k0_pay73, k0_pay71, pay70_eq, pay72_eq, shapeCast_self]; rfl

/-! ## Read at an index -/

theorem sc_apply (K : FVec Ideal S512x128 .bf16) (QT : FVec Ideal S128x1024 .bf16) (r : Fin 512) (c : Fin 1024) :
    sc K QT (ix2 r c) = ∑ d : Fin 128, K (ix2 r d) * QT (ix2 d c) := by
  refine (Ideal.matmul_plain_apply (M := 512) (K := 128) (N := 1024) none K QT (constant S512x1024 .f32 0x00000000#32) r c).trans ?_
  show Ideal.ofBits .f32 0x00000000#32 + _ = _
  rw [Ideal.ofBits_zero_f32, zero_add]

theorem lift_ix (r : Fin 512) (c : Fin 1024) :
    reduces_S512x1024_S1024.lift (ix1 c) r = (ix2 r c : S512x1024.Idx) := by
  funext a; apply Fin.ext
  match a with
  | ⟨0, _⟩ => rfl
  | ⟨1, _⟩ => rfl

theorem row_cast (x : FVec Ideal S1024 .f32) (c : Fin 1024) :
    shapeCast S1x1024 x shapeCasts_S1024_S1x1024 (ix2 0 c) = x (ix1 c) :=
  shapeCast_apply _ _ _ (ix1 c) (by
    rw [Shape.rowMajor_val_one, Shape.rowMajor_val_two]
    show c.val = 0 * 1024 + c.val
    omega)

theorem ofBits_ninf : Ideal.ofBits .f32 0xFF800000#32 = ⊥ := by simp [Ideal.ofBits, Ideal.ieee]

theorem cmx_apply (s : FVec Ideal S512x1024 .f32) (c : Fin 1024) :
    cmx s (ix2 0 c) = (Finset.univ : Finset (Fin 512)).fold max ⊥ (fun r => s (ix2 r c)) := by
  refine (row_cast _ c).trans ?_
  refine (Ideal.multiReduction_maximumf_single s _ _ _ _ _).trans ?_
  rw [show (FloatOps.ofBits .f32 0xFF800000#32 : Ideal .f32) = ⊥ from ofBits_ninf]
  exact congrArg (fun f => (Finset.univ : Finset (Fin 512)).fold max ⊥ f) (funext fun r => congrArg s (lift_ix r c))

theorem csm_apply (s : FVec Ideal S512x1024 .f32) (c : Fin 1024) : csm s (ix2 0 c) = ∑ r : Fin 512, s (ix2 r c) := by
  refine (row_cast _ c).trans ?_
  refine (Ideal.multiReduction_add_single s _ _ _ _ _).trans ?_
  exact Finset.sum_congr rfl fun r _ => congrArg s (lift_ix r c)

theorem mN_apply (t m : FVec Ideal S1x1024 .f32) (j : S1x1024.Idx) : mN t m j = max (m j) (t j) := rfl

theorem alN_apply (t m : FVec Ideal S1x1024 .f32) (j : S1x1024.Idx) : alN t m j = Ideal.exp2 (m j - mN t m j) := rfl

theorem pN_apply (s : FVec Ideal S512x1024 .f32) (t m : FVec Ideal S1x1024 .f32) (r : Fin 512) (c : Fin 1024) :
    pN s t m (ix2 r c) = Ideal.exp2 (s (ix2 r c) - mN t m (ix2 0 c)) := by
  show Ideal.exp2 (s (ix2 r c) - broadcastTo S512x1024 (mN t m) broadcasts_S1x1024_S512x1024 (ix2 r c)) = _
  rw [broadcastTo_apply (mN t m) broadcasts_S1x1024_S512x1024 (ix2 r c) (ix2 0 c) (fun a => by match a with | ⟨0, _⟩ => rfl | ⟨1, _⟩ => rfl)]

theorem pB_apply (s : FVec Ideal S512x1024 .f32) (t m : FVec Ideal S1x1024 .f32) (r : Fin 512) (c : Fin 1024) :
    pB s t m (ix2 r c) = Ideal.exp2 (s (ix2 r c) - mN t m (ix2 0 c)) := pN_apply s t m r c

theorem lN_apply (s : FVec Ideal S512x1024 .f32) (t m l : FVec Ideal S1x1024 .f32) (c : Fin 1024) :
    lN s t m l (ix2 0 c) = Ideal.exp2 (m (ix2 0 c) - mN t m (ix2 0 c)) * l (ix2 0 c) + ∑ r : Fin 512, Ideal.exp2 (s (ix2 r c) - mN t m (ix2 0 c)) := by
  show alN t m (ix2 0 c) * l (ix2 0 c) + csm (pN s t m) (ix2 0 c) = _
  rw [csm_apply]
  exact congrArg _ (Finset.sum_congr rfl fun r _ => pN_apply s t m r c)

theorem aN_apply (V : FVec Ideal S1x128x512 .bf16) (p : FVec Ideal S512x1024 .bf16) (al : FVec Ideal S1x1024 .f32) (acc : FVec Ideal S128x1024 .f32)
    (d : Fin 128) (c : Fin 1024) :
    aN V p al acc (ix2 d c) = al (ix2 0 c) * acc (ix2 d c) + ∑ r : Fin 512, V (ix3 0 d r) * p (ix2 r c) := by
  show broadcastTo S128x1024 al broadcasts_S1x1024_S128x1024 (ix2 d c) * acc (ix2 d c) + matmul dot_S128x512_S512x1024_S128x1024_1_0_0_1_n_n none
    (shapeCast S128x512 V shapeCasts_S1x128x512_S128x512) p (constant S128x1024 .f32 0x00000000#32) (ix2 d c) = _
  rw [broadcastTo_apply al broadcasts_S1x1024_S128x1024 (ix2 d c) (ix2 0 c) (fun a => by match a with | ⟨0, _⟩ => rfl | ⟨1, _⟩ => rfl)]
  refine congrArg _ ?_
  refine (Ideal.matmul_plain_apply (M := 128) (K := 512) (N := 1024) none _ p (constant S128x1024 .f32 0x00000000#32) d c).trans ?_
  show Ideal.ofBits .f32 0x00000000#32 + _ = _
  rw [Ideal.ofBits_zero_f32, zero_add]
  refine Finset.sum_congr rfl fun r _ => congrArg (· * _) ?_
  exact shapeCast_apply V shapeCasts_S1x128x512_S128x512 (ix2 d r) (ix3 0 d r) (by
    rw [Shape.rowMajor_val_three, Shape.rowMajor_val_two]
    show (0 * 128 + d.val) * 512 + r.val = d.val * 512 + r.val
    omega)

/-! ## The accumulation over blocks -/

/-- What the running maximum, sum and numerator hold once the weights not yet multiplied with their values are added. -/
def Good (V : FVec Ideal S1x128x512 .bf16) (m l al : FVec Ideal S1x1024 .f32) (acc : FVec Ideal S128x1024 .f32) (pb : FVec Ideal S512x1024 .bf16)
    (L : Fin 1024 → ℝ) (N : Fin 128 → Fin 1024 → ℝ) : Prop :=
  ∀ d c, Rel (m (ix2 0 c)) (l (ix2 0 c)) (aN V pb al acc (ix2 d c)) (L c) (N d c)

theorem Good.step {V : FVec Ideal S1x128x512 .bf16} {m l al : FVec Ideal S1x1024 .f32} {acc : FVec Ideal S128x1024 .f32}
    {pb : FVec Ideal S512x1024 .bf16} {L : Fin 1024 → ℝ} {N : Fin 128 → Fin 1024 → ℝ} (h : Good V m l al acc pb L N)
    (e : FVec Ideal S512x1024 .f32) (V' : FVec Ideal S1x128x512 .bf16) (v : Fin 128 → Fin 512 → ℝ)
    (ht : ∀ (r : Fin 512) (c : Fin 1024), e (ix2 r c) ≠ ⊤) (hb : ∀ c : Fin 1024, ∃ r : Fin 512, e (ix2 r c) ≠ ⊥)
    (hv : ∀ (d : Fin 128) (r : Fin 512), V' (ix3 0 d r) = (v d r : EReal)) :
    Good V' (mN (cmx e) m) (lN e (cmx e) m l) (alN (cmx e) m) (aN V pb al acc) (pB e (cmx e) m)
      (fun c => L c + ∑ r : Fin 512, wt (e (ix2 r c))) (fun d c => N d c + ∑ r : Fin 512, v d r * wt (e (ix2 r c))) := by
  intro d c
  obtain ⟨ν, hν⟩ := fold_max_real (fun r : Fin 512 => e (ix2 r c)) (fun r => ht r c) (hb c)
  have hm : mN (cmx e) m (ix2 0 c) = max (m (ix2 0 c)) (ν : EReal) := by rw [mN_apply, cmx_apply, hν]
  have := (h d c).step (fun r : Fin 512 => e (ix2 r c)) (fun r => v d r) (fun r => ht r c) ν hm
  rw [lN_apply, aN_apply]
  rw [alN_apply]
  have e2 : (∑ r : Fin 512, V' (ix3 0 d r) * pB e (cmx e) m (ix2 r c)) = ∑ r : Fin 512, (v d r : EReal) * Ideal.exp2 (e (ix2 r c) - mN (cmx e) m (ix2 0 c)) :=
    Finset.sum_congr rfl fun r _ => by rw [hv, pB_apply]
  rw [e2]
  exact this

end Cert.Proof.KernelIdeal

end
-- ==== Proof.KernelIdealLayout.lean ====
/-
  How the kernel lays out its queries and values, and where its key blocks lie, at the ideal values.
-/
module

public import proofs.«01_k».proof.Proof.KernelIdealOps
public import proofs.«01_k».proof.Proof.KernelIdealRun
public import Idealize.ShloMosaic.Lib.WordCmp

@[expose] public section

set_option maxRecDepth 16384

noncomputable section

namespace Cert.Proof.KernelIdeal

open Cert.KernelIdeal Cert.KernelIdeal.Gen Cert.Proof.Flash
open Idealize.ShloMosaic Idealize.ShloMosaic.ValueIdx Idealize.ShloMosaic.TcCoe

/-! ## Offsets in closed form -/

/-- The block of values before block `j`: before the first, the block of zeros. -/
def prev (j : ℕ) : ℕ := if j = 0 then 8 else j - 1

theorem trips_eq : ∀ i : grid0.Coords, (k0_t1_loop i).trips = (i 2).val / 2 := by decide +kernel
theorem off1_eq : ∀ (i : grid0.Coords) (k : Fin (k0_t1_loop i).trips), k0_off1 i k = ![512 * (2 * k.val + 1), 0] := by decide +kernel
theorem off2_eq : ∀ (i : grid0.Coords) (k : Fin (k0_t1_loop i).trips), k0_off2 i k = ![prev (2 * k.val), 0, 0] := by decide +kernel
theorem off3_eq : ∀ (i : grid0.Coords) (k : Fin (k0_t1_loop i).trips), k0_off3 i k = ![512 * (2 * k.val + 2), 0] := by decide +kernel
theorem off4_eq : ∀ (i : grid0.Coords) (k : Fin (k0_t1_loop i).trips), k0_off4 i k = ![2 * k.val, 0, 0] := by decide +kernel
theorem off9_eq : ∀ i : grid0.Coords, k0_cond2 i = 1#1 → k0_off9 i = ![prev (i 2).val, 0, 0] := by decide +kernel
theorem off12_eq : ∀ i : grid0.Coords, k0_cond3 i = 1#1 → k0_off12 i = ![prev ((i 2).val - 1), 0, 0] := by decide +kernel
theorem off13_eq : ∀ i : grid0.Coords, k0_cond3 i = 1#1 → k0_off13 i = ![(i 2).val - 1, 0, 0] := by decide +kernel
theorem cond2_iff : ∀ i : grid0.Coords, k0_cond2 i = 1#1 ↔ (i 2).val % 2 = 0 := by decide +kernel
theorem cond3_iff : ∀ i : grid0.Coords, k0_cond3 i = 1#1 ↔ (i 2).val % 2 = 1 := by decide +kernel

/-! ## Windows read at an index -/

theorem kwin_apply {α : Type} (K : S4096x128.Idx → α) (off : Fin 2 → ℕ) (inb : ∀ a, off a + S512x128.size a ≤ S4096x128.size a) (j : ℕ)
    (h : off = ![512 * j, 0]) (r : Fin 512) (d : Fin 128) (hj : 512 * j + r.val < 4096) :
    VecWindow.window K off S512x128.size inb (ix2 r d) = K (ix2 ⟨512 * j + r.val, hj⟩ d) := by
  subst h
  refine congrArg K (funext fun a => Fin.ext ?_)
  match a with
  | ⟨0, _⟩ => show 512 * j + 1 * r.val = 512 * j + r.val; omega
  | ⟨1, _⟩ => show 0 + 1 * d.val = d.val; omega

theorem vwin_apply {α : Type} (VT : S9x128x512.Idx → α) (off : Fin 3 → ℕ) (inb : ∀ a, off a + S1x128x512.size a ≤ S9x128x512.size a) (j : ℕ)
    (h : off = ![j, 0, 0]) (d : Fin 128) (r : Fin 512) (hj : j < 9) :
    VecWindow.window VT off S1x128x512.size inb (ix3 0 d r) = VT (ix3 ⟨j, hj⟩ d r) := by
  subst h
  refine congrArg VT (funext fun a => Fin.ext ?_)
  match a with
  | ⟨0, _⟩ => show j + 1 * 0 = j; omega
  | ⟨1, _⟩ => show 0 + 1 * d.val = d.val; omega
  | ⟨2, _⟩ => show 0 + 1 * r.val = r.val; omega

theorem put_slice {α : Type} (f : S9x128x512.Idx → α) (k : ℕ) (w : S1x128x512.Idx → α) (j : Fin 9) (d : Fin 128) (r : Fin 512) :
    VecWindow.put f ![k, 0, 0] S1x128x512.size w (ix3 j d r) = if j.val = k then w (ix3 0 d r) else f (ix3 j d r) := by
  have hd := d.isLt
  have hr := r.isLt
  unfold VecWindow.put
  by_cases h : j.val = k
  · rw [if_pos h, dif_pos (fun a => by
      match a with
      | ⟨0, _⟩ => exact ⟨by show k ≤ j.val; omega, by show j.val < k + 1; omega⟩
      | ⟨1, _⟩ => exact ⟨by show 0 ≤ d.val; omega, by show d.val < 0 + 128; omega⟩
      | ⟨2, _⟩ => exact ⟨by show 0 ≤ r.val; omega, by show r.val < 0 + 512; omega⟩)]
    refine congrArg w (funext fun a => Fin.ext ?_)
    match a with
    | ⟨0, _⟩ => show j.val - k = 0; omega
    | ⟨1, _⟩ => show d.val - 0 = d.val; omega
    | ⟨2, _⟩ => show r.val - 0 = r.val; omega
  · rw [if_neg h, dif_neg (fun hk => h (by
      have := hk 0
      have h1 : k ≤ j.val := this.1
      have h2 : j.val < k + 1 := this.2
      omega))]

theorem put_val {α : Type} (f : S9x128x512.Idx → α) (k : ℕ) (w : S1x128x512.Idx → α) (j : Fin 9) (d : Fin 128) (r : Fin 512) (y : α)
    (h1 : j.val = k → w (ix3 0 d r) = y) (h2 : j.val ≠ k → f (ix3 j d r) = y) : VecWindow.put f ![k, 0, 0] S1x128x512.size w (ix3 j d r) = y := by
  rw [put_slice]
  by_cases h : j.val = k
  · rw [if_pos h, h1 h]
  · rw [if_neg h, h2 h]

theorem pay2_apply (x : FVec Ideal S512x128 .bf16) (d : Fin 128) (r : Fin 512) : k0_pay2 (F := Ideal) x (ix3 0 d r) = x (ix2 r d) := by
  unfold k0_pay2
  refine (shapeCast_apply _ _ (ix3 0 d r) (ix2 d r) (by
    rw [Shape.rowMajor_val_two, Shape.rowMajor_val_three]
    show d.val * 512 + r.val = (0 * 128 + d.val) * 512 + r.val
    omega)).trans ?_
  exact transpose_apply [1, 0] _ transposes_S512x128_p1_0_S128x512 (ix2 d r) (ix2 r d) (fun b => by
    match b with
    | ⟨0, _⟩ => rfl
    | ⟨1, _⟩ => rfl)

theorem ofBits_zero_bf16 : Ideal.ofBits .bf16 0x0000#16 = 0 := by simp [Ideal.ofBits, Ideal.ieee]

theorem pay11_apply (d : Fin 128) (r : Fin 512) : k0_pay11 (F := Ideal) (ix3 0 d r) = (0 : EReal) := ofBits_zero_bf16

/-- The values of block `j`, as reals: block 8 is the block of zeros. -/
def vr (v : ℕ → ℕ → ℝ) (j d r : ℕ) : ℝ := if j < 8 then v (512 * j + r) d else 0

theorem vtOf_apply (V : FVec Ideal S4096x128 .bf16) (v : ℕ → ℕ → ℝ) (hV : ∀ (κ : Fin 4096) (d : Fin 128), V (ix2 κ d) = (v κ.val d.val : EReal))
    (j : Fin 9) (d : Fin 128) (r : Fin 512) : vtOf (F := Ideal) V (ix3 j d r) = (vr v j.val d.val r.val : EReal) := by
  have hr := r.isLt
  have hw : ∀ (off : Fin 2 → ℕ) (inb : ∀ a, off a + S512x128.size a ≤ S4096x128.size a) (n : ℕ) (h : off = ![512 * n, 0]) (hn : n < 8),
      k0_pay2 (F := Ideal) (VecWindow.window V off S512x128.size inb) (ix3 0 d r) = (vr v n d.val r.val : EReal) := by
    intro off inb n h hn
    rw [pay2_apply, kwin_apply V off inb n h r d (by omega), hV, vr, if_pos hn]
  have j9 := j.isLt
  have hv : ∀ n, j.val = n → vr v n d.val r.val = vr v j.val d.val r.val := fun n e => by rw [e]
  unfold vtOf
  refine put_val _ 8 _ j d r _ (fun e => (pay11_apply d r).trans ?_) fun n8 => ?_
  · rw [vr, if_neg (by omega)]; rfl
  refine put_val _ 7 _ j d r _ (fun e => (hw ![3584, 0] _ 7 rfl (by omega)).trans (congrArg _ (hv 7 e))) fun n7 => ?_
  refine put_val _ 6 _ j d r _ (fun e => (hw ![3072, 0] _ 6 rfl (by omega)).trans (congrArg _ (hv 6 e))) fun n6 => ?_
  refine put_val _ 5 _ j d r _ (fun e => (hw ![2560, 0] _ 5 rfl (by omega)).trans (congrArg _ (hv 5 e))) fun n5 => ?_
  refine put_val _ 4 _ j d r _ (fun e => (hw ![2048, 0] _ 4 rfl (by omega)).trans (congrArg _ (hv 4 e))) fun n4 => ?_
  refine put_val _ 3 _ j d r _ (fun e => (hw ![1536, 0] _ 3 rfl (by omega)).trans (congrArg _ (hv 3 e))) fun n3 => ?_
  refine put_val _ 2 _ j d r _ (fun e => (hw ![1024, 0] _ 2 rfl (by omega)).trans (congrArg _ (hv 2 e))) fun n2 => ?_
  refine put_val _ 1 _ j d r _ (fun e => (hw ![512, 0] _ 1 rfl (by omega)).trans (congrArg _ (hv 1 e))) fun n1 => ?_
  refine put_val _ 0 _ j d r _ (fun e => (hw ![0, 0] _ 0 rfl (by omega)).trans (congrArg _ (hv 0 e))) fun n0 => ?_
  omega

/-! ## The queries' layout -/

/-- The scaled query entry at feature `d` of column `c`: the left half has the first map's features, the right half the second's. -/
def qt (q : ℕ → ℕ → ℝ) (d c : ℕ) : ℝ :=
  if c < 512 then (if d < 64 then q c d * (Real.log 2)⁻¹ else 0) else (if d < 64 then 0 else q (c - 512) d * (Real.log 2)⁻¹)

theorem put_half {α : Type} (f : S128x1024.Idx → α) (w : S128x512.Idx → α) (k : ℕ) (d : Fin 128) (c : Fin 1024) :
    VecWindow.put f ![0, k] S128x512.size w (ix2 d c) = if h : k ≤ c.val ∧ c.val < k + 512 then w (ix2 d ⟨c.val - k, by omega⟩) else f (ix2 d c) := by
  have hd := d.isLt
  unfold VecWindow.put
  by_cases h : k ≤ c.val ∧ c.val < k + 512
  · rw [dif_pos h, dif_pos (fun a => by
      match a with
      | ⟨0, _⟩ => exact ⟨by show 0 ≤ d.val; omega, by show d.val < 0 + 128; omega⟩
      | ⟨1, _⟩ => exact h)]
    refine congrArg w (funext fun a => Fin.ext ?_)
    match a with
    | ⟨0, _⟩ => show d.val - 0 = d.val; omega
    | ⟨1, _⟩ => rfl
  · rw [dif_neg h, dif_neg (fun hk => h (hk 1))]

theorem log2e_named : Named.named (F := Ideal) κ "log2e" (φ := .f32) 0x3FB8AA3B#32 = (((Real.log 2)⁻¹ : ℝ) : EReal) :=
  IdealRules.named_const.ideal_named_scalar κ "log2e" _ _ rfl

theorem mask_named : Named.named (F := Ideal) κ "mask" (φ := .f32) 0xF149F2CA#32 = (⊥ : EReal) :=
  IdealRules.named_const.ideal_named_scalar κ "mask" _ _ rfl

theorem pay74_apply (Q : FVec Ideal S512x128 .bf16) (d : Fin 128) (c : Fin 512) :
    k0_pay74 (F := Ideal) Q (ix2 d c) = Q (ix2 c d) * (((Real.log 2)⁻¹ : ℝ) : EReal) := by
  have h : k0_pay74 (F := Ideal) Q = mulf (transpose S128x512 [1, 0] (extf .f32 Q) transposes_S512x128_p1_0_S128x512)
      (broadcast S128x512 (Named.named (F := Ideal) κ "log2e" (φ := .f32) 0x3FB8AA3B#32)) := by
    simp only [k0_pay74]
  have ht := transpose_apply [1, 0] (extf (F := Ideal) .f32 Q) transposes_S512x128_p1_0_S128x512 (ix2 d c) (ix2 c d) (fun b => by
    match b with
    | ⟨0, _⟩ => rfl
    | ⟨1, _⟩ => rfl)
  rw [h, log2e_named]
  exact congrArg (fun e : EReal => e * (((Real.log 2)⁻¹ : ℝ) : EReal)) ht

theorem pay75_iff : ∀ d : Fin 128, IntOp.cmpi .slt (BitVec.ofNat 32 d.val) 64#32 = if d.val < 64 then 1#1 else 0#1 := by decide +kernel

theorem pay75_apply (d : Fin 128) (c : Fin 512) : k0_pay75 (ix2 d c) = if d.val < 64 then 1#1 else 0#1 := by
  have h : k0_pay75 (ix2 d c) = IntOp.cmpi .slt (BitVec.ofNat 32 (0 * 128 + d.val)) 64#32 := rfl
  rw [h, Nat.zero_mul, Nat.zero_add, pay75_iff]

theorem pay76_apply (Q : FVec Ideal S512x128 .bf16) (d : Fin 128) (c : Fin 512) :
    k0_pay76 (F := Ideal) Q (ix2 d c) = if d.val < 64 then Q (ix2 c d) * (((Real.log 2)⁻¹ : ℝ) : EReal) else 0 := by
  simp only [k0_pay76, shapeCast_self]
  show Scalar.select (k0_pay75 (ix2 d c)) (k0_pay74 (F := Ideal) Q (ix2 d c)) (Ideal.ofBits .f32 0x00000000#32) = _
  rw [pay75_apply, pay74_apply, Ideal.ofBits_zero_f32]
  split <;> rfl

theorem pay77_apply (Q : FVec Ideal S512x128 .bf16) (d : Fin 128) (c : Fin 512) :
    k0_pay77 (F := Ideal) Q (ix2 d c) = if d.val < 64 then 0 else Q (ix2 c d) * (((Real.log 2)⁻¹ : ℝ) : EReal) := by
  simp only [k0_pay77, shapeCast_self]
  show Scalar.select (k0_pay75 (ix2 d c)) (Ideal.ofBits .f32 0x00000000#32) (k0_pay74 (F := Ideal) Q (ix2 d c)) = _
  rw [pay75_apply, pay74_apply, Ideal.ofBits_zero_f32]
  split <;> rfl

theorem qtOf_apply (Q : FVec Ideal S512x128 .bf16) (q : ℕ → ℕ → ℝ) (hQ : ∀ (r : Fin 512) (d : Fin 128), Q (ix2 r d) = (q r.val d.val : EReal))
    (d : Fin 128) (c : Fin 1024) : qtOf (F := Ideal) Q (ix2 d c) = (qt q d.val c.val : EReal) := by
  have hc := c.isLt
  unfold qtOf
  rw [put_half, qt]
  by_cases h : c.val < 512
  · rw [dif_neg (by omega), put_half, dif_pos (by omega), if_pos h, pay76_apply, hQ]
    split
    · rw [EReal.coe_mul]; rfl
    · rfl
  · rw [dif_pos (by omega), if_neg h, pay77_apply, hQ]
    split
    · rfl
    · rw [EReal.coe_mul]

/-! ## Scores -/

/-- The score, in base 2, of key `κ` for column `c`. -/
def xs (k q : ℕ → ℕ → ℝ) (κ c : ℕ) : ℝ := ∑ d : Fin 128, k κ d.val * qt q d.val c

/-- The score of key `κ` for column `c`. -/
def ss (k q : ℕ → ℕ → ℝ) (κ c : ℕ) : ℝ := ∑ d : Fin 64, k κ (64 * (c / 512) + d.val) * q (c % 512) (64 * (c / 512) + d.val)

theorem xs_eq (k q : ℕ → ℕ → ℝ) (κ c : ℕ) (hc : c < 1024) : xs k q κ c = ss k q κ c * (Real.log 2)⁻¹ := by
  unfold xs ss
  rw [Fin.sum_univ_add (a := 64) (b := 64) (fun d : Fin 128 => k κ d.val * qt q d.val c), Finset.sum_mul]
  by_cases h : c < 512
  · have e1 : c / 512 = 0 := by omega
    have e2 : c % 512 = c := by omega
    rw [e1, e2]
    have z : ∑ d : Fin 64, k κ (Fin.natAdd 64 d).val * qt q (Fin.natAdd 64 d).val c = 0 :=
      Finset.sum_eq_zero fun d _ => by
        have : ¬ (Fin.natAdd 64 d).val < 64 := by simp
        rw [qt, if_pos h, if_neg this, mul_zero]
    rw [z, add_zero]
    refine Finset.sum_congr rfl fun d _ => ?_
    have : (Fin.castAdd 64 d).val < 64 := d.isLt
    rw [qt, if_pos h, if_pos this]
    show k κ d.val * (q c d.val * _) = k κ (64 * 0 + d.val) * q c (64 * 0 + d.val) * _
    rw [Nat.mul_zero, Nat.zero_add, mul_assoc]
  · have e1 : c / 512 = 1 := by omega
    have e2 : c % 512 = c - 512 := by omega
    rw [e1, e2]
    have z : ∑ d : Fin 64, k κ (Fin.castAdd 64 d).val * qt q (Fin.castAdd 64 d).val c = 0 :=
      Finset.sum_eq_zero fun d _ => by
        have : (Fin.castAdd 64 d).val < 64 := d.isLt
        rw [qt, if_neg h, if_pos this, mul_zero]
    rw [z, zero_add]
    refine Finset.sum_congr rfl fun d _ => ?_
    have : ¬ (Fin.natAdd 64 d).val < 64 := by simp
    rw [qt, if_neg h, if_neg this]
    show k κ (64 + d.val) * (q (c - 512) (64 + d.val) * _) = k κ (64 * 1 + d.val) * q (c - 512) (64 * 1 + d.val) * _
    rw [Nat.mul_one, mul_assoc]

/-- The weight of key `κ` for column `c`. -/
def W (k q : ℕ → ℕ → ℝ) (κ c : ℕ) : ℝ := Real.exp (ss k q κ c)

theorem wt_xs (k q : ℕ → ℕ → ℝ) (κ c : ℕ) (hc : c < 1024) : wt ((xs k q κ c : ℝ) : EReal) = W k q κ c := by
  rw [xs_eq k q κ c hc, wt_log2e]; rfl

theorem sc_win (K : FVec Ideal S4096x128 .bf16) (Q : FVec Ideal S512x128 .bf16) (k q : ℕ → ℕ → ℝ)
    (hK : ∀ (κ : Fin 4096) (d : Fin 128), K (ix2 κ d) = (k κ.val d.val : EReal)) (hQ : ∀ (r : Fin 512) (d : Fin 128), Q (ix2 r d) = (q r.val d.val : EReal))
    (off : Fin 2 → ℕ) (inb : ∀ a, off a + S512x128.size a ≤ S4096x128.size a) (j : ℕ) (h : off = ![512 * j, 0]) (hj : j < 8) (r : Fin 512) (c : Fin 1024) :
    sc (VecWindow.window K off S512x128.size inb) (qtOf (F := Ideal) Q) (ix2 r c) = ((xs k q (512 * j + r.val) c.val : ℝ) : EReal) := by
  have hr := r.isLt
  rw [sc_apply, xs, ← coe_sum]
  refine Finset.sum_congr rfl fun d _ => ?_
  rw [kwin_apply K off inb j h r d (by omega), hK, qtOf_apply Q q hQ, EReal.coe_mul]

theorem mask_col : ∀ c : Fin 1024, Scalar.select (IntOp.cmpi .sge (BitVec.ofNat 32 c.val) 512#32) (IntOp.subi (BitVec.ofNat 32 c.val) 512#32) (BitVec.ofNat 32 c.val)
    = BitVec.ofNat 32 (c.val % 512) := by decide +kernel

theorem msk_apply (a : BitVec 32) (s : FVec Ideal S512x1024 .f32) (r : Fin 512) (c : Fin 1024) :
    msk a s (ix2 r c) = if r.val ≤ c.val % 512 then s (ix2 r c) else ⊥ := by
  have hr := r.isLt
  have h : msk a s (ix2 r c) = Scalar.select (IntOp.cmpi .sle (IntOp.addi (BitVec.ofNat 32 (0 * 512 + r.val)) (Scalar.subi (Scalar.muli a 512#32) (Scalar.muli a 512#32)))
      (Scalar.select (IntOp.cmpi .sge (BitVec.ofNat 32 (0 * 1024 + c.val)) 512#32) (IntOp.subi (BitVec.ofNat 32 (0 * 1024 + c.val)) 512#32) (BitVec.ofNat 32 (0 * 1024 + c.val))))
      (s (ix2 r c)) (Named.named (F := Ideal) κ "mask" (φ := .f32) 0xF149F2CA#32) := rfl
  have h0 : Scalar.subi (Scalar.muli a 512#32) (Scalar.muli a 512#32) = 0#32 := BitVec.sub_self _
  have h1 : IntOp.addi (BitVec.ofNat 32 r.val) 0#32 = BitVec.ofNat 32 r.val := BitVec.add_zero _
  rw [h, h0]; simp only [Nat.zero_mul, Nat.zero_add]; rw [mask_col, h1, mask_named]
  by_cases hle : r.val ≤ c.val % 512
  · rw [if_pos hle, (WordCmp.cmpi_sle_ofNat_eq_one_iff (w := 32) (by omega) (by omega)).2 hle]; rfl
  · rw [if_neg hle, (WordCmp.cmpi_sle_ofNat_eq_zero_iff (w := 32) (by omega) (by omega)).2 (by omega)]; rfl

end Cert.Proof.KernelIdeal

end
-- ==== Proof.KernelIdealPoint.lean ====
/-
  What one grid point of the attention kernel has accumulated at its end: the sums of the weights and of the weighted
  values over the keys each query may see.
-/
module

public import proofs.«01_k».proof.Proof.KernelIdealLayout
public import Idealize.ShloMosaic.Lib.IdealHost

@[expose] public section

set_option maxRecDepth 16384

noncomputable section

namespace Cert.Proof.KernelIdeal

open Cert.KernelIdeal Cert.KernelIdeal.Gen Cert.Proof.Flash
open Idealize.ShloMosaic Idealize.ShloMosaic.ValueIdx Idealize.ShloMosaic.TcCoe

/-- The weights of the first `n` key blocks. -/
def Lacc (k q : ℕ → ℕ → ℝ) (n : ℕ) (c : Fin 1024) : ℝ := ∑ t ∈ Finset.range n, ∑ r : Fin 512, W k q (512 * t + r.val) c.val

/-- The weighted values of the first `n` key blocks. -/
def Nacc (k q v : ℕ → ℕ → ℝ) (n : ℕ) (d : Fin 128) (c : Fin 1024) : ℝ :=
  ∑ t ∈ Finset.range n, ∑ r : Fin 512, v (512 * t + r.val) d.val * W k q (512 * t + r.val) c.val

/-- The weight of a key of the diagonal block. -/
def Wd (k q : ℕ → ℕ → ℝ) (j : ℕ) (r : Fin 512) (c : Fin 1024) : ℝ := if r.val ≤ c.val % 512 then W k q (512 * j + r.val) c.val else 0

def Lfin (k q : ℕ → ℕ → ℝ) (j : ℕ) (c : Fin 1024) : ℝ := Lacc k q j c + ∑ r : Fin 512, Wd k q j r c
def Nfin (k q v : ℕ → ℕ → ℝ) (j : ℕ) (d : Fin 128) (c : Fin 1024) : ℝ := Nacc k q v j d c + ∑ r : Fin 512, v (512 * j + r.val) d.val * Wd k q j r c

/-- A step over a whole key block. -/
theorem full_step {k q v : ℕ → ℕ → ℝ} {j : ℕ} {V : FVec Ideal S1x128x512 .bf16} {m l al : FVec Ideal S1x1024 .f32} {acc : FVec Ideal S128x1024 .f32}
    {pb : FVec Ideal S512x1024 .bf16} (h : Good V m l al acc pb (Lacc k q j) (Nacc k q v j)) (hj : j < 8)
    (e : FVec Ideal S512x1024 .f32) (he : ∀ (r : Fin 512) (c : Fin 1024), e (ix2 r c) = ((xs k q (512 * j + r.val) c.val : ℝ) : EReal))
    (V' : FVec Ideal S1x128x512 .bf16) (hv : ∀ (d : Fin 128) (r : Fin 512), V' (ix3 0 d r) = (vr v j d.val r.val : EReal)) :
    Good V' (mN (cmx e) m) (lN e (cmx e) m l) (alN (cmx e) m) (aN V pb al acc) (pB e (cmx e) m) (Lacc k q (j + 1)) (Nacc k q v (j + 1)) := by
  have hw : ∀ (r : Fin 512) (c : Fin 1024), wt (e (ix2 r c)) = W k q (512 * j + r.val) c.val := fun r c => by rw [he, wt_xs k q _ _ c.isLt]
  have s := h.step e V' (fun d r => vr v j d.val r.val) (fun r c => by rw [he]; exact EReal.coe_ne_top _)
    (fun c => ⟨0, by rw [he]; exact EReal.coe_ne_bot _⟩) hv
  have eL : (fun c => Lacc k q j c + ∑ r : Fin 512, wt (e (ix2 r c))) = Lacc k q (j + 1) := by
    funext c
    simp only [hw]
    exact (Finset.sum_range_succ _ _).symm
  have eN : (fun d c => Nacc k q v j d c + ∑ r : Fin 512, vr v j d.val r.val * wt (e (ix2 r c))) = Nacc k q v (j + 1) := by
    funext d c
    simp only [hw, vr, if_pos hj]
    exact (Finset.sum_range_succ _ _).symm
  rw [eL, eN] at s
  exact s

/-- The step over the diagonal key block. -/
theorem diag_step {k q v : ℕ → ℕ → ℝ} {j : ℕ} {V : FVec Ideal S1x128x512 .bf16} {m l al : FVec Ideal S1x1024 .f32} {acc : FVec Ideal S128x1024 .f32}
    {pb : FVec Ideal S512x1024 .bf16} (h : Good V m l al acc pb (Lacc k q j) (Nacc k q v j)) (hj : j < 8) (a : BitVec 32)
    (e : FVec Ideal S512x1024 .f32) (he : ∀ (r : Fin 512) (c : Fin 1024), e (ix2 r c) = ((xs k q (512 * j + r.val) c.val : ℝ) : EReal))
    (V' : FVec Ideal S1x128x512 .bf16) (hv : ∀ (d : Fin 128) (r : Fin 512), V' (ix3 0 d r) = (vr v j d.val r.val : EReal)) :
    Good V' (mN (cmx (msk a e)) m) (lN (msk a e) (cmx (msk a e)) m l) (alN (cmx (msk a e)) m) (aN V pb al acc) (pB (msk a e) (cmx (msk a e)) m)
      (Lfin k q j) (Nfin k q v j) := by
  have hm : ∀ (r : Fin 512) (c : Fin 1024), msk a e (ix2 r c) = if r.val ≤ c.val % 512 then ((xs k q (512 * j + r.val) c.val : ℝ) : EReal) else ⊥ := fun r c => by
    rw [msk_apply, he]
  have hw : ∀ (r : Fin 512) (c : Fin 1024), wt (msk a e (ix2 r c)) = Wd k q j r c := fun r c => by
    rw [hm, Wd]
    split
    · exact wt_xs k q _ _ c.isLt
    · exact wt_bot
  have s := h.step (msk a e) V' (fun d r => vr v j d.val r.val)
    (fun r c => by
      rw [hm]
      split
      · exact EReal.coe_ne_top _
      · exact bot_ne_top)
    (fun c => ⟨0, by
      rw [hm, if_pos (show (0 : Fin 512).val ≤ c.val % 512 from Nat.zero_le _)]
      exact EReal.coe_ne_bot _⟩) hv
  have eL : (fun c => Lacc k q j c + ∑ r : Fin 512, wt (msk a e (ix2 r c))) = Lfin k q j := by
    funext c
    simp only [hw]
    rfl
  have eN : (fun d c => Nacc k q v j d c + ∑ r : Fin 512, vr v j d.val r.val * wt (msk a e (ix2 r c))) = Nfin k q v j := by
    funext d c
    simp only [hw, vr, if_pos hj]
    rfl
  rw [eL, eN] at s
  exact s

/-- What holds of the state before key block `j`. -/
structure Inv (k q v : ℕ → ℕ → ℝ) (j : ℕ) (s : St Ideal) : Prop where
  sa : ∀ (r : Fin 512) (c : Fin 1024), s.sa (ix2 r c) = ((xs k q (512 * j + r.val) c.val : ℝ) : EReal)
  ma : s.ma = cmx s.sa
  good : ∀ V : FVec Ideal S1x128x512 .bf16, (∀ (d : Fin 128) (r : Fin 512), V (ix3 0 d r) = (vr v (prev j) d.val r.val : EReal)) →
    Good V s.m s.l s.al s.acc s.pb (Lacc k q j) (Nacc k q v j)

theorem Inv.trip {k q v : ℕ → ℕ → ℝ} {j : ℕ} {s : St Ideal} (h : Inv k q v j s) (hj : j + 2 < 8) (K0 K1 : FVec Ideal S512x128 .bf16)
    (QT : FVec Ideal S128x1024 .bf16) (V0 V1 : FVec Ideal S1x128x512 .bf16)
    (h0 : ∀ (r : Fin 512) (c : Fin 1024), sc K0 QT (ix2 r c) = ((xs k q (512 * (j + 1) + r.val) c.val : ℝ) : EReal))
    (h1 : ∀ (r : Fin 512) (c : Fin 1024), sc K1 QT (ix2 r c) = ((xs k q (512 * (j + 2) + r.val) c.val : ℝ) : EReal))
    (hv0 : ∀ (d : Fin 128) (r : Fin 512), V0 (ix3 0 d r) = (vr v (prev j) d.val r.val : EReal))
    (hv1 : ∀ (d : Fin 128) (r : Fin 512), V1 (ix3 0 d r) = (vr v j d.val r.val : EReal)) :
    Inv k q v (j + 2) (tripSt (F := Ideal) K0 K1 QT V0 V1 s) := by
  have e : tripSt (F := Ideal) K0 K1 QT V0 V1 s = ⟨sc K1 QT, cmx (sc K1 QT), pB (sc K0 QT) (cmx (sc K0 QT)) (mN (cmx s.sa) s.m),
      mN (cmx (sc K0 QT)) (mN (cmx s.sa) s.m), lN (sc K0 QT) (cmx (sc K0 QT)) (mN (cmx s.sa) s.m) (lN s.sa (cmx s.sa) s.m s.l),
      alN (cmx (sc K0 QT)) (mN (cmx s.sa) s.m),
      aN V1 (pB s.sa (cmx s.sa) s.m) (alN (cmx s.sa) s.m) (aN V0 s.pb s.al s.acc)⟩ := by
    simp only [tripSt, pay14_eq, pay15_eq, pay17_eq, pay22_eq, pay21_eq, pay23_eq, pay24_eq, pay26_eq, pay27_eq, pay91_eq, pay90_eq, pay89_eq,
      pay92_eq, pay28_eq, h.ma]
  rw [e]
  refine ⟨h1, by dsimp only, fun V hV => ?_⟩
  have hV' : ∀ (d : Fin 128) (r : Fin 512), V (ix3 0 d r) = (vr v (j + 1) d.val r.val : EReal) := fun d r => by
    rw [hV, prev, if_neg (Nat.succ_ne_zero _)]; rfl
  have s1 := full_step (h.good V0 hv0) (by omega) s.sa h.sa V1 hv1
  have s2 := full_step s1 (by omega) (sc K0 QT) h0 V hV'
  exact s2

section Point

variable (K V : FVec Ideal S4096x128 .bf16) (Q : FVec Ideal S512x128 .bf16) (VT : FVec Ideal S9x128x512 .bf16) (k q v : ℕ → ℕ → ℝ)
  (hK : ∀ (κ : Fin 4096) (d : Fin 128), K (ix2 κ d) = (k κ.val d.val : EReal))
  (hQ : ∀ (r : Fin 512) (d : Fin 128), Q (ix2 r d) = (q r.val d.val : EReal))
  (hVT : ∀ (j : Fin 9) (d : Fin 128) (r : Fin 512), VT (ix3 j d r) = (vr v j.val d.val r.val : EReal))

include hVT in
theorem vt_win (off : Fin 3 → ℕ) (inb : ∀ a, off a + S1x128x512.size a ≤ S9x128x512.size a) (j : ℕ) (h : off = ![j, 0, 0]) (hj : j < 9)
    (d : Fin 128) (r : Fin 512) : VecWindow.window VT off S1x128x512.size inb (ix3 0 d r) = (vr v j d.val r.val : EReal) := by
  rw [vwin_apply VT off inb j h d r hj, hVT]

include hK hQ in
theorem inv0 (PB : FVec Ideal S512x1024 .bf16) : Inv k q v 0 (st0 (F := Ideal) K (qtOf Q) PB) := by
  have e : st0 (F := Ideal) K (qtOf Q) PB = ⟨sc (VecWindow.window K ![0, 0] S512x128.size inb_S4096x128_S512x128_0_0) (qtOf (F := Ideal) Q),
      cmx (sc (VecWindow.window K ![0, 0] S512x128.size inb_S4096x128_S512x128_0_0) (qtOf (F := Ideal) Q)), PB, fun _ => ⊥, fun _ => 0, fun _ => 1, fun _ => 0⟩ := by
    have e1 : k0_pay78 (F := Ideal) = fun _ => ⊥ := by
      simp only [k0_pay78, shapeCast_self, mask_named]; rfl
    have e2 : k0_pay79 (F := Ideal) = fun _ => 0 := by
      simp only [k0_pay79, shapeCast_self]; exact funext fun _ => Ideal.ofBits_zero_f32
    have e3 : k0_pay81 (F := Ideal) (k0_pay80 (F := Ideal)) = fun _ => 1 := by
      simp only [k0_pay81, k0_pay80, shapeCast_self]; exact funext fun _ => Ideal.ofBits_one_f32
    have e4 : k0_pay82 (F := Ideal) = fun _ => 0 := by
      simp only [k0_pay82, shapeCast_self]; exact funext fun _ => Ideal.ofBits_zero_f32
    simp only [st0, pay84_eq, pay85_eq, e1, e2, e3, e4]
  rw [e]
  refine ⟨fun r c => sc_win K Q k q hK hQ _ _ 0 rfl (by omega) r c, by dsimp only, fun V0 hV0 d c => ?_⟩
  have z : aN V0 PB (fun _ => (1 : EReal)) (fun _ => (0 : EReal)) (ix2 d c) = 0 := by
    rw [aN_apply]
    have : ∀ r : Fin 512, V0 (ix3 0 d r) * PB (ix2 r c) = 0 := fun r => by
      rw [hV0, prev, if_pos rfl, vr, if_neg (by omega)]
      exact zero_mul _
    rw [Finset.sum_eq_zero (fun r _ => this r), mul_zero, add_zero]
  exact Or.inl ⟨rfl, rfl, z, by simp [Lacc], by simp [Nacc]⟩

include hK hQ hVT in
theorem inv_loop (i : grid0.Coords) (PB : FVec Ideal S512x1024 .bf16) (n : ℕ) (hn : n ≤ (i 2).val / 2) :
    Inv k q v (2 * n) (stN (F := Ideal) i K (qtOf Q) VT (st0 K (qtOf Q) PB) n) := by
  have hi : (i 2).val < 8 := (i 2).isLt
  induction n with
  | zero => exact inv0 K Q k q v hK hQ PB
  | succ n ih =>
    have ht : n < (k0_t1_loop i).trips := by rw [trips_eq]; omega
    rw [stN, dif_pos ht]
    generalize stN (F := Ideal) i K (qtOf Q) VT (st0 K (qtOf Q) PB) n = s at ih
    have a1 := fun r c => sc_win K Q k q hK hQ (k0_off1 i ⟨n, ht⟩) (k0_off1_inb i ⟨n, ht⟩) (2 * n + 1) (off1_eq i ⟨n, ht⟩) (by omega) r c
    have a3 := fun r c => sc_win K Q k q hK hQ (k0_off3 i ⟨n, ht⟩) (k0_off3_inb i ⟨n, ht⟩) (2 * n + 2) (off3_eq i ⟨n, ht⟩) (by omega) r c
    have a2 := fun d r => vt_win VT v hVT (k0_off2 i ⟨n, ht⟩) (k0_off2_inb i ⟨n, ht⟩) (prev (2 * n)) (off2_eq i ⟨n, ht⟩) (by unfold prev; split <;> omega) d r
    have a4 := fun d r => vt_win VT v hVT (k0_off4 i ⟨n, ht⟩) (k0_off4_inb i ⟨n, ht⟩) (2 * n) (off4_eq i ⟨n, ht⟩) (by omega) d r
    have a := (ih (by omega)).trip (by omega)
      (VecWindow.window K (k0_off1 i ⟨n, ht⟩) S512x128.size (k0_off1_inb i ⟨n, ht⟩)) (VecWindow.window K (k0_off3 i ⟨n, ht⟩) S512x128.size (k0_off3_inb i ⟨n, ht⟩)) (qtOf (F := Ideal) Q)
      (VecWindow.window VT (k0_off2 i ⟨n, ht⟩) S1x128x512.size (k0_off2_inb i ⟨n, ht⟩)) (VecWindow.window VT (k0_off4 i ⟨n, ht⟩) S1x128x512.size (k0_off4_inb i ⟨n, ht⟩))
      a1 a3 a2 a4
    exact a

include hK hQ hVT in
/-- The output block is made of sums over the keys each query may see. -/
theorem outPt_eq (i : grid0.Coords) (LAMP : FVec Ideal S4x64 .f32) (SUBW : FVec Ideal S1x128 .f32) (vt : FVec Ideal S9x128x512 .bf16)
    (pb : FVec Ideal S512x1024 .bf16) (hvt : vtAt (F := Ideal) i V vt = VT) :
    ∃ (m l : FVec Ideal S1x1024 .f32) (acc : FVec Ideal S128x1024 .f32), outPt (F := Ideal) i LAMP SUBW Q K V vt pb = outOf (F := Ideal) LAMP SUBW l acc ∧
      ∀ (d : Fin 128) (c : Fin 1024), Rel (m (ix2 0 c)) (l (ix2 0 c)) (acc (ix2 d c)) (Lfin k q (i 2).val c) (Nfin k q v (i 2).val d c) := by
  have hi : (i 2).val < 8 := (i 2).isLt
  have L := inv_loop K Q VT k q v hK hQ hVT i (pbAt (F := Ideal) i pb) ((i 2).val / 2) (le_refl _)
  rw [← trips_eq] at L
  have hL : stN (F := Ideal) i K (qtOf Q) VT (st0 K (qtOf Q) (pbAt i pb)) (k0_t1_loop i).trips = loopEnd (F := Ideal) i Q K VT (pbAt i pb) := rfl
  rw [hL] at L
  generalize hs : loopEnd (F := Ideal) i Q K VT (pbAt i pb) = s at L
  by_cases h2 : k0_cond2 i = 1#1
  · have hp := (cond2_iff i).1 h2
    rw [trips_eq, show 2 * ((i 2).val / 2) = (i 2).val by omega] at L
    have e : evenEnd (F := Ideal) i h2 VT s = (lN (msk (BitVec.ofNat 32 (i 2).val) s.sa) (cmx (msk (BitVec.ofNat 32 (i 2).val) s.sa)) s.m s.l,
        aN (VecWindow.window VT (k0_off10 i) S1x128x512.size (k0_off10_inb i h2)) (pB (msk (BitVec.ofNat 32 (i 2).val) s.sa) (cmx (msk (BitVec.ofNat 32 (i 2).val) s.sa)) s.m)
          (alN (cmx (msk (BitVec.ofNat 32 (i 2).val) s.sa)) s.m)
          (aN (VecWindow.window VT (k0_off9 i) S1x128x512.size (k0_off9_inb i h2)) s.pb s.al s.acc)) := by
      simp only [evenEnd, evenTail, pay45_eq, pay47_eq, pay51_eq, pay53_eq, pay54_eq, pay100_eq]
    have G := diag_step (L.good _ (fun d r => vt_win VT v hVT (k0_off9 i) (k0_off9_inb i h2) (prev (i 2).val) (off9_eq i h2) (by unfold prev; split <;> omega) d r))
      (by omega) (BitVec.ofNat 32 (i 2).val) s.sa L.sa _
      (fun d r => vt_win VT v hVT (k0_off10 i) (k0_off10_inb i h2) (i 2).val (k0_off10_eq i) (by omega) d r)
    refine Exists.intro (mN (cmx (msk (BitVec.ofNat 32 (i 2).val) s.sa)) s.m) (Exists.intro (evenEnd (F := Ideal) i h2 VT s).1
      (Exists.intro (evenEnd (F := Ideal) i h2 VT s).2 (And.intro ?_ fun d c => ?_)))
    · rw [outPt, dif_pos h2, hvt, hs]
    · rw [e]
      exact G d c
  · have h3 : k0_cond3 i = 1#1 := (cond3_iff i).2 (by
      rcases Nat.mod_two_eq_zero_or_one (i 2).val with h | h
      · exact absurd ((cond2_iff i).2 h) h2
      · exact h)
    have hp := (cond3_iff i).1 h3
    obtain ⟨j, hj⟩ : ∃ j, (i 2).val = j + 1 := ⟨(i 2).val - 1, by omega⟩
    rw [trips_eq, show 2 * ((i 2).val / 2) = j by omega] at L
    have e : oddEnd (F := Ideal) i h3 Q K VT s =
        (lN (msk (BitVec.ofNat 32 (i 2).val) (sc (VecWindow.window K (k0_off11 i) S512x128.size (k0_off11_inb i h3)) (qtOf (F := Ideal) Q)))
            (cmx (msk (BitVec.ofNat 32 (i 2).val) (sc (VecWindow.window K (k0_off11 i) S512x128.size (k0_off11_inb i h3)) (qtOf (F := Ideal) Q))))
            (mN (cmx s.sa) s.m) (lN s.sa (cmx s.sa) s.m s.l),
          aN (VecWindow.window VT (k0_off14 i) S1x128x512.size (k0_off14_inb i h3))
            (pB (msk (BitVec.ofNat 32 (i 2).val) (sc (VecWindow.window K (k0_off11 i) S512x128.size (k0_off11_inb i h3)) (qtOf (F := Ideal) Q)))
              (cmx (msk (BitVec.ofNat 32 (i 2).val) (sc (VecWindow.window K (k0_off11 i) S512x128.size (k0_off11_inb i h3)) (qtOf (F := Ideal) Q))))
              (mN (cmx s.sa) s.m))
            (alN (cmx (msk (BitVec.ofNat 32 (i 2).val) (sc (VecWindow.window K (k0_off11 i) S512x128.size (k0_off11_inb i h3)) (qtOf (F := Ideal) Q))))
              (mN (cmx s.sa) s.m))
            (aN (VecWindow.window VT (k0_off13 i) S1x128x512.size (k0_off13_inb i h3)) (pB s.sa (cmx s.sa) s.m) (alN (cmx s.sa) s.m)
              (aN (VecWindow.window VT (k0_off12 i) S1x128x512.size (k0_off12_inb i h3)) s.pb s.al s.acc)),
          pB (msk (BitVec.ofNat 32 (i 2).val) (sc (VecWindow.window K (k0_off11 i) S512x128.size (k0_off11_inb i h3)) (qtOf (F := Ideal) Q)))
            (cmx (msk (BitVec.ofNat 32 (i 2).val) (sc (VecWindow.window K (k0_off11 i) S512x128.size (k0_off11_inb i h3)) (qtOf (F := Ideal) Q))))
            (mN (cmx s.sa) s.m)) := by
      simp only [oddEnd, oddTail, L.ma, pay57_eq, pay59_eq, pay63_eq, pay64_eq, pay65_eq, pay66_eq, pay68_eq, pay101_eq, pay103_eq, pay104_eq, pay105_eq]
    have h12 : k0_off12 i = ![prev j, 0, 0] := by rw [off12_eq i h3, hj]; rfl
    have h13 : k0_off13 i = ![j, 0, 0] := by rw [off13_eq i h3, hj]; rfl
    have h14 : k0_off14 i = ![j + 1, 0, 0] := by rw [k0_off14_eq i, hj]
    have h11 : k0_off11 i = ![512 * (j + 1), 0] := by rw [k0_off11_eq i, hj]
    have S := full_step (L.good _ (fun d r => vt_win VT v hVT (k0_off12 i) (k0_off12_inb i h3) (prev j) h12 (by unfold prev; split <;> omega) d r))
      (by omega) s.sa L.sa _ (fun d r => vt_win VT v hVT (k0_off13 i) (k0_off13_inb i h3) j h13 (by omega) d r)
    have G := diag_step S (by omega) (BitVec.ofNat 32 (i 2).val)
      (sc (VecWindow.window K (k0_off11 i) S512x128.size (k0_off11_inb i h3)) (qtOf (F := Ideal) Q))
      (fun r c => sc_win K Q k q hK hQ _ _ (j + 1) h11 (by omega) r c) _
      (fun d r => vt_win VT v hVT (k0_off14 i) (k0_off14_inb i h3) (j + 1) h14 (by omega) d r)
    refine Exists.intro (mN (cmx (msk (BitVec.ofNat 32 (i 2).val) (sc (VecWindow.window K (k0_off11 i) S512x128.size (k0_off11_inb i h3)) (qtOf (F := Ideal) Q))))
      (mN (cmx s.sa) s.m)) (Exists.intro (oddEnd (F := Ideal) i h3 Q K VT s).1 (Exists.intro (oddEnd (F := Ideal) i h3 Q K VT s).2.1 (And.intro ?_ fun d c => ?_)))
    · rw [outPt, dif_neg h2, dif_pos h3, hvt, hs]
    · rw [e]
      have := G d c
      rw [← hj] at this
      exact this

end Point

end Cert.Proof.KernelIdeal

end
-- ==== Proof.Spec.lean ====
/-
  The values both programs compute, as functions of real arguments.
-/
module

public import proofs.«01_k».proof.Proof.Flash
public import Idealize.ShloMosaic.Lib.IdealHost

@[expose] public section

noncomputable section

namespace Cert.Proof.Spec

open Idealize.ShloMosaic Cert.Proof.Flash

/-- The score of key `κ` for query `p` in map `mm` of head `h` of sequence `b`; `x` holds the queries, keys and values side by side. -/
def S (x : ℕ → ℕ → ℝ) (b h mm p κ : ℕ) : ℝ :=
  ∑ d : Fin 64, x (4096 * b + κ) (512 + 128 * h + (64 * mm + d.val)) * x (4096 * b + p) (128 * h + (64 * mm + d.val))

/-- The weight of key `κ`: later keys have none. -/
def w (x : ℕ → ℕ → ℝ) (b h mm p κ : ℕ) : ℝ := if κ ≤ p then Real.exp (S x b h mm p κ) else 0

def L (x : ℕ → ℕ → ℝ) (b h mm p : ℕ) : ℝ := ∑ κ : Fin 4096, w x b h mm p κ.val
def N (x : ℕ → ℕ → ℝ) (b h mm p d : ℕ) : ℝ := ∑ κ : Fin 4096, x (4096 * b + κ.val) (1024 + 128 * h + d) * w x b h mm p κ.val

/-- The difference of the two maps' averages of the values. -/
def O (lam : ℝ) (x : ℕ → ℕ → ℝ) (b h p d : ℕ) : ℝ := N x b h 0 p d / L x b h 0 p - lam * (N x b h 1 p d / L x b h 1 p)

theorem w_nonneg (x : ℕ → ℕ → ℝ) (b h mm p κ : ℕ) : 0 ≤ w x b h mm p κ := by
  unfold w; split
  · exact (Real.exp_pos _).le
  · exact le_refl _

theorem L_pos (x : ℕ → ℕ → ℝ) (b h mm p : ℕ) : 0 < L x b h mm p := by
  refine Finset.sum_pos' (fun κ _ => w_nonneg x b h mm p κ.val) ⟨0, Finset.mem_univ _, ?_⟩
  rw [w, if_pos (show (0 : Fin 4096).val ≤ p from Nat.zero_le _)]
  exact Real.exp_pos _

/-- The factor of the second map, from the four rows it is made of. -/
def lamE (l : Fin 4 → Fin 64 → EReal) : EReal :=
  (Ideal.exp (∑ d : Fin 64, l 0 d * l 1 d) - Ideal.exp (∑ d : Fin 64, l 2 d * l 3 d)) + Ideal.ofBits .f32 0x3E4CCCCD#32

theorem lamE_real (l : Fin 4 → Fin 64 → EReal) (r : Fin 4 → Fin 64 → ℝ) (h : ∀ a d, l a d = (r a d : EReal)) : ∃ lam : ℝ, lamE l = (lam : EReal) := by
  have hs : ∀ a b, ∑ d : Fin 64, l a d * l b d = ((∑ d : Fin 64, r a d * r b d : ℝ) : EReal) := fun a b => by
    rw [← coe_sum]
    exact Finset.sum_congr rfl fun d _ => by rw [h, h, EReal.coe_mul]
  have hc : ∃ c : ℝ, Ideal.ofBits .f32 0x3E4CCCCD#32 = (c : EReal) := by
    simp only [Ideal.ofBits, Ideal.ieee]
    rw [if_neg (by decide), if_neg (by decide)]
    exact ⟨_, rfl⟩
  obtain ⟨c, hc⟩ := hc
  refine ⟨(Real.exp (∑ d : Fin 64, r 0 d * r 1 d) - Real.exp (∑ d : Fin 64, r 2 d * r 3 d)) + c, ?_⟩
  rw [lamE, hs, hs, hc, EReal.coe_add, EReal.coe_sub]
  rfl

/-- The normalized entry `d` of a row `o`, times its weight. -/
def fin (o : Fin 128 → EReal) (d : Fin 128) (sw : EReal) : EReal :=
  (o d * (Ideal.rsqrt (Ideal.div (∑ e : Fin 128, o e * o e) (Ideal.ofBits .f32 0x43000000#32) + Ideal.ofBits .f32 0x358637BD#32) * Ideal.ofBits .f32 0x3F4CCCCD#32)) * sw

/-- A sum over the keys up to a bound, by blocks of 512. -/
theorem sum_causal (f : ℕ → ℝ) (j r : ℕ) (hj : j < 8) (hr : r < 512) :
    ∑ κ : Fin 4096, (if κ.val ≤ 512 * j + r then f κ.val else 0)
      = (∑ t ∈ Finset.range j, ∑ s : Fin 512, f (512 * t + s.val)) + ∑ s : Fin 512, (if s.val ≤ r then f (512 * j + s.val) else 0) := by
  rw [Fin.sum_univ_eq_sum_range (fun κ => if κ ≤ 512 * j + r then f κ else 0) 4096, show 4096 = 512 * 8 by norm_num, ← sum_blocks 512 8]
  have h1 : ∑ t ∈ Finset.range (j + 1), ∑ s : Fin 512, (if 512 * t + s.val ≤ 512 * j + r then f (512 * t + s.val) else 0)
      = ∑ t ∈ Finset.range 8, ∑ s : Fin 512, (if 512 * t + s.val ≤ 512 * j + r then f (512 * t + s.val) else 0) := by
    refine Finset.sum_subset (Finset.range_subset_range.2 (by omega)) fun t _ ht => Finset.sum_eq_zero fun s _ => if_neg ?_
    have : ¬ t < j + 1 := fun h => ht (Finset.mem_range.2 h)
    omega
  rw [← h1, Finset.sum_range_succ]
  refine congrArg₂ (· + ·) (Finset.sum_congr rfl fun t ht => Finset.sum_congr rfl fun s _ => if_pos ?_) (Finset.sum_congr rfl fun s _ => ?_)
  · have := Finset.mem_range.1 ht
    have := s.isLt
    omega
  · by_cases h : s.val ≤ r
    · rw [if_pos h, if_pos (by omega)]
    · rw [if_neg h, if_neg (by omega)]

end Cert.Proof.Spec

end
-- ==== Proof.KernelIdealOut.lean ====
/-
  The output block of one grid point of the attention kernel, from the sums it has accumulated.
-/
module

public import proofs.«01_k».proof.Proof.KernelIdealPoint
public import proofs.«01_k».proof.Proof.Spec

@[expose] public section

set_option maxRecDepth 16384

noncomputable section

namespace Cert.Proof.KernelIdeal

open Cert.KernelIdeal Cert.KernelIdeal.Gen Cert.Proof.Flash
open Idealize.ShloMosaic Idealize.ShloMosaic.ValueIdx Idealize.ShloMosaic.TcCoe

/-! ## The factor of the second map -/

/-- The sum of the products of two of the four rows. -/
def dotRow (u v : FVec Ideal S1x64 .f32) : FVec Ideal S1x1 .f32 :=
  shapeCast S1x1 (multiReduction .add [1] S1 (mulf u v) 0x00000000#32 reduces_S1x64_S1 (.inl rfl) rfl) shapeCasts_S1_S1x1

theorem dotRow_apply (u v : FVec Ideal S1x64 .f32) : dotRow u v (ix2 0 0) = ∑ d : Fin 64, u (ix2 0 d) * v (ix2 0 d) := by
  refine (shapeCast_apply _ shapeCasts_S1_S1x1 (ix2 0 0) (ix1 0) (by
    rw [Shape.rowMajor_val_one, Shape.rowMajor_val_two]; rfl)).trans ?_
  refine (Ideal.multiReduction_add_single (mulf u v) _ _ _ _ _).trans ?_
  refine Finset.sum_congr rfl fun d _ => ?_
  have e : reduces_S1x64_S1.lift (ix1 0) d = (ix2 0 d : S1x64.Idx) := by
    funext a; apply Fin.ext
    match a with
    | ⟨0, _⟩ => rfl
    | ⟨1, _⟩ => rfl
  exact congrArg (mulf u v) e

/-- The factor as the kernel computes it. -/
def lamK (l : FVec Ideal S4x64 .f32) : FVec Ideal S1x1 .f32 :=
  addf (subf (exp (dotRow (extractStridedSlice S1x64 ![0, 0] l slices_S4x64_o0_0_S1x64) (extractStridedSlice S1x64 ![1, 0] l slices_S4x64_o1_0_S1x64)))
    (exp (dotRow (extractStridedSlice S1x64 ![2, 0] l slices_S4x64_o2_0_S1x64) (extractStridedSlice S1x64 ![3, 0] l slices_S4x64_o3_0_S1x64))))
    (broadcast S1x1 (Scalar.ofBits .f32 0x3E4CCCCD#32))

theorem row_apply (l : FVec Ideal S4x64 .f32) (a : Fin 4) (off : Fin 2 → ℕ) (h : S4x64.Slices off S1x64) (ho : off = ![a.val, 0]) (d : Fin 64) :
    extractStridedSlice S1x64 off l h (ix2 0 d) = l (ix2 a d) := by
  subst ho
  refine extractStridedSlice_apply _ l h (ix2 0 d) (ix2 a d) fun b => ?_
  match b with
  | ⟨0, _⟩ => show a.val = a.val + 0; omega
  | ⟨1, _⟩ => show d.val = 0 + d.val; omega

theorem lamK_apply (l : FVec Ideal S4x64 .f32) : lamK l (ix2 0 0) = Spec.lamE (fun a d => l (ix2 a d)) := by
  have h : lamK l (ix2 0 0) = (Ideal.exp (dotRow (extractStridedSlice S1x64 ![0, 0] l slices_S4x64_o0_0_S1x64) (extractStridedSlice S1x64 ![1, 0] l slices_S4x64_o1_0_S1x64) (ix2 0 0))
      - Ideal.exp (dotRow (extractStridedSlice S1x64 ![2, 0] l slices_S4x64_o2_0_S1x64) (extractStridedSlice S1x64 ![3, 0] l slices_S4x64_o3_0_S1x64) (ix2 0 0)))
      + Ideal.ofBits .f32 0x3E4CCCCD#32 := rfl
  rw [h, dotRow_apply, dotRow_apply]
  simp only [row_apply l 0 ![0, 0] slices_S4x64_o0_0_S1x64 rfl, row_apply l 1 ![1, 0] slices_S4x64_o1_0_S1x64 rfl,
    row_apply l 2 ![2, 0] slices_S4x64_o2_0_S1x64 rfl, row_apply l 3 ![3, 0] slices_S4x64_o3_0_S1x64 rfl]
  rfl

/-! ## The difference of the two maps -/

/-- One map's averages of the values. -/
def avg (off : Fin 2 → ℕ) (ha : S128x1024.Slices off S128x512) (hl : S1x1024.Slices off S1x512) (acc : FVec Ideal S128x1024 .f32)
    (l : FVec Ideal S1x1024 .f32) : FVec Ideal S128x512 .f32 :=
  mulf (extractStridedSlice S128x512 off acc ha)
    (broadcastTo S128x512 (extractStridedSlice S1x512 off (divf (broadcast S1x1024 (Scalar.ofBits .f32 0x3F800000#32)) l) hl) broadcasts_S1x512_S128x512)

theorem bc_apply (x : FVec Ideal S1x512 .f32) (d : Fin 128) (r : Fin 512) : broadcastTo S128x512 x broadcasts_S1x512_S128x512 (ix2 d r) = x (ix2 0 r) :=
  broadcastTo_apply x broadcasts_S1x512_S128x512 (ix2 d r) (ix2 0 r) (fun a => by match a with | ⟨0, _⟩ => rfl | ⟨1, _⟩ => rfl)

theorem avg_apply (k : ℕ) (hk : k ≤ 512) (off : Fin 2 → ℕ) (ha : S128x1024.Slices off S128x512) (hl : S1x1024.Slices off S1x512) (ho : off = ![0, k])
    (acc : FVec Ideal S128x1024 .f32) (l : FVec Ideal S1x1024 .f32) (d : Fin 128) (r : Fin 512) :
    avg off ha hl acc l (ix2 d r) = acc (ix2 d ⟨k + r.val, by omega⟩) * Ideal.div 1 (l (ix2 0 ⟨k + r.val, by omega⟩)) := by
  subst ho
  have h : avg ![0, k] ha hl acc l (ix2 d r) = extractStridedSlice S128x512 ![0, k] acc ha (ix2 d r)
    * broadcastTo S128x512 (extractStridedSlice S1x512 ![0, k] (divf (broadcast S1x1024 (Scalar.ofBits .f32 0x3F800000#32)) l) hl) broadcasts_S1x512_S128x512 (ix2 d r) := rfl
  rw [h, bc_apply]
  rw [extractStridedSlice_apply ![0, k] acc ha (ix2 d r) (ix2 d ⟨k + r.val, by omega⟩) (fun b => by
    match b with
    | ⟨0, _⟩ => show d.val = 0 + d.val; omega
    | ⟨1, _⟩ => rfl)]
  refine congrArg _ ?_
  refine (extractStridedSlice_apply ![0, k] _ hl (ix2 0 r) (ix2 0 ⟨k + r.val, by omega⟩) (fun b => by
    match b with
    | ⟨0, _⟩ => rfl
    | ⟨1, _⟩ => rfl)).trans ?_
  show Ideal.div (Ideal.ofBits .f32 0x3F800000#32) _ = _
  rw [Ideal.ofBits_one_f32]

theorem pay106_eq (acc : FVec Ideal S128x1024 .f32) (lamp : FVec Ideal S4x64 .f32) (l : FVec Ideal S1x1024 .f32) :
    k0_pay106 (F := Ideal) acc lamp l = subf (avg ![0, 0] slices_S128x1024_o0_0_S128x512 slices_S1x1024_o0_0_S1x512 acc l)
      (mulf (broadcastTo S128x512 (lamK lamp) broadcasts_S1x1_S128x512)
        (avg ![0, 512] slices_S128x1024_o0_512_S128x512 slices_S1x1024_o0_512_S1x512 acc l)) := by
  simp only [k0_pay106]; rfl

theorem pay106_apply (acc : FVec Ideal S128x1024 .f32) (lamp : FVec Ideal S4x64 .f32) (l : FVec Ideal S1x1024 .f32) (d : Fin 128) (r : Fin 512) :
    k0_pay106 (F := Ideal) acc lamp l (ix2 d r) = acc (ix2 d ⟨0 + r.val, by omega⟩) * Ideal.div 1 (l (ix2 0 ⟨0 + r.val, by omega⟩))
      - Spec.lamE (fun a d => lamp (ix2 a d)) * (acc (ix2 d ⟨512 + r.val, by omega⟩) * Ideal.div 1 (l (ix2 0 ⟨512 + r.val, by omega⟩))) := by
  have h : k0_pay106 (F := Ideal) acc lamp l (ix2 d r) = avg ![0, 0] slices_S128x1024_o0_0_S128x512 slices_S1x1024_o0_0_S1x512 acc l (ix2 d r)
      - broadcastTo S128x512 (lamK lamp) broadcasts_S1x1_S128x512 (ix2 d r)
        * avg ![0, 512] slices_S128x1024_o0_512_S128x512 slices_S1x1024_o0_512_S1x512 acc l (ix2 d r) := congrFun (pay106_eq acc lamp l) (ix2 d r)
  rw [h, avg_apply 0 (by omega) _ _ _ rfl, avg_apply 512 (by omega) _ _ _ rfl,
    broadcastTo_apply (lamK lamp) broadcasts_S1x1_S128x512 (ix2 d r) (ix2 0 0) (fun a => by match a with | ⟨0, _⟩ => rfl | ⟨1, _⟩ => rfl), lamK_apply]

/-! ## The normalization -/

theorem pay107_apply (acc : FVec Ideal S128x1024 .f32) (lamp : FVec Ideal S4x64 .f32) (l : FVec Ideal S1x1024 .f32) (r : Fin 512) :
    k0_pay107 (F := Ideal) acc lamp l (ix2 0 r) = Ideal.rsqrt (Ideal.div (∑ e : Fin 128, k0_pay106 (F := Ideal) acc lamp l (ix2 e r)
      * k0_pay106 (F := Ideal) acc lamp l (ix2 e r)) (Ideal.ofBits .f32 0x43000000#32) + Ideal.ofBits .f32 0x358637BD#32) := by
  have h : k0_pay107 (F := Ideal) acc lamp l = rsqrt (addf (divf (shapeCast S1x512 (multiReduction .add [0] S512
      (mulf (k0_pay106 (F := Ideal) acc lamp l) (k0_pay106 (F := Ideal) acc lamp l)) 0x00000000#32 reduces_S128x512_S512 (.inl rfl) rfl) shapeCasts_S512_S1x512)
      (broadcast S1x512 (Scalar.ofBits .f32 0x43000000#32))) (broadcast S1x512 (Scalar.ofBits .f32 0x358637BD#32))) := by
    simp only [k0_pay107]
  rw [h]
  generalize k0_pay106 (F := Ideal) acc lamp l = y
  have e : shapeCast S1x512 (multiReduction .add [0] S512 (mulf y y) 0x00000000#32 reduces_S128x512_S512 (.inl rfl) rfl) shapeCasts_S512_S1x512 (ix2 0 r)
      = ∑ e : Fin 128, y (ix2 e r) * y (ix2 e r) := by
    refine (shapeCast_apply _ shapeCasts_S512_S1x512 (ix2 0 r) (ix1 r) (by
      rw [Shape.rowMajor_val_one, Shape.rowMajor_val_two]
      show r.val = 0 * 512 + r.val
      omega)).trans ?_
    refine (Ideal.multiReduction_add_single (mulf y y) _ _ _ _ _).trans ?_
    refine Finset.sum_congr rfl fun d _ => ?_
    have e : reduces_S128x512_S512.lift (ix1 r) d = (ix2 d r : S128x512.Idx) := by
      funext a; apply Fin.ext
      match a with
      | ⟨0, _⟩ => rfl
      | ⟨1, _⟩ => rfl
    exact congrArg (mulf y y) e
  rw [← e]; rfl

theorem pay1_apply (y : FVec Ideal S128x512 .f32) (s : FVec Ideal S1x512 .f32) (sw : FVec Ideal S1x128 .f32) (r : Fin 512) (d : Fin 128) :
    k0_pay1 (F := Ideal) y s sw (ix2 r d) = (y (ix2 d r) * (s (ix2 0 r) * Ideal.ofBits .f32 0x3F4CCCCD#32)) * sw (ix2 0 d) := by
  have h : k0_pay1 (F := Ideal) y s sw = mulf (transpose S512x128 [1, 0] (mulf y (broadcastTo S128x512 (mulf s (broadcast S1x512 (Scalar.ofBits .f32 0x3F4CCCCD#32)))
      broadcasts_S1x512_S128x512)) transposes_S128x512_p1_0_S512x128) (broadcastTo S512x128 sw broadcasts_S1x128_S512x128) := by
    simp only [k0_pay1]; rfl
  have h1 : k0_pay1 (F := Ideal) y s sw (ix2 r d) = transpose S512x128 [1, 0] (mulf y (broadcastTo S128x512 (mulf s (broadcast S1x512 (Scalar.ofBits .f32 0x3F4CCCCD#32)))
      broadcasts_S1x512_S128x512)) transposes_S128x512_p1_0_S512x128 (ix2 r d) * broadcastTo S512x128 sw broadcasts_S1x128_S512x128 (ix2 r d) := congrFun h (ix2 r d)
  rw [h1, transpose_apply [1, 0] _ transposes_S128x512_p1_0_S512x128 (ix2 r d) (ix2 d r) (fun b => by
      match b with
      | ⟨0, _⟩ => rfl
      | ⟨1, _⟩ => rfl),
    broadcastTo_apply sw broadcasts_S1x128_S512x128 (ix2 r d) (ix2 0 d) (fun a => by match a with | ⟨0, _⟩ => rfl | ⟨1, _⟩ => rfl)]
  refine congrArg (· * _) ?_
  show y (ix2 d r) * broadcastTo S128x512 _ broadcasts_S1x512_S128x512 (ix2 d r) = _
  rw [bc_apply]
  rfl

theorem outOf_apply (lamp : FVec Ideal S4x64 .f32) (sw : FVec Ideal S1x128 .f32) (l : FVec Ideal S1x1024 .f32) (acc : FVec Ideal S128x1024 .f32)
    (o : Fin 128 → EReal) (r : Fin 512) (ho : ∀ d, k0_pay106 (F := Ideal) acc lamp l (ix2 d r) = o d) (d : Fin 128) :
    outOf (F := Ideal) lamp sw l acc (ix2 r d) = Spec.fin o d (sw (ix2 0 d)) := by
  rw [outOf, pay1_apply, pay107_apply]
  simp only [ho]
  rfl

/-! ## The sums as the specification's -/

section Sums

variable (x k q v : ℕ → ℕ → ℝ) (b h j : ℕ)
  (hk : ∀ κ, κ < 4096 → ∀ d, d < 128 → k κ d = x (4096 * b + κ) (512 + 128 * h + d))
  (hq : ∀ r, r < 512 → ∀ d, d < 128 → q r d = x (4096 * b + (512 * j + r)) (128 * h + d))
  (hv : ∀ κ, κ < 4096 → ∀ d, d < 128 → v κ d = x (4096 * b + κ) (1024 + 128 * h + d))

include hk hq in
theorem W_spec (κ : ℕ) (hκ : κ < 4096) (mm : ℕ) (hm : mm < 2) (r : ℕ) (hr : r < 512) :
    W k q κ (512 * mm + r) = Real.exp (Spec.S x b h mm (512 * j + r) κ) := by
  have e1 : (512 * mm + r) / 512 = mm := by omega
  have e2 : (512 * mm + r) % 512 = r := by omega
  rw [W, ss, Spec.S, e1, e2]
  refine congrArg _ (Finset.sum_congr rfl fun d _ => ?_)
  have := d.isLt
  rw [hk κ hκ _ (by omega), hq r hr _ (by omega)]

include hk hq in
theorem Lfin_spec (hj : j < 8) (mm : ℕ) (hm : mm < 2) (r : ℕ) (hr : r < 512) (c : Fin 1024) (hc : c.val = 512 * mm + r) :
    Lfin k q j c = Spec.L x b h mm (512 * j + r) := by
  have e2 : c.val % 512 = r := by omega
  have s := Spec.sum_causal (fun κ => W k q κ c.val) j r hj hr
  rw [Lfin, Lacc]
  simp only [Wd, e2]
  rw [← s, Spec.L]
  refine Finset.sum_congr rfl fun κ _ => ?_
  rw [hc, W_spec x k q b h j hk hq κ.val κ.isLt mm hm r hr]
  rfl

include hk hq hv in
theorem Nfin_spec (hj : j < 8) (mm : ℕ) (hm : mm < 2) (r : ℕ) (hr : r < 512) (c : Fin 1024) (hc : c.val = 512 * mm + r) (d : Fin 128) :
    Nfin k q v j d c = Spec.N x b h mm (512 * j + r) d.val := by
  have e2 : c.val % 512 = r := by omega
  have s := Spec.sum_causal (fun κ => v κ d.val * W k q κ c.val) j r hj hr
  rw [Nfin, Nacc]
  simp only [Wd, e2, mul_ite, mul_zero]
  rw [← s, Spec.N]
  refine Finset.sum_congr rfl fun κ _ => ?_
  rw [hc, W_spec x k q b h j hk hq κ.val κ.isLt mm hm r hr, hv κ.val κ.isLt d.val d.isLt, Spec.w, mul_ite, mul_zero]

end Sums

/-- The output block of a grid point, as the specification has it. -/
theorem outPt_spec (i : grid0.Coords) (LAMP : FVec Ideal S4x64 .f32) (SUBW : FVec Ideal S1x128 .f32) (Q : FVec Ideal S512x128 .bf16)
    (K V : FVec Ideal S4096x128 .bf16) (vt : FVec Ideal S9x128x512 .bf16) (pb : FVec Ideal S512x1024 .bf16)
    (x : ℕ → ℕ → ℝ) (lam : ℝ) (b h : ℕ) (hlam : Spec.lamE (fun a d => LAMP (ix2 a d)) = (lam : EReal))
    (hK : ∀ (κ : Fin 4096) (d : Fin 128), K (ix2 κ d) = (x (4096 * b + κ.val) (512 + 128 * h + d.val) : EReal))
    (hQ : ∀ (r : Fin 512) (d : Fin 128), Q (ix2 r d) = (x (4096 * b + (512 * (i 2).val + r.val)) (128 * h + d.val) : EReal))
    (hVT : ∀ (j : Fin 9) (d : Fin 128) (r : Fin 512), vtAt (F := Ideal) i V vt (ix3 j d r)
      = (vr (fun κ d => x (4096 * b + κ) (1024 + 128 * h + d)) j.val d.val r.val : EReal))
    (r : Fin 512) (d : Fin 128) :
    outPt (F := Ideal) i LAMP SUBW Q K V vt pb (ix2 r d)
      = Spec.fin (fun d => (Spec.O lam x b h (512 * (i 2).val + r.val) d.val : EReal)) d (SUBW (ix2 0 d)) := by
  have hi : (i 2).val < 8 := (i 2).isLt
  have hr := r.isLt
  obtain ⟨m, l, acc, e, R⟩ := outPt_eq K V Q (vtAt (F := Ideal) i V vt) (fun κ d => x (4096 * b + κ) (512 + 128 * h + d))
    (fun r d => x (4096 * b + (512 * (i 2).val + r)) (128 * h + d)) (fun κ d => x (4096 * b + κ) (1024 + 128 * h + d)) hK hQ hVT i LAMP SUBW vt pb rfl
  rw [e]
  refine outOf_apply LAMP SUBW l acc (fun d => (Spec.O lam x b h (512 * (i 2).val + r.val) d.val : EReal)) r (fun d => ?_) d
  have q : ∀ (mm : ℕ) (hm : mm < 2) (c : Fin 1024) (hc : c.val = 512 * mm + r.val), acc (ix2 d c) * Ideal.div 1 (l (ix2 0 c))
      = ((Spec.N x b h mm (512 * (i 2).val + r.val) d.val / Spec.L x b h mm (512 * (i 2).val + r.val) : ℝ) : EReal) := fun mm hm c hc => by
    have R1 := R d c
    rw [Lfin_spec x _ _ b h (i 2).val (fun _ _ _ _ => rfl) (fun _ _ _ _ => rfl) hi mm hm r.val hr c hc,
      Nfin_spec x _ _ _ b h (i 2).val (fun _ _ _ _ => rfl) (fun _ _ _ _ => rfl) (fun _ _ _ _ => rfl) hi mm hm r.val hr c hc d] at R1
    exact R1.quot (Spec.L_pos _ _ _ _ _)
  rw [pay106_apply, q 0 (by omega) _ (by show 0 + r.val = 512 * 0 + r.val; omega), q 1 (by omega) _ (by show 512 + r.val = 512 * 1 + r.val; omega), hlam,
    Spec.O, EReal.coe_sub, EReal.coe_mul]

end Cert.Proof.KernelIdeal

end
-- ==== Proof.KernelIdealValue.lean ====
/-
  The attention kernel's output array after the run, read at an index, as the specification has it.
-/
module

public import proofs.«01_k».proof.Proof.KernelIdealOut
public import proofs.«01_k».proof.Proof.KernelIdealRun
public import Idealize.ShloMosaic.Lib.Pipeline.ValueKit

@[expose] public section

set_option maxRecDepth 16384

noncomputable section

namespace Cert.Proof.KernelIdeal

open Cert.KernelIdeal Cert.KernelIdeal.Gen Cert.Proof.Flash
open Idealize.ShloMosaic Idealize.ShloMosaic.TcCoe

/-! ## The blocks of a grid point -/

theorem coords_eq : ∀ t : Fin cfg0.N, (grid0.coords t 0).val = t.val / 32 ∧ (grid0.coords t 1).val = t.val / 8 % 4 ∧ (grid0.coords t 2).val = t.val % 8 := by
  decide +kernel

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![t.val / 32 * 8 + t.val % 8, t.val / 8 % 4] := by decide +kernel
theorem idx3 : ∀ t : Fin cfg0.N, win0_3.index t = ![t.val / 32, 4 + t.val / 8 % 4] := by decide +kernel
theorem idx4 : ∀ t : Fin cfg0.N, win0_4.index t = ![t.val / 32, 8 + t.val / 8 % 4] := by decide +kernel
theorem idx5 : ∀ t : Fin cfg0.N, win0_5.index t = ![t.val / 32 * 8 + t.val % 8, t.val / 8 % 4] := by decide +kernel

variable (m : (ℓ : Loc nD τ sig) → Buf (Elt Ideal) ℓ) (c : Dev nD)

theorem lampB_eq (t : Fin cfg0.N) : lampB (F := Ideal) m c t = m ((c : Thread nD τ).loc main_arg1) := by
  blk_ext! [iblk, V, idx0 t]

theorem subwB_eq (t : Fin cfg0.N) : subwB (F := Ideal) m c t = m ((c : Thread nD τ).loc main_arg2) := by
  blk_ext! [iblk, V, idx1 t]

variable (x : ℕ → ℕ → ℝ)
  (hx : ∀ i : S16384x1536.Idx, (m ((c : Thread nD τ).loc main_arg0) : S16384x1536.Idx → EReal) i = (x (i 0).val (i 1).val : EReal))

include hx

theorem qB_apply (t : Fin cfg0.N) (r : Fin 512) (d : Fin 128) : qB (F := Ideal) m c t (ValueIdx.ix2 r d)
    = (x (4096 * (t.val / 32) + (512 * (t.val % 8) + r.val)) (128 * (t.val / 8 % 4) + d.val) : EReal) := by
  have hr := r.isLt
  have hd := d.isLt
  have ht : t.val < 128 := t.isLt
  have e : qB (F := Ideal) m c t (ValueIdx.ix2 r d) = (m ((c : Thread nD τ).loc main_arg0) : S16384x1536.Idx → EReal)
      (ValueIdx.ix2 ⟨4096 * (t.val / 32) + (512 * (t.val % 8) + r.val), by omega⟩ ⟨128 * (t.val / 8 % 4) + d.val, by omega⟩) := by
    blk_ext! [iblk, V, idx2 t]
    · show (t.val / 32 * 8 + t.val % 8) * 512 + r.val = 4096 * (t.val / 32) + (512 * (t.val % 8) + r.val)
      omega
    · show t.val / 8 % 4 * 128 + d.val = 128 * (t.val / 8 % 4) + d.val
      omega
  rw [e, hx]

theorem kB_apply (t : Fin cfg0.N) (κ : Fin 4096) (d : Fin 128) : kB (F := Ideal) m c t (ValueIdx.ix2 κ d)
    = (x (4096 * (t.val / 32) + κ.val) (512 + 128 * (t.val / 8 % 4) + d.val) : EReal) := by
  have hr := κ.isLt
  have hd := d.isLt
  have ht : t.val < 128 := t.isLt
  have e : kB (F := Ideal) m c t (ValueIdx.ix2 κ d) = (m ((c : Thread nD τ).loc main_arg0) : S16384x1536.Idx → EReal)
      (ValueIdx.ix2 ⟨4096 * (t.val / 32) + κ.val, by omega⟩ ⟨512 + 128 * (t.val / 8 % 4) + d.val, by omega⟩) := by
    blk_ext! [iblk, V, idx3 t]
    · show t.val / 32 * 4096 + κ.val = 4096 * (t.val / 32) + κ.val
      omega
    · show (4 + t.val / 8 % 4) * 128 + d.val = 512 + 128 * (t.val / 8 % 4) + d.val
      omega
  rw [e, hx]

theorem vB_apply (t : Fin cfg0.N) (κ : Fin 4096) (d : Fin 128) : vB (F := Ideal) m c t (ValueIdx.ix2 κ d)
    = (x (4096 * (t.val / 32) + κ.val) (1024 + 128 * (t.val / 8 % 4) + d.val) : EReal) := by
  have hr := κ.isLt
  have hd := d.isLt
  have ht : t.val < 128 := t.isLt
  have e : vB (F := Ideal) m c t (ValueIdx.ix2 κ d) = (m ((c : Thread nD τ).loc main_arg0) : S16384x1536.Idx → EReal)
      (ValueIdx.ix2 ⟨4096 * (t.val / 32) + κ.val, by omega⟩ ⟨1024 + 128 * (t.val / 8 % 4) + d.val, by omega⟩) := by
    blk_ext! [iblk, V, idx4 t]
    · show t.val / 32 * 4096 + κ.val = 4096 * (t.val / 32) + κ.val
      omega
    · show (8 + t.val / 8 % 4) * 128 + d.val = 1024 + 128 * (t.val / 8 % 4) + d.val
      omega
  rw [e, hx]

/-! ## The values' layout along a row of the grid -/

theorem vtAt_apply (t : Fin cfg0.N)
    (h : t.val % 8 ≠ 0 → ∀ (j : Fin 9) (d : Fin 128) (r : Fin 512), (carry (F := Ideal) m c t.val).1 (ValueIdx.ix3 j d r)
      = (vr (fun κ d => x (4096 * (t.val / 32) + κ) (1024 + 128 * (t.val / 8 % 4) + d)) j.val d.val r.val : EReal))
    (j : Fin 9) (d : Fin 128) (r : Fin 512) : vtAt (F := Ideal) (grid0.coords t) (vB m c t) (carry m c t.val).1 (ValueIdx.ix3 j d r)
      = (vr (fun κ d => x (4096 * (t.val / 32) + κ) (1024 + 128 * (t.val / 8 % 4) + d)) j.val d.val r.val : EReal) := by
  unfold vtAt
  by_cases h8 : t.val % 8 = 0
  · rw [if_pos ((first_iff t).2 h8)]
    exact vtOf_apply _ (fun κ d => x (4096 * (t.val / 32) + κ) (1024 + 128 * (t.val / 8 % 4) + d)) (vB_apply m c x hx t) j d r
  · rw [if_neg fun e => h8 ((first_iff t).1 e)]
    exact h h8 j d r

theorem carry_apply (n : ℕ) (hn : n < 128) (h8 : n % 8 ≠ 0) : ∀ (j : Fin 9) (d : Fin 128) (r : Fin 512), (carry (F := Ideal) m c n).1 (ValueIdx.ix3 j d r)
      = (vr (fun κ d => x (4096 * (n / 32) + κ) (1024 + 128 * (n / 8 % 4) + d)) j.val d.val r.val : EReal) := by
  induction n with
  | zero => exact absurd rfl h8
  | succ n ih =>
    intro j d r
    have e := carry_succ m c (⟨n, (by omega : n < 128)⟩ : Fin cfg0.N)
    have e1 : (n + 1) / 32 = n / 32 := by omega
    have e2 : (n + 1) / 8 % 4 = n / 8 % 4 := by omega
    rw [show (carry (F := Ideal) m c (n + 1)).1 = _ from congrArg Prod.fst e, e1, e2]
    exact vtAt_apply m c x hx ⟨n, (by omega : n < 128)⟩ (fun h => ih (by omega) h) j d r

/-! ## The output -/

variable (lam : ℝ) (hlam : Spec.lamE (fun a d => (m ((c : Thread nD τ).loc main_arg1) : S4x64.Idx → EReal) (ValueIdx.ix2 a d)) = (lam : EReal))

include hlam

theorem outAt_apply (t : Fin cfg0.N) (r : Fin 512) (d : Fin 128) : outAt (F := Ideal) m c t (ValueIdx.ix2 r d)
    = Spec.fin (fun d => (Spec.O lam x (t.val / 32) (t.val / 8 % 4) (512 * (t.val % 8) + r.val) d.val : EReal)) d
      ((m ((c : Thread nD τ).loc main_arg2) : S1x128.Idx → EReal) (ValueIdx.ix2 0 d)) := by
  have hc := (coords_eq t).2.2
  unfold outAt
  rw [lampB_eq, subwB_eq, ← hc]
  exact outPt_spec (grid0.coords t) (m ((c : Thread nD τ).loc main_arg1)) (m ((c : Thread nD τ).loc main_arg2)) (qB m c t) (kB m c t) (vB m c t)
    (carry m c t.val).1 (carry m c t.val).2 x lam (t.val / 32) (t.val / 8 % 4) hlam (kB_apply m c x hx t)
    (fun r d => by rw [hc]; exact qB_apply m c x hx t r d)
    (vtAt_apply m c x hx t fun h => carry_apply m c x hx t.val t.isLt h) r d

/-- The whole output. -/
def outG : S16384x512.Idx → EReal := fun i =>
  Spec.fin (fun d => (Spec.O lam x ((i 0).val / 4096) ((i 1).val / 128) ((i 0).val % 4096) d.val : EReal))
    ⟨(i 1).val % 128, Nat.mod_lt _ (by norm_num)⟩ ((m ((c : Thread nD τ).loc main_arg2) : S1x128.Idx → EReal) (ValueIdx.ix2 0 ⟨(i 1).val % 128, Nat.mod_lt _ (by norm_num)⟩))

theorem arr_out : (dats (F := Ideal) m 0 c).arrAt 5 cfg0.N = outG m c x lam := by
  refine (dats (F := Ideal) m 0 c).arrAt_eq_of_covers 5 _ (by decide +kernel) fun t hf y => ?_
  blk_simp
  rw [after_w5]
  have ht : t.val < 128 := t.isLt
  obtain ⟨r, d, rfl⟩ : ∃ (r : Fin 512) (d : Fin 128), y = (ValueIdx.ix2 r d : S512x128.Idx) := ⟨y 0, y 1, ValueIdx.eq_ix2 (n0 := 512) (n1 := 128) y⟩
  have hr := r.isLt
  have hd := d.isLt
  have e : (win0_5.blk t).view.emb (ValueIdx.ix2 r d : S512x128.Idx)
      = (ValueIdx.ix2 ⟨4096 * (t.val / 32) + (512 * (t.val % 8) + r.val), by omega⟩ ⟨128 * (t.val / 8 % 4) + d.val, by omega⟩ : S16384x512.Idx) := by
    blk_ext! [idx5 t]
    · show (t.val / 32 * 8 + t.val % 8) * 512 + r.val = 4096 * (t.val / 32) + (512 * (t.val % 8) + r.val)
      omega
    · show t.val / 8 % 4 * 128 + d.val = 128 * (t.val / 8 % 4) + d.val
      omega
  have h1 : (4096 * (t.val / 32) + (512 * (t.val % 8) + r.val)) / 4096 = t.val / 32 := by omega
  have h2 : (128 * (t.val / 8 % 4) + d.val) / 128 = t.val / 8 % 4 := by omega
  have h3 : (4096 * (t.val / 32) + (512 * (t.val % 8) + r.val)) % 4096 = 512 * (t.val % 8) + r.val := by omega
  have h4 : (⟨(128 * (t.val / 8 % 4) + d.val) % 128, Nat.mod_lt _ (by norm_num)⟩ : Fin 128) = d := Fin.ext (by show (128 * (t.val / 8 % 4) + d.val) % 128 = d.val; omega)
  refine (outAt_apply m c x hx lam hlam t r d).trans ?_
  rw [e]
  show _ = Spec.fin (fun e => (Spec.O lam x ((4096 * (t.val / 32) + (512 * (t.val % 8) + r.val)) / 4096) ((128 * (t.val / 8 % 4) + d.val) / 128)
      ((4096 * (t.val / 32) + (512 * (t.val % 8) + r.val)) % 4096) e.val : EReal)) ⟨(128 * (t.val / 8 % 4) + d.val) % 128, Nat.mod_lt _ (by norm_num)⟩
    ((m ((c : Thread nD τ).loc main_arg2) : S1x128.Idx → EReal) (ValueIdx.ix2 0 ⟨(128 * (t.val / 8 % 4) + d.val) % 128, Nat.mod_lt _ (by norm_num)⟩))
  rw [h1, h2, h3, h4]

end Cert.Proof.KernelIdeal

end
-- ==== Proof.ReferenceValue.lean ====
/-
  The reference's result, read at an index, as the specification has it.
-/
module

public import proofs.«01_k».proof.Proof.Gen.ReferenceIdeal.Read
public import proofs.«01_k».proof.Proof.Spec
public import Idealize.ShloMosaic.Lib.WordCmp
public import Idealize.ShloMosaic.Lib.KernelVsHost

@[expose] public section

set_option maxRecDepth 16384

noncomputable section

namespace Cert.Proof.ReferenceIdeal

open Cert.ReferenceIdeal Cert.ReferenceIdeal.Gen Cert.ReferenceIdeal.Read Cert.Proof.Flash
open Idealize.ShloMosaic Idealize.ShloMosaic.ValueIdx Idealize.ShloMosaic.TcCoe

/-! ## The factor of the second map -/

theorem row_sum (f : S64.Idx → EReal) : ∑ j : S64.Idx, f j = ∑ d : Fin 64, f (ix1 d) := by
  refine (Fintype.sum_equiv ⟨fun d : Fin 64 => (ix1 d : S64.Idx), fun j => j 0, fun d => rfl, fun j => ?_⟩ _ _ fun d => rfl).symm
  funext a
  match a with
  | ⟨0, _⟩ => rfl

theorem v22_eq (x1 : FVec Ideal S4x64 .f32) (i : S_.Idx) : val_main_v22 (F := Ideal) x1 i = Spec.lamE (fun a d => x1 (ix2 a d)) := by
  have e7 : ∀ d : Fin 64, val_main_v8 (F := Ideal) x1 (ix1 d) = x1 (ix2 0 d) := fun d => by
    rw [val_main_v8_apply, val_main_v7_apply]
    refine congrArg x1 (funext fun a => Fin.ext ?_)
    match a with
    | ⟨0, _⟩ => rfl
    | ⟨1, _⟩ => show d.val % 64 = d.val; omega
  have e9 : ∀ d : Fin 64, val_main_v10 (F := Ideal) x1 (ix1 d) = x1 (ix2 1 d) := fun d => by
    rw [val_main_v10_apply, val_main_v9_apply]
    refine congrArg x1 (funext fun a => Fin.ext ?_)
    match a with
    | ⟨0, _⟩ => rfl
    | ⟨1, _⟩ => show d.val % 64 = d.val; omega
  have e14 : ∀ d : Fin 64, val_main_v15 (F := Ideal) x1 (ix1 d) = x1 (ix2 2 d) := fun d => by
    rw [val_main_v15_apply, val_main_v14_apply]
    refine congrArg x1 (funext fun a => Fin.ext ?_)
    match a with
    | ⟨0, _⟩ => rfl
    | ⟨1, _⟩ => show d.val % 64 = d.val; omega
  have e16 : ∀ d : Fin 64, val_main_v17 (F := Ideal) x1 (ix1 d) = x1 (ix2 3 d) := fun d => by
    rw [val_main_v17_apply, val_main_v16_apply]
    refine congrArg x1 (funext fun a => Fin.ext ?_)
    match a with
    | ⟨0, _⟩ => rfl
    | ⟨1, _⟩ => show d.val % 64 = d.val; omega
  have s12 : val_main_v12 (F := Ideal) x1 i = ∑ d : Fin 64, x1 (ix2 0 d) * x1 (ix2 1 d) := by
    rw [val_main_v12_apply, row_sum]
    show Ideal.ofBits .f32 0x00000000#32 + ∑ d : Fin 64, val_main_v8 (F := Ideal) x1 (ix1 d) * val_main_v10 (F := Ideal) x1 (ix1 d) = _
    rw [Ideal.ofBits_zero_f32, zero_add]
    simp only [e7, e9]
  have s19 : val_main_v19 (F := Ideal) x1 i = ∑ d : Fin 64, x1 (ix2 2 d) * x1 (ix2 3 d) := by
    rw [val_main_v19_apply, row_sum]
    show Ideal.ofBits .f32 0x00000000#32 + ∑ d : Fin 64, val_main_v15 (F := Ideal) x1 (ix1 d) * val_main_v17 (F := Ideal) x1 (ix1 d) = _
    rw [Ideal.ofBits_zero_f32, zero_add]
    simp only [e14, e16]
  have h : val_main_v22 (F := Ideal) x1 i = (Ideal.exp (val_main_v12 (F := Ideal) x1 i) - Ideal.exp (val_main_v19 (F := Ideal) x1 i)) + Ideal.ofBits .f32 0x3E4CCCCD#32 := rfl
  rw [h, s12, s19]; rfl

/-! ## The scores and their weights -/

theorem ofBits_ninf : Ideal.ofBits .f32 0xFF800000#32 = (⊥ : EReal) := by simp [Ideal.ofBits, Ideal.ieee]

theorem row_max (y : FVec Ideal S4x4x2x4096x4096 .f32) (z : FVec Ideal S_ .f32) (hz : ∀ i, z i = (⊥ : EReal)) (j : S4x4x2x4096.Idx) :
    Host.reduce (FloatOps.maximumf : Ideal .f32 → Ideal .f32 → Ideal .f32) y z reducesTo_S4x4x2x4096x4096_S4x4x2x4096_d4 h_S_ j
      = (Finset.univ : Finset (Fin 4096)).fold max (⊥ : EReal) (fun k => y (idx_main_v38 j k)) := by
  have hr : S4x4x2x4096x4096.Reduces [4] S4x4x2x4096 := by decide
  rw [Host.reduce_eq_fold_single (FloatOps.maximumf : Ideal .f32 → Ideal .f32 → Ideal .f32) y z reducesTo_S4x4x2x4096x4096_S4x4x2x4096_d4 hr h_S_, hz]
  have hl : (y ∘ hr.lift j) = fun k : Fin 4096 => y (idx_main_v38 j k) := funext fun k => congrArg y (funext fun a => Fin.ext (by
    match a with
    | ⟨0, _⟩ => rfl
    | ⟨1, _⟩ => rfl
    | ⟨2, _⟩ => rfl
    | ⟨3, _⟩ => rfl
    | ⟨4, _⟩ => rfl))
  exact congrArg (fun f : Fin 4096 → EReal => (Finset.univ : Finset (Fin 4096)).fold max (⊥ : EReal) f) hl

theorem fin_eq (o : Fin 128 → EReal) (d : Fin 128) (sw : EReal) :
    ((o d * Ideal.rsqrt (Ideal.div (∑ e, o e * o e) (Ideal.ofBits .f32 0x43000000#32) + Ideal.ofBits .f32 0x358637BD#32)) * sw) * Ideal.ofBits .f32 0x3F4CCCCD#32
      = Spec.fin o d sw := by
  unfold Spec.fin
  rw [mul_right_comm, mul_assoc (o d)]

section Values

variable (x0 : FVec Ideal S16384x1536 .bf16) (x : ℕ → ℕ → ℝ) (hx : ∀ i : S16384x1536.Idx, x0 i = (x (i 0).val (i 1).val : EReal))

include hx

theorem v2_eq (i : S4x4096x4x2x64.Idx) : val_main_v2 (F := Ideal) x0 i
    = (x (4096 * (i 0).val + (i 1).val) (128 * (i 2).val + (64 * (i 3).val + (i 4).val)) : EReal) := by
  have h0 : (i 0).val < 4 := (i 0).isLt
  have h1 : (i 1).val < 4096 := (i 1).isLt
  have h2 : (i 2).val < 4 := (i 2).isLt
  have h3 : (i 3).val < 2 := (i 3).isLt
  have h4 : (i 4).val < 64 := (i 4).isLt
  rw [val_main_v2_apply, val_main_v1_apply, val_main_v0_apply]
  refine (hx _).trans (congrArg (fun y : ℝ => (y : EReal)) (congrArg₂ x ?_ ?_))
  · show (((((i 0).val * 4096 + (i 1).val) * 4 + (i 2).val) * 2 + (i 3).val) * 64 + (i 4).val) / 512 = _
    omega
  · show (((((i 0).val * 4096 + (i 1).val) * 4 + (i 2).val) * 2 + (i 3).val) * 64 + (i 4).val) % 512 = _
    omega

theorem v4_eq (i : S4x4096x4x2x64.Idx) : val_main_v4 (F := Ideal) x0 i
    = (x (4096 * (i 0).val + (i 1).val) (512 + 128 * (i 2).val + (64 * (i 3).val + (i 4).val)) : EReal) := by
  have h0 : (i 0).val < 4 := (i 0).isLt
  have h1 : (i 1).val < 4096 := (i 1).isLt
  have h2 : (i 2).val < 4 := (i 2).isLt
  have h3 : (i 3).val < 2 := (i 3).isLt
  have h4 : (i 4).val < 64 := (i 4).isLt
  rw [val_main_v4_apply, val_main_v3_apply, val_main_v0_apply]
  refine (hx _).trans (congrArg (fun y : ℝ => (y : EReal)) (congrArg₂ x ?_ ?_))
  · show (((((i 0).val * 4096 + (i 1).val) * 4 + (i 2).val) * 2 + (i 3).val) * 64 + (i 4).val) / 512 = _
    omega
  · show 512 + (((((i 0).val * 4096 + (i 1).val) * 4 + (i 2).val) * 2 + (i 3).val) * 64 + (i 4).val) % 512 = _
    omega

theorem v6_eq (i : S4x4096x4x128.Idx) : val_main_v6 (F := Ideal) x0 i
    = (x (4096 * (i 0).val + (i 1).val) (1024 + 128 * (i 2).val + (i 3).val) : EReal) := by
  have h0 : (i 0).val < 4 := (i 0).isLt
  have h1 : (i 1).val < 4096 := (i 1).isLt
  have h2 : (i 2).val < 4 := (i 2).isLt
  have h3 : (i 3).val < 128 := (i 3).isLt
  rw [val_main_v6_apply, val_main_v5_apply, val_main_v0_apply]
  refine (hx _).trans (congrArg (fun y : ℝ => (y : EReal)) (congrArg₂ x ?_ ?_))
  · show ((((i 0).val * 4096 + (i 1).val) * 4 + (i 2).val) * 128 + (i 3).val) / 512 = _
    omega
  · show 1024 + ((((i 0).val * 4096 + (i 1).val) * 4 + (i 2).val) * 128 + (i 3).val) % 512 = _
    omega

theorem v23_eq (i : S4x4x2x4096x4096.Idx) : val_main_v23 (F := Ideal) x0 i
    = (Spec.S x (i 0).val (i 1).val (i 2).val (i 3).val (i 4).val : EReal) := by
  rw [val_main_v23_apply, Spec.S, ← coe_sum]
  refine Finset.sum_congr rfl fun d _ => ?_
  rw [v2_eq x0 x hx, v4_eq x0 x hx, mul_comm (x _ _) (x _ _), EReal.coe_mul]

/-- A score, or nothing where the key is later than the query. -/
theorem v30_eq (i : S4x4x2x4096x4096.Idx) : val_main_v30 (F := Ideal) x0 i
    = if (i 4).val ≤ (i 3).val then (Spec.S x (i 0).val (i 1).val (i 2).val (i 3).val (i 4).val : EReal) else ⊥ := by
  have h3 : (i 3).val < 4096 := (i 3).isLt
  have h4 : (i 4).val < 4096 := (i 4).isLt
  have hm : val_main_call0_v1 (F := Ideal) i = IntOp.cmpi .sle (BitVec.ofNat 32 (i 4).val) (BitVec.ofNat 32 (i 3).val) := by
    rw [val_main_call0_v1_apply, val_main_v29_apply, val_main_v27_apply, val_main_v25_apply, val_main_v24_apply, val_main_v28_apply, val_main_v26_apply,
      val_main_v24_apply]
  have hn : val_main_call0_v2 (F := Ideal) i = (⊥ : EReal) := by
    rw [val_main_call0_v2_apply, val_main_call0_v0_apply, val_main_cst_2_apply]
    exact ofBits_ninf
  rw [val_main_v30_apply, hm, hn, v23_eq x0 x hx]
  by_cases h : (i 4).val ≤ (i 3).val
  · rw [if_pos h, (WordCmp.cmpi_sle_ofNat_eq_one_iff (w := 32) (by omega) (by omega)).2 h]; rfl
  · rw [if_neg h, (WordCmp.cmpi_sle_ofNat_eq_zero_iff (w := 32) (by omega) (by omega)).2 h]; rfl

theorem v33_eq (j : S4x4x2x4096.Idx) : val_main_v33 (F := Ideal) x0 j
    = (Finset.univ : Finset (Fin 4096)).fold max ⊥ (fun k => val_main_v30 (F := Ideal) x0 (idx_main_v38 j k)) := by
  have h31 : val_main_v31 (F := Ideal) x0 j
      = (Finset.univ : Finset (Fin 4096)).fold max ⊥ (fun k => val_main_v30 (F := Ideal) x0 (idx_main_v38 j k)) := by
    unfold val_main_v31
    exact row_max (val_main_v30 (F := Ideal) x0) (val_main_cst_3 (F := Ideal)) (fun _ => ofBits_ninf) j
  rw [val_main_v33_apply, h31, val_main_v32_apply, val_main_cst_4_apply]
  show max (Ideal.ofBits .f32 0xFF800000#32) _ = _
  rw [ofBits_ninf]
  exact max_eq_right bot_le

/-- A probability. -/
theorem v41_eq (i : S4x4x2x4096x4096.Idx) : val_main_v41 (F := Ideal) x0 i
    = ((Spec.w x (i 0).val (i 1).val (i 2).val (i 3).val (i 4).val / Spec.L x (i 0).val (i 1).val (i 2).val (i 3).val : ℝ) : EReal) := by
  have hd : ∃ d : Fin 4096, d = i 4 := ⟨i 4, rfl⟩
  obtain ⟨d, hd⟩ := hd
  rw [← hd]
  have hj : ∃ j : S4x4x2x4096.Idx, j = idx_main_v34 (idx_main_v35 i) := ⟨_, rfl⟩
  obtain ⟨j, hj⟩ := hj
  have he : ∀ k : Fin 4096, val_main_v30 (F := Ideal) x0 (idx_main_v38 j k)
      = if k.val ≤ (i 3).val then (Spec.S x (i 0).val (i 1).val (i 2).val (i 3).val k.val : EReal) else ⊥ := fun k => by
    rw [v30_eq x0 x hx, hj]
  have hw : ∀ k : Fin 4096, ew (val_main_v30 (F := Ideal) x0 (idx_main_v38 j k)) = Spec.w x (i 0).val (i 1).val (i 2).val (i 3).val k.val := fun k => by
    rw [he, Spec.w]
    split
    · exact ew_coe _
    · exact ew_bot
  have h37 : ∀ k : Fin 4096, val_main_v37 (F := Ideal) x0 (idx_main_v38 j k)
      = Ideal.exp (val_main_v30 (F := Ideal) x0 (idx_main_v38 j k) - val_main_v33 (F := Ideal) x0 j) := fun k => by
    have hj' : idx_main_v34 (idx_main_v35 (idx_main_v38 j k)) = j := funext fun a => Fin.ext (by
      match a with
      | ⟨0, _⟩ => rfl
      | ⟨1, _⟩ => rfl
      | ⟨2, _⟩ => rfl
      | ⟨3, _⟩ => rfl)
    rw [val_main_v37_apply, val_main_v36_apply, val_main_v35_apply, val_main_v34_apply, hj']
    rfl
  have h38 : val_main_v38 (F := Ideal) x0 j = ∑ k : Fin 4096, Ideal.exp (val_main_v30 (F := Ideal) x0 (idx_main_v38 j k) - val_main_v33 (F := Ideal) x0 j) := by
    rw [val_main_v38_apply]
    show Ideal.ofBits .f32 0x00000000#32 + _ = _
    rw [Ideal.ofBits_zero_f32, zero_add]
    exact Finset.sum_congr rfl fun k _ => h37 k
  have hi : i = idx_main_v38 j d := funext fun a => Fin.ext (by
    rw [hj, hd]
    match a with
    | ⟨0, _⟩ => rfl
    | ⟨1, _⟩ => rfl
    | ⟨2, _⟩ => rfl
    | ⟨3, _⟩ => rfl
    | ⟨4, _⟩ => rfl)
  have h : val_main_v41 (F := Ideal) x0 i = Ideal.div (val_main_v37 (F := Ideal) x0 i) (val_main_v38 (F := Ideal) x0 j) := by
    have hj' : idx_main_v39 (idx_main_v40 i) = j := by rw [hj]
    rw [val_main_v41_apply, val_main_v40_apply, val_main_v39_apply, hj']
    rfl
  have h37i : val_main_v37 (F := Ideal) x0 i = Ideal.exp (val_main_v30 (F := Ideal) x0 (idx_main_v38 j d) - val_main_v33 (F := Ideal) x0 j) := by
    rw [← h37, ← hi]
  have s := softmax (fun k : Fin 4096 => val_main_v30 (F := Ideal) x0 (idx_main_v38 j k))
    (fun k => by
      rw [he]
      split
      · exact EReal.coe_ne_top _
      · exact bot_ne_top)
    ⟨0, by
      rw [he, if_pos (show (0 : Fin 4096).val ≤ (i 3).val from Nat.zero_le _)]
      exact EReal.coe_ne_bot _⟩ d (v33_eq x0 x hx j)
  rw [h, h37i, h38]
  refine s.trans (congrArg (fun y : ℝ => (y : EReal)) ?_)
  rw [hw, Finset.sum_congr rfl fun k _ => hw k, Spec.L]

theorem v43_eq (i : S4x4x4096x4096.Idx) : val_main_v43 (F := Ideal) x0 i
    = ((Spec.w x (i 0).val (i 1).val 0 (i 2).val (i 3).val / Spec.L x (i 0).val (i 1).val 0 (i 2).val : ℝ) : EReal) := by
  have h0 : (i 0).val < 4 := (i 0).isLt
  have h1 : (i 1).val < 4 := (i 1).isLt
  have h2 : (i 2).val < 4096 := (i 2).isLt
  have h3 : (i 3).val < 4096 := (i 3).isLt
  have e : val_main_v43 (F := Ideal) x0 i = val_main_v41 (F := Ideal) x0 (ix5 (i 0) (i 1) 0 (i 2) (i 3)) := by
    rw [val_main_v43_apply, val_main_v42_apply]
    refine congrArg _ (funext fun a => Fin.ext ?_)
    match a with
    | ⟨0, _⟩ => show ((((i 0).val * 4 + (i 1).val) * 4096 + (i 2).val) * 4096 + (i 3).val) / 67108864 = (i 0).val; omega
    | ⟨1, _⟩ => show ((((i 0).val * 4 + (i 1).val) * 4096 + (i 2).val) * 4096 + (i 3).val) / 16777216 % 4 = (i 1).val; omega
    | ⟨2, _⟩ => rfl
    | ⟨3, _⟩ => show ((((i 0).val * 4 + (i 1).val) * 4096 + (i 2).val) * 4096 + (i 3).val) / 4096 % 4096 = (i 2).val; omega
    | ⟨4, _⟩ => show ((((i 0).val * 4 + (i 1).val) * 4096 + (i 2).val) * 4096 + (i 3).val) % 4096 = (i 3).val; omega
  rw [e]
  exact v41_eq x0 x hx _

theorem v45_eq (i : S4x4x4096x4096.Idx) : val_main_v45 (F := Ideal) x0 i
    = ((Spec.w x (i 0).val (i 1).val 1 (i 2).val (i 3).val / Spec.L x (i 0).val (i 1).val 1 (i 2).val : ℝ) : EReal) := by
  have h0 : (i 0).val < 4 := (i 0).isLt
  have h1 : (i 1).val < 4 := (i 1).isLt
  have h2 : (i 2).val < 4096 := (i 2).isLt
  have h3 : (i 3).val < 4096 := (i 3).isLt
  have e : val_main_v45 (F := Ideal) x0 i = val_main_v41 (F := Ideal) x0 (ix5 (i 0) (i 1) 1 (i 2) (i 3)) := by
    rw [val_main_v45_apply, val_main_v44_apply]
    refine congrArg _ (funext fun a => Fin.ext ?_)
    match a with
    | ⟨0, _⟩ => show ((((i 0).val * 4 + (i 1).val) * 4096 + (i 2).val) * 4096 + (i 3).val) / 67108864 = (i 0).val; omega
    | ⟨1, _⟩ => show ((((i 0).val * 4 + (i 1).val) * 4096 + (i 2).val) * 4096 + (i 3).val) / 16777216 % 4 = (i 1).val; omega
    | ⟨2, _⟩ => rfl
    | ⟨3, _⟩ => show ((((i 0).val * 4 + (i 1).val) * 4096 + (i 2).val) * 4096 + (i 3).val) / 4096 % 4096 = (i 2).val; omega
    | ⟨4, _⟩ => show ((((i 0).val * 4 + (i 1).val) * 4096 + (i 2).val) * 4096 + (i 3).val) % 4096 = (i 3).val; omega
  rw [e]
  exact v41_eq x0 x hx _

variable (x1 : FVec Ideal S4x64 .f32) (lam : ℝ) (hlam : Spec.lamE (fun a d => x1 (ix2 a d)) = (lam : EReal))

include hlam

theorem v49_eq (i : S4x4x128x4096.Idx) : val_main_v49 (F := Ideal) x0 x1 i = (Spec.O lam x (i 0).val (i 1).val (i 3).val (i 2).val : EReal) := by
  have h48 : ∀ k : Fin 4096, val_main_v48 (F := Ideal) x0 x1 (ridx_main_v49 i k)
      = ((Spec.w x (i 0).val (i 1).val 0 (i 3).val k.val / Spec.L x (i 0).val (i 1).val 0 (i 3).val
        - lam * (Spec.w x (i 0).val (i 1).val 1 (i 3).val k.val / Spec.L x (i 0).val (i 1).val 1 (i 3).val) : ℝ) : EReal) := fun k => by
    have h : val_main_v48 (F := Ideal) x0 x1 (ridx_main_v49 i k) = val_main_v43 (F := Ideal) x0 (ridx_main_v49 i k)
        - val_main_v46 (F := Ideal) x1 (ridx_main_v49 i k) * val_main_v45 (F := Ideal) x0 (ridx_main_v49 i k) := by
      rw [val_main_v48_apply, val_main_v47_apply]
      rfl
    rw [h, v43_eq x0 x hx, v45_eq x0 x hx, val_main_v46_apply, v22_eq, hlam, ← EReal.coe_mul, ← EReal.coe_sub]
  rw [val_main_v49_apply]
  have e : ∀ k : Fin 4096, val_main_v6 (F := Ideal) x0 (lidx_main_v49 i k) * val_main_v48 (F := Ideal) x0 x1 (ridx_main_v49 i k)
      = ((x (4096 * (i 0).val + k.val) (1024 + 128 * (i 1).val + (i 2).val) * Spec.w x (i 0).val (i 1).val 0 (i 3).val k.val / Spec.L x (i 0).val (i 1).val 0 (i 3).val
        - lam * (x (4096 * (i 0).val + k.val) (1024 + 128 * (i 1).val + (i 2).val) * Spec.w x (i 0).val (i 1).val 1 (i 3).val k.val
          / Spec.L x (i 0).val (i 1).val 1 (i 3).val) : ℝ) : EReal) := fun k => by
    rw [h48, v6_eq x0 x hx, ← EReal.coe_mul]
    refine congrArg (fun y : ℝ => (y : EReal)) ?_
    show x (4096 * (i 0).val + k.val) (1024 + 128 * (i 1).val + (i 2).val) * _ = _
    ring
  rw [Finset.sum_congr rfl fun k _ => e k, coe_sum]
  refine congrArg (fun y : ℝ => (y : EReal)) ?_
  rw [Finset.sum_sub_distrib, ← Finset.mul_sum, ← Finset.sum_div, ← Finset.sum_div]
  simp only [Spec.O, Spec.N]

theorem v50_eq (i : S4x4096x4x128.Idx) : val_main_v50 (F := Ideal) x0 x1 i = (Spec.O lam x (i 0).val (i 2).val (i 1).val (i 3).val : EReal) := by
  rw [val_main_v50_apply]
  exact v49_eq x0 x hx x1 lam hlam _

theorem v66_eq (x2 : FVec Ideal S1x128 .f32) (i : S4x4096x4x128.Idx) : val_main_v66 (F := Ideal) x0 x1 x2 i
    = Spec.fin (fun d => (Spec.O lam x (i 0).val (i 2).val (i 1).val d.val : EReal)) (i 3) (x2 (ix2 0 (i 3))) := by
  have h3 : (i 3).val < 128 := (i 3).isLt
  have hd : ∃ d : Fin 128, d = i 3 := ⟨i 3, rfl⟩
  obtain ⟨d, hd⟩ := hd
  rw [← hd]
  have hj : ∃ j : S4x4096x4.Idx, j = idx_main_v53 (idx_main_v59 i) := ⟨_, rfl⟩
  obtain ⟨j, hj⟩ := hj
  have h52 : val_main_v52 (F := Ideal) x0 x1 j = ∑ d : Fin 128, (Spec.O lam x (i 0).val (i 2).val (i 1).val d.val : EReal) * (Spec.O lam x (i 0).val (i 2).val (i 1).val d.val : EReal) := by
    rw [val_main_v52_apply]
    show Ideal.ofBits .f32 0x00000000#32 + _ = _
    rw [Ideal.ofBits_zero_f32, zero_add]
    refine Finset.sum_congr rfl fun d _ => ?_
    rw [val_main_v51_apply, v50_eq x0 x hx x1 lam hlam, hj]
    rfl
  have h59 : val_main_v59 (F := Ideal) x0 x1 i = Ideal.rsqrt (Ideal.div (val_main_v52 (F := Ideal) x0 x1 j) (Ideal.ofBits .f32 0x43000000#32)
      + Ideal.ofBits .f32 0x358637BD#32) := by
    rw [val_main_v59_apply, val_main_v58_apply, val_main_v57_apply, val_main_v55_apply, val_main_v53_apply, val_main_v54_apply, val_main_v56_apply, ← hj]
    rfl
  have h63 : val_main_v63 (F := Ideal) x2 i = x2 (ix2 0 d) := by
    rw [val_main_v63_apply, val_main_v62_apply, val_main_v61_apply]
    refine congrArg x2 (funext fun a => Fin.ext ?_)
    match a with
    | ⟨0, _⟩ => rfl
    | ⟨1, _⟩ => show (i 3).val % 128 = d.val; rw [hd]; omega
  have h65 : val_main_v65 (F := Ideal) i = Ideal.ofBits .f32 0x3F4CCCCD#32 := by
    rw [val_main_v65_apply]; rfl
  have h : val_main_v66 (F := Ideal) x0 x1 x2 i = ((val_main_v50 (F := Ideal) x0 x1 i * val_main_v59 (F := Ideal) x0 x1 i) * val_main_v63 (F := Ideal) x2 i)
      * val_main_v65 (F := Ideal) i := by
    rw [val_main_v66_apply, val_main_v64_apply, val_main_v60_apply]
    rfl
  rw [h, h59, h52, h63, h65, v50_eq x0 x hx x1 lam hlam, ← hd]
  exact fin_eq (fun d => (Spec.O lam x (i 0).val (i 2).val (i 1).val d.val : EReal)) d (x2 (ix2 0 d))

/-- The result. -/
theorem v68_eq (x2 : FVec Ideal S1x128 .f32) (i : S16384x512.Idx) : val_main_v68 (F := Ideal) x0 x1 x2 i
    = Spec.fin (fun d => (Spec.O lam x ((i 0).val / 4096) ((i 1).val / 128) ((i 0).val % 4096) d.val : EReal))
      ⟨(i 1).val % 128, Nat.mod_lt _ (by norm_num)⟩ (x2 (ix2 0 ⟨(i 1).val % 128, Nat.mod_lt _ (by norm_num)⟩)) := by
  have h0 : (i 0).val < 16384 := (i 0).isLt
  have h1 : (i 1).val < 512 := (i 1).isLt
  have e : val_main_v68 (F := Ideal) x0 x1 x2 i = val_main_v66 (F := Ideal) x0 x1 x2 (ix4 ⟨(i 0).val / 4096, by omega⟩ ⟨(i 0).val % 4096, by omega⟩
      ⟨(i 1).val / 128, by omega⟩ ⟨(i 1).val % 128, by omega⟩) := by
    rw [val_main_v68_apply, val_main_v67_apply]
    refine congrArg (val_main_v66 (F := Ideal) x0 x1 x2) (funext fun a => Fin.ext ?_)
    match a with
    | ⟨0, _⟩ => show ((i 0).val * 512 + (i 1).val) / 2097152 = (i 0).val / 4096; omega
    | ⟨1, _⟩ => show ((i 0).val * 512 + (i 1).val) / 512 % 4096 = (i 0).val % 4096; omega
    | ⟨2, _⟩ => show ((i 0).val * 512 + (i 1).val) / 128 % 4 = (i 1).val / 128; omega
    | ⟨3, _⟩ => show ((i 0).val * 512 + (i 1).val) % 128 = (i 1).val % 128; omega
  rw [e]
  exact v66_eq x0 x hx x1 lam hlam x2 _

end Values

end Cert.Proof.ReferenceIdeal

end
-- ==== Proof.Algebraic.lean ====
/-
  At exact arithmetic the attention kernel and the reference agree on finite inputs.
-/
module

public import proofs.«01_k».proof.Defs
public import proofs.«01_k».proof.Proof.Frames
public import proofs.«01_k».proof.Proof.KernelIdealValue
public import proofs.«01_k».proof.Proof.ReferenceValue
public import Idealize.ShloMosaic.Lib.ReduceAll

@[expose] public section

set_option maxRecDepth 16384

noncomputable section

namespace Cert.Proof

open Idealize.ShloMosaic Idealize.ShloMosaic.TcCoe Idealize.SL.Sem

theorem pre_facts : Cert.Pre_finite_inputs.Facts where
  bitsLt_bf16_f32 := by decide
  bcast_S_S16384x1536 := by decide
  reducesTo_S16384x1536_S_d0_1 := by decide
  h_S_ := by decide
  bcast_S_S4x64 := by decide
  reducesTo_S4x64_S_d0_1 := by decide

/-- An extended real of magnitude below the infinity is real. -/
theorem real_of_abs (a : EReal) (h : Ideal.cmp .olt (max a (-a)) (Ideal.ofBits .f32 0x7F800000#32) = 1#1) : a = (a.toReal : EReal) := by
  have ht : Ideal.ofBits .f32 0x7F800000#32 = (⊤ : EReal) := by simp [Ideal.ofBits, Ideal.ieee]
  rw [ht] at h
  induction a with
  | bot => simp [Ideal.cmp] at h
  | top => simp [Ideal.cmp] at h
  | coe r => rfl

instance : Subsingleton Cert.Pre_finite_inputs.S_.Idx := ⟨fun a b => funext fun i => i.elim0⟩

/-- The precondition, read: the elements of the first two arguments are real. -/
theorem finite_of_pre (hp : Cert.Pre_finite_inputs.Facts) (a0 : FVec Ideal Cert.Pre_finite_inputs.S16384x1536 .bf16) (a1 : FVec Ideal Cert.Pre_finite_inputs.S4x64 .f32)
    (a2 : FVec Ideal Cert.Pre_finite_inputs.S1x128 .f32) (h : Cert.Pre_finite_inputs.fn (F := Ideal) a0 a1 a2 = fun _ => 1#1) :
    (∀ i, (a0 i : EReal) = ((a0 i : EReal).toReal : EReal)) ∧ (∀ i, (a1 i : EReal) = ((a1 i : EReal).toReal : EReal)) := by
  have h0 := congrFun h (Shape.Idx.first (s := Cert.Pre_finite_inputs.S_) (by decide))
  simp only [Cert.Pre_finite_inputs.fn] at h0
  obtain ⟨hl, hr⟩ := IntOp.andi_eq_one.1 h0
  refine ⟨fun i => real_of_abs _ ?_, fun i => real_of_abs _ ?_⟩
  · exact Host.reduce_andi_all _ _ _ _ _ hl i
  · exact Host.reduce_andi_all _ _ _ _ _ hr i

/-- On finite inputs the kernel's output array is the reference's result. -/
theorem value_eq (m : (ℓ : Loc Cert.KernelIdeal.nD Cert.KernelIdeal.τ Cert.KernelIdeal.sig) → Buf (Elt Ideal) ℓ) (c : Dev Cert.KernelIdeal.nD)
    (h0 : ∀ i : Cert.KernelIdeal.S16384x1536.Idx, (m ((c : Thread Cert.KernelIdeal.nD Cert.KernelIdeal.τ).loc Cert.KernelIdeal.main_arg0) i : EReal)
      = ((m ((c : Thread Cert.KernelIdeal.nD Cert.KernelIdeal.τ).loc Cert.KernelIdeal.main_arg0) i : EReal).toReal : EReal))
    (h1 : ∀ i : Cert.KernelIdeal.S4x64.Idx, (m ((c : Thread Cert.KernelIdeal.nD Cert.KernelIdeal.τ).loc Cert.KernelIdeal.main_arg1) i : EReal)
      = ((m ((c : Thread Cert.KernelIdeal.nD Cert.KernelIdeal.τ).loc Cert.KernelIdeal.main_arg1) i : EReal).toReal : EReal)) :
    (KernelIdeal.dats (F := Ideal) m 0 c).arrAt 5 Cert.KernelIdeal.cfg0.N
      = Cert.ReferenceIdeal.Read.val_main_v68 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1)) (m ((c : Thread Cert.KernelIdeal.nD Cert.KernelIdeal.τ).loc Cert.KernelIdeal.main_arg2)) := by
  let A : Cert.KernelIdeal.S16384x1536.Idx → EReal := m ((c : Thread Cert.KernelIdeal.nD Cert.KernelIdeal.τ).loc Cert.KernelIdeal.main_arg0)
  let B : Cert.KernelIdeal.S4x64.Idx → EReal := m ((c : Thread Cert.KernelIdeal.nD Cert.KernelIdeal.τ).loc Cert.KernelIdeal.main_arg1)
  let x : ℕ → ℕ → ℝ := fun r k => if h : r < 16384 ∧ k < 1536 then (A (ValueIdx.ix2 ⟨r, h.1⟩ ⟨k, h.2⟩)).toReal else 0
  have hx : ∀ i : Cert.KernelIdeal.S16384x1536.Idx, A i = (x (i 0).val (i 1).val : EReal) := fun i => by
    have e : x (i 0).val (i 1).val = (A i).toReal := by
      show (if h : (i 0).val < 16384 ∧ (i 1).val < 1536 then (A (ValueIdx.ix2 ⟨(i 0).val, h.1⟩ ⟨(i 1).val, h.2⟩)).toReal else 0) = _
      rw [dif_pos ⟨(i 0).isLt, (i 1).isLt⟩]
      exact congrArg (fun j => (A j).toReal) (ValueIdx.eq_ix2 (n0 := 16384) (n1 := 1536) i).symm
    rw [e]
    exact h0 i
  obtain ⟨lam, hlam⟩ := Spec.lamE_real (fun a d => B (ValueIdx.ix2 a d)) (fun a d => (B (ValueIdx.ix2 a d)).toReal) fun a d => h1 _
  refine (KernelIdeal.arr_out m c x hx lam hlam).trans (funext fun i => ?_)
  exact (ReferenceIdeal.v68_eq A x hx B lam hlam (m ((c : Thread Cert.KernelIdeal.nD Cert.KernelIdeal.τ).loc Cert.KernelIdeal.main_arg2)) i).symm

theorem algebraic (hp : Cert.Pre_finite_inputs.Facts) : Cert.algebraic_KernelIdeal_ReferenceIdeal_pre_finite_inputs := by
  intro m g m' g' hpre hargs
  refine ⟨fun c => (KernelIdeal.dats (F := Ideal) m 0 c).arrAt 5 Cert.KernelIdeal.cfg0.N,
    (θ_run Cert.KernelIdeal.defs _ _).mono (fun r h c => ⟨(h.1 c).1 5, ((h.1 c).1 4).trans ((KernelIdeal.dats m 0 c).arrAt_in 4 rfl _),
      ((h.1 c).1 0).trans ((KernelIdeal.dats m 0 c).arrAt_in 0 rfl _), ((h.1 c).1 1).trans ((KernelIdeal.dats m 0 c).arrAt_in 1 rfl _)⟩)
      (KernelIdeal.run_main (F := Ideal) m g),
    (θ_run Cert.ReferenceIdeal.defs _ _).mono (fun r h c => ⟨?_, (h c).2⟩) (Cert.ReferenceIdeal.Value.run (F := Ideal) m' g')⟩
  obtain ⟨e0, e1, e2⟩ := hargs c
  obtain ⟨f0, f1⟩ := finite_of_pre hp _ _ _ (hpre c)
  refine ((h c).1.trans (Cert.ReferenceIdeal.Read.val_main_v68_eq m' c)).trans ?_
  rw [e0, e1, e2]
  exact (value_eq m c f0 f1).symm

theorem frame_pi_pre (hp : Cert.Pre_finite_inputs.Facts) : Cert.quiescent_KernelIdeal_pre_finite_inputs := fun m ρ _ => frame_pi m ρ trivial

theorem frame_ri_pre (hp : Cert.Pre_finite_inputs.Facts) : Cert.quiescent_ReferenceIdeal_pre_finite_inputs := fun m ρ _ => frame_ri m ρ trivial

end Cert.Proof

end
-- ==== Proof.InprojKernel.lean ====
/-
  What the input projection's kernel leaves in its two output arrays: every row, normalised, times the weights' columns.
-/
module

public import proofs.«01_k».proof.Proof.Gen.Kernel2Ideal.Value
public import Idealize.ShloMosaic.Lib.Pipeline.ValueKit
public import Idealize.ShloMosaic.Lib.MatmulPlain
public import Idealize.ShloMosaic.Lib.IdealHost

@[expose] public section

set_option maxRecDepth 16384

noncomputable section

namespace Cert.Proof.Inproj

open Cert.Kernel2Ideal Cert.Kernel2Ideal.Gen
open Idealize.ShloMosaic Idealize.ShloMosaic.TcCoe

/-- A row of 1024, divided by the root of its mean square and scaled by the weights. -/
def rowRms (x w : Fin 1024 → EReal) (k : Fin 1024) : EReal :=
  x k * Ideal.rsqrt (Ideal.div (∑ e : Fin 1024, x e * x e) (Ideal.ofBits .f32 0x44800000#32) + Ideal.ofBits .f32 0x358637BD#32) * w k

/-- The normalised row times one column. -/
def proj (x w m : Fin 1024 → EReal) : EReal := ∑ k : Fin 1024, rowRms x w k * m k

theorem pay5_apply (x : FVec Ideal S512x1024 .f32) (w : FVec Ideal S1x1024 .f32) (r : Fin 512) (k : Fin 1024) :
    k0_pay5 (F := Ideal) x w (ValueIdx.ix2 r k) = rowRms (fun e => x (ValueIdx.ix2 r e)) (fun e => w (ValueIdx.ix2 0 e)) k := by
  have h : k0_pay5 (F := Ideal) x w = mulf (mulf x (broadcastTo S512x1024 (rsqrt (addf (divf (shapeCast S512x1 (multiReduction .add [1] S512 (mulf x x) 0x00000000#32
      reduces_S512x1024_S512 (.inl rfl) rfl) shapeCasts_S512_S512x1) (broadcast S512x1 (Scalar.ofBits .f32 0x44800000#32))) (broadcast S512x1 (Scalar.ofBits .f32 0x358637BD#32))))
      broadcasts_S512x1_S512x1024)) (broadcastTo S512x1024 w broadcasts_S1x1024_S512x1024) := by
    simp only [k0_pay5]; rfl
  have e : shapeCast S512x1 (multiReduction .add [1] S512 (mulf x x) 0x00000000#32 reduces_S512x1024_S512 (.inl rfl) rfl) shapeCasts_S512_S512x1 (ValueIdx.ix2 r 0)
      = ∑ e : Fin 1024, x (ValueIdx.ix2 r e) * x (ValueIdx.ix2 r e) := by
    refine (shapeCast_apply _ shapeCasts_S512_S512x1 (ValueIdx.ix2 r 0) (ValueIdx.ix1 r) (by
      rw [Shape.rowMajor_val_one, Shape.rowMajor_val_two]
      show r.val = r.val * 1 + 0
      omega)).trans ?_
    refine (Ideal.multiReduction_add_single (mulf x x) _ _ _ _ _).trans ?_
    refine Finset.sum_congr rfl fun d _ => ?_
    have e : reduces_S512x1024_S512.lift (ValueIdx.ix1 r) d = (ValueIdx.ix2 r d : S512x1024.Idx) := by
      funext a; apply Fin.ext
      match a with
      | ⟨0, _⟩ => rfl
      | ⟨1, _⟩ => rfl
    exact congrArg (mulf x x) e
  rw [h]
  have h1 : ∀ (y : FVec Ideal S512x1 .f32), mulf (mulf x (broadcastTo S512x1024 y broadcasts_S512x1_S512x1024)) (broadcastTo S512x1024 w broadcasts_S1x1024_S512x1024) (ValueIdx.ix2 r k)
      = x (ValueIdx.ix2 r k) * y (ValueIdx.ix2 r 0) * w (ValueIdx.ix2 0 k) := fun y => by
    show x (ValueIdx.ix2 r k) * broadcastTo S512x1024 y broadcasts_S512x1_S512x1024 (ValueIdx.ix2 r k) * broadcastTo S512x1024 w broadcasts_S1x1024_S512x1024 (ValueIdx.ix2 r k) = _
    rw [broadcastTo_apply y broadcasts_S512x1_S512x1024 (ValueIdx.ix2 r k) (ValueIdx.ix2 r 0) (fun a => by match a with | ⟨0, _⟩ => rfl | ⟨1, _⟩ => rfl),
      broadcastTo_apply w broadcasts_S1x1024_S512x1024 (ValueIdx.ix2 r k) (ValueIdx.ix2 0 k) (fun a => by match a with | ⟨0, _⟩ => rfl | ⟨1, _⟩ => rfl)]
  rw [h1, rowRms, ← e]
  rfl

theorem mm_apply (u : FVec Ideal S512x1024 .bf16) (w : FVec Ideal S1024x512 .bf16) (r c : Fin 512) :
    matmul dot_S512x1024_S1024x512_S512x512_1_0_0_1_n_n none u w (constant S512x512 .f32 0x00000000#32) (ValueIdx.ix2 r c)
      = ∑ k : Fin 1024, u (ValueIdx.ix2 r k) * w (ValueIdx.ix2 k c) := by
  refine (Ideal.matmul_plain_apply (M := 512) (K := 1024) (N := 512) none u w (constant S512x512 .f32 0x00000000#32) r c).trans ?_
  show Ideal.ofBits .f32 0x00000000#32 + _ = _
  rw [Ideal.ofBits_zero_f32, zero_add]

/-- One dot of the body, read at an index. -/
theorem mm_proj (a : FVec Ideal S512x1024 .f32) (b : FVec Ideal S1x1024 .f32) (w : FVec Ideal S1024x512 .bf16) (x : S512x512.Idx) :
    matmul dot_S512x1024_S1024x512_S512x512_1_0_0_1_n_n none (k0_pay5 (F := Ideal) a b) w (constant S512x512 .f32 0x00000000#32) x
      = proj (fun e => a (ValueIdx.ix2 (x 0) e)) (fun e => b (ValueIdx.ix2 0 e)) (fun k => w (ValueIdx.ix2 k (x 1))) := by
  obtain ⟨r, c, rfl⟩ : ∃ (r : Fin 512) (d : Fin 512), x = (ValueIdx.ix2 r d : S512x512.Idx) := ⟨x 0, x 1, ValueIdx.eq_ix2 (n0 := 512) (n1 := 512) x⟩
  rw [mm_apply]
  exact Finset.sum_congr rfl fun k _ => congrArg (· * _) (pay5_apply a b r k)

/-- A piece of an output block: the dot with 512 columns of the weights from column `o` on. -/
theorem piece (x0 : Vec Ideal S512x1024 .f32) (x1 : Vec Ideal S1x1024 .f32) (x2 : Vec Ideal S1024x4096 .bf16) (o : ℕ) (inb) (a : FVec Ideal S512x1024 .f32) (b : FVec Ideal S1x1024 .f32)
    (ha : a = x0) (hb : b = x1) (x : S512x512.Idx) (r : Fin 512) (j : Fin 4096) (hr : r.val = (x 0).val) (hj : j.val = o + (x 1).val) :
    matmul (φ₂ := .bf16) dot_S512x1024_S1024x512_S512x512_1_0_0_1_n_n none (k0_pay5 (F := Ideal) a b) (View.ld x2 (Rect.unit (s := S1024x4096) ![0, o] S1024x512.size inb) : FVec Ideal S1024x512 .bf16)
      (constant S512x512 .f32 0x00000000#32) x
      = proj (fun e => x0 (ValueIdx.ix2 r e)) (fun e => x1 (ValueIdx.ix2 0 e)) (fun k => x2 (ValueIdx.ix2 k j)) := by
  subst ha; subst hb
  rw [mm_proj]
  have e : x 0 = r := Fin.ext hr.symm
  rw [e]
  refine congrArg (proj _ _) (funext fun k => ?_)
  refine View.ld_unit_apply_of x2 ![0, o] S1024x512.size inb _ (ValueIdx.ix2 k j) fun q => ?_
  match q with
  | ⟨0, _⟩ => show k.val = 0 + k.val; omega
  | ⟨1, _⟩ => exact hj

theorem out3_apply (x0 : Vec Ideal S512x1024 .f32) (x1 : Vec Ideal S1x1024 .f32) (x2 : Vec Ideal S1024x4096 .bf16) (r : Fin 512) (j : Fin 1536) :
    out0_3 (F := Ideal) x0 x1 x2 (ValueIdx.ix2 r j)
      = proj (fun e => x0 (ValueIdx.ix2 r e)) (fun e => x1 (ValueIdx.ix2 0 e)) (fun k => x2 (ValueIdx.ix2 k ⟨j.val, by omega⟩)) := by
  have e0 : View.ld x0 r0_0 = x0 := View.ld_unit_lit _ x0 (by decide)
  have e1 : View.ld x1 r0_1 = x1 := View.ld_unit_lit _ x1 (by decide)
  unfold out0_3
  canon_tiles x h
  · exact piece x0 x1 x2 1024 _ _ _ e0 e1 x r ⟨j.val, by omega⟩ h0 h1
  · exact piece x0 x1 x2 512 _ _ _ e0 e1 x r ⟨j.val, by omega⟩ h0 h1
  · exact piece x0 x1 x2 0 _ _ _ e0 e1 x r ⟨j.val, by omega⟩ h0 (by rw [Nat.zero_add]; exact h1)

theorem out4_apply (x0 : Vec Ideal S512x1024 .f32) (x1 : Vec Ideal S1x1024 .f32) (x2 : Vec Ideal S1024x4096 .bf16) (r : Fin 512) (j : Fin 2560) :
    out0_4 (F := Ideal) x0 x1 x2 (ValueIdx.ix2 r j)
      = proj (fun e => x0 (ValueIdx.ix2 r e)) (fun e => x1 (ValueIdx.ix2 0 e)) (fun k => x2 (ValueIdx.ix2 k ⟨1536 + j.val, by omega⟩)) := by
  have e0 : View.ld x0 r0_0 = x0 := View.ld_unit_lit _ x0 (by decide)
  have e1 : View.ld x1 r0_1 = x1 := View.ld_unit_lit _ x1 (by decide)
  unfold out0_4
  canon_tiles x h
  · exact piece x0 x1 x2 3584 _ _ _ e0 e1 x r ⟨1536 + j.val, by omega⟩ h0 (by have := h1; show 1536 + j.val = _; change j.val = _ at this; omega)
  · exact piece x0 x1 x2 3072 _ _ _ e0 e1 x r ⟨1536 + j.val, by omega⟩ h0 (by have := h1; show 1536 + j.val = _; change j.val = _ at this; omega)
  · exact piece x0 x1 x2 2560 _ _ _ e0 e1 x r ⟨1536 + j.val, by omega⟩ h0 (by have := h1; show 1536 + j.val = _; change j.val = _ at this; omega)
  · exact piece x0 x1 x2 2048 _ _ _ e0 e1 x r ⟨1536 + j.val, by omega⟩ h0 (by have := h1; show 1536 + j.val = _; change j.val = _ at this; omega)
  · exact piece x0 x1 x2 1536 _ _ _ e0 e1 x r ⟨1536 + j.val, by omega⟩ h0 (by have := h1; show 1536 + j.val = _; change j.val = _ at this; omega)

/-! ## The arrays -/

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel

variable (m : (ℓ : Loc nD τ sig) → Buf (Elt Ideal) ℓ) (c : Dev nD)

theorem blk0 (t : Fin cfg0.N) (r : Fin 512) (e : Fin 1024) (i : Fin 16384) (hi : i.val = 512 * t.val + r.val) :
    iblk (F := Ideal) m c 0 t (ValueIdx.ix2 r e : S512x1024.Idx) = (m ((c : Thread nD τ).loc main_arg0) : S16384x1024.Idx → EReal) (ValueIdx.ix2 i e) := by
  blk_ext! [iblk, V, idx0 t]
  · show t.val * 512 + r.val = i.val
    omega

theorem blk1 (t : Fin cfg0.N) : iblk (F := Ideal) m c 1 t = m ((c : Thread nD τ).loc main_arg1) := by
  blk_ext! [iblk, V, idx1 t]

theorem blk2 (t : Fin cfg0.N) : iblk (F := Ideal) m c 2 t = m ((c : Thread nD τ).loc main_arg2) := by
  blk_ext! [iblk, V, idx2 t]

/-- The first output: the projection's first 1536 columns. -/
def G3 : S16384x1536.Idx → EReal := fun i =>
  proj (fun e => (m ((c : Thread nD τ).loc main_arg0) : S16384x1024.Idx → EReal) (ValueIdx.ix2 (i 0) e))
    (fun e => (m ((c : Thread nD τ).loc main_arg1) : S1x1024.Idx → EReal) (ValueIdx.ix2 0 e))
    (fun k => (m ((c : Thread nD τ).loc main_arg2) : S1024x4096.Idx → EReal) (ValueIdx.ix2 k ⟨(i 1).val, lt_of_lt_of_le (show (i 1).val < 1536 from (i 1).isLt) (by norm_num)⟩))

/-- The second output: the projection's other columns. -/
def G4 : S16384x2560.Idx → EReal := fun i =>
  proj (fun e => (m ((c : Thread nD τ).loc main_arg0) : S16384x1024.Idx → EReal) (ValueIdx.ix2 (i 0) e))
    (fun e => (m ((c : Thread nD τ).loc main_arg1) : S1x1024.Idx → EReal) (ValueIdx.ix2 0 e))
    (fun k => (m ((c : Thread nD τ).loc main_arg2) : S1024x4096.Idx → EReal) (ValueIdx.ix2 k ⟨1536 + (i 1).val, Nat.add_lt_of_lt_sub' (show (i 1).val < 2560 from (i 1).isLt)⟩))

theorem arr3 : (dats (F := Ideal) m 0 c).arrAt 3 cfg0.N = G3 m c := by
  refine (dats (F := Ideal) m 0 c).arrAt_eq_of_covers 3 _ (by decide +kernel) fun t hf y => ?_
  blk_simp
  rw [after0_3]
  have ht : t.val < 32 := t.isLt
  obtain ⟨r, d, rfl⟩ : ∃ (r : Fin 512) (d : Fin 1536), y = (ValueIdx.ix2 r d : S512x1536.Idx) := ⟨y 0, y 1, ValueIdx.eq_ix2 (n0 := 512) (n1 := 1536) y⟩
  have hr := r.isLt
  have e : (win0_3.blk t).view.emb (ValueIdx.ix2 r d : S512x1536.Idx) = (ValueIdx.ix2 ⟨512 * t.val + r.val, by omega⟩ d : S16384x1536.Idx) := by
    blk_ext! [idx3 t]
    · show t.val * 512 + r.val = 512 * t.val + r.val
      omega
  refine (out3_apply _ _ _ r d).trans ?_
  rw [e, blk1, blk2]
  exact congrArg (fun f => proj f _ _) (funext fun e => blk0 m c t r e ⟨512 * t.val + r.val, by omega⟩ rfl)

theorem arr4 : (dats (F := Ideal) m 0 c).arrAt 4 cfg0.N = G4 m c := by
  refine (dats (F := Ideal) m 0 c).arrAt_eq_of_covers 4 _ (by decide +kernel) fun t hf y => ?_
  blk_simp
  rw [after0_4]
  have ht : t.val < 32 := t.isLt
  obtain ⟨r, d, rfl⟩ : ∃ (r : Fin 512) (d : Fin 2560), y = (ValueIdx.ix2 r d : S512x2560.Idx) := ⟨y 0, y 1, ValueIdx.eq_ix2 (n0 := 512) (n1 := 2560) y⟩
  have hr := r.isLt
  have e : (win0_4.blk t).view.emb (ValueIdx.ix2 r d : S512x2560.Idx) = (ValueIdx.ix2 ⟨512 * t.val + r.val, by omega⟩ d : S16384x2560.Idx) := by
    blk_ext! [idx4 t]
    · show t.val * 512 + r.val = 512 * t.val + r.val
      omega
  refine (out4_apply _ _ _ r d).trans ?_
  rw [e, blk1, blk2]
  exact congrArg (fun f => proj f _ _) (funext fun e => blk0 m c t r e ⟨512 * t.val + r.val, by omega⟩ rfl)

end Cert.Proof.Inproj

end
-- ==== Proof.InprojClaims.lean ====
/-
  The input projection's claims.
-/
module

public import proofs.«01_k».proof.Defs
public import proofs.«01_k».proof.Proof.Gen.Kernel2.Frame
public import proofs.«01_k».proof.Proof.Gen.Reference2Ideal.Run
public import proofs.«01_k».proof.Proof.Gen.Reference2Ideal.Read
public import proofs.«01_k».proof.Proof.InprojKernel

@[expose] public section

set_option maxRecDepth 16384

noncomputable section

namespace Cert.Proof.Inproj

open Idealize.ShloMosaic Idealize.ShloMosaic.TcCoe Idealize.SL.Sem

section Reference

open Cert.Reference2Ideal Cert.Reference2Ideal.Read

variable (x0 : S16384x1024.Idx → EReal) (x1 : S1x1024.Idx → EReal) (x2 : S1024x4096.Idx → EReal)

theorem v1_apply (j : S16384.Idx) (r : Fin 16384) (hr : r = j 0) :
    val_main_v1 (F := Ideal) x0 j = ∑ e : Fin 1024, x0 (ValueIdx.ix2 r e) * x0 (ValueIdx.ix2 r e) := by
  rw [val_main_v1_apply, val_main_cst_apply]
  show Ideal.ofBits .f32 0x00000000#32 + _ = _
  rw [Ideal.ofBits_zero_f32, zero_add]
  refine Finset.sum_congr rfl fun e _ => ?_
  rw [val_main_v0_apply]
  have h : idx_main_v1 j e = (ValueIdx.ix2 r e : S16384x1024.Idx) := by
    subst hr
    funext a; apply Fin.ext
    match a with
    | ⟨0, _⟩ => rfl
    | ⟨1, _⟩ => rfl
  rw [h]
  rfl

theorem v13_apply (i : S16384x1024.Idx) (r : Fin 16384) (k : Fin 1024) (hi : i = (ValueIdx.ix2 r k : S16384x1024.Idx)) :
    val_main_v13 (F := Ideal) x0 x1 i = rowRms (fun e => x0 (ValueIdx.ix2 r e)) (fun e => x1 (ValueIdx.ix2 0 e)) k := by
  have h12 : val_main_v12 (F := Ideal) x1 i = x1 (ValueIdx.ix2 0 k) := by
    rw [val_main_v12_apply, val_main_v11_apply, val_main_v10_apply]
    refine congrArg x1 ?_
    subst hi
    funext a; apply Fin.ext
    match a with
    | ⟨0, _⟩ => rfl
    | ⟨1, _⟩ => exact Nat.mod_eq_of_lt k.isLt
  have h8 : val_main_v8 (F := Ideal) x0 i = Ideal.rsqrt (Ideal.div (∑ e : Fin 1024, x0 (ValueIdx.ix2 r e) * x0 (ValueIdx.ix2 r e)) (Ideal.ofBits .f32 0x44800000#32)
      + Ideal.ofBits .f32 0x358637BD#32) := by
    rw [val_main_v8_apply, val_main_v7_apply, val_main_v6_apply, val_main_v4_apply, val_main_v2_apply, val_main_v3_apply, val_main_v5_apply,
      v1_apply x0 _ r (by subst hi; rfl)]
    rfl
  rw [val_main_v13_apply, val_main_v9_apply, h8, h12, hi]
  rfl

theorem v15_apply (r : Fin 16384) (j : Fin 4096) (i : S16384x4096.Idx) (hi : i = (ValueIdx.ix2 r j : S16384x4096.Idx)) :
    val_main_v15 (F := Ideal) x0 x1 x2 i
      = proj (fun e => x0 (ValueIdx.ix2 r e)) (fun e => x1 (ValueIdx.ix2 0 e)) (fun k => x2 (ValueIdx.ix2 k j)) := by
  rw [val_main_v15_apply]
  refine Finset.sum_congr rfl fun k _ => ?_
  rw [val_main_v14_apply, v13_apply x0 x1 _ r k (by
    subst hi
    funext a; apply Fin.ext
    match a with
    | ⟨0, _⟩ => rfl
    | ⟨1, _⟩ => rfl)]
  refine congrArg (rowRms _ _ k * ·) ?_
  show x2 _ = x2 _
  refine congrArg x2 ?_
  subst hi
  funext a; apply Fin.ext
  match a with
  | ⟨0, _⟩ => rfl
  | ⟨1, _⟩ => rfl

theorem v17_apply (r : Fin 16384) (j : Fin 1536) : val_main_v17 (F := Ideal) x0 x1 x2 (ValueIdx.ix2 r j)
    = proj (fun e => x0 (ValueIdx.ix2 r e)) (fun e => x1 (ValueIdx.ix2 0 e)) (fun k => x2 (ValueIdx.ix2 k ⟨j.val, by omega⟩)) := by
  rw [val_main_v17_apply, val_main_v16_apply]
  refine v15_apply x0 x1 x2 r ⟨j.val, by omega⟩ _ ?_
  funext a; apply Fin.ext
  match a with
  | ⟨0, _⟩ => rfl
  | ⟨1, _⟩ => rfl

theorem v18_apply (r : Fin 16384) (j : Fin 2560) : val_main_v18 (F := Ideal) x0 x1 x2 (ValueIdx.ix2 r j)
    = proj (fun e => x0 (ValueIdx.ix2 r e)) (fun e => x1 (ValueIdx.ix2 0 e)) (fun k => x2 (ValueIdx.ix2 k ⟨1536 + j.val, by omega⟩)) := by
  rw [val_main_v18_apply]
  refine v15_apply x0 x1 x2 r ⟨1536 + j.val, by omega⟩ _ ?_
  funext a; apply Fin.ext
  match a with
  | ⟨0, _⟩ => rfl
  | ⟨1, _⟩ => rfl

end Reference

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m g m' g' _ hargs
  refine ⟨fun c => G3 m c, fun c => G4 m c,
    (θ_run Cert.Kernel2Ideal.defs _ _).mono (fun r h c => ⟨(h c).1.trans (arr3 m c), (h c).2.1.trans (arr4 m c), (h c).2.2⟩)
      (Cert.Kernel2Ideal.Value.run_blocks (F := Ideal) m g),
    (θ_run Cert.Reference2Ideal.defs _ _).mono (fun r h c => ⟨?_, ?_, (h c).2.2⟩) (Cert.Reference2Ideal.Value.run (F := Ideal) m' g')⟩
  · obtain ⟨e0, e1, e2⟩ := hargs c
    refine ((h c).1.trans (Cert.Reference2Ideal.Read.val_main_v17_eq _ _ _)).trans ?_
    rw [e0, e1, e2]
    funext i
    obtain ⟨r, j, rfl⟩ : ∃ (r : Fin 16384) (d : Fin 1536), i = (ValueIdx.ix2 r d : Cert.Kernel2Ideal.S16384x1536.Idx) := ⟨i 0, i 1, ValueIdx.eq_ix2 (n0 := 16384) (n1 := 1536) i⟩
    exact v17_apply _ _ _ r j
  · obtain ⟨e0, e1, e2⟩ := hargs c
    refine ((h c).2.1.trans (Cert.Reference2Ideal.Read.val_main_v18_eq _ _ _)).trans ?_
    rw [e0, e1, e2]
    funext i
    obtain ⟨r, j, rfl⟩ : ∃ (r : Fin 16384) (d : Fin 2560), i = (ValueIdx.ix2 r d : Cert.Kernel2Ideal.S16384x2560.Idx) := ⟨i 0, i 1, ValueIdx.eq_ix2 (n0 := 16384) (n1 := 2560) i⟩
    exact v18_apply _ _ _ r j

end Cert.Proof.Inproj

end
-- ==== Proof.MixDefs.lean ====
/-
  The body of the output projection and feed-forward kernel, written once for every block of the hidden width: what it
  parks in its scratch buffers, what it reads back with a stride of four rows, and what it leaves in its output.
-/
module

public import proofs.«01_k».proof.Proof.Gen.Kernel3Ideal.Value
public import Idealize.ShloMosaic.Lib.Pipeline.ValueKit
public import Idealize.ShloMosaic.Lib.MatmulPlain
public import Idealize.ShloMosaic.Lib.IdealHost

@[expose] public section

set_option maxRecDepth 16384

noncomputable section

namespace Cert.Proof.Mix

open Cert.Kernel3Ideal Cert.Kernel3Ideal.Gen
open Idealize.ShloMosaic Idealize.ShloMosaic.TcCoe

/-- The rows that a strided load of a parked slab takes: 128 rows from `o 1` on, four apart, of slab `o 0`. -/
abbrev rowsAt (o : Fin 3 → ℕ) (inb : ∀ a, S1x128x128.size a = 0 ∨ o a + (![1, 4, 1] : Fin 3 → ℕ) a * (S1x128x128.size a - 1) < S2x528x128.size a) : LoadRect S2x528x128 :=
  { off := o, size := S1x128x128.size, stride := ![1, 4, 1], inb := inb }

/-- Eight strided loads put together: four row classes below each other, two slabs beside each other. -/
def back (a0 a1 a2 a3 b0 b1 b2 b3 : Vec Ideal S1x128x128 .f32) : FVec Ideal S512x256 .f32 :=
  concatenate S512x256 1
    [⟨S512x128, concatenate S512x128 0 [⟨S128x128, shapeCast S128x128 a0 shapeCasts_S1x128x128_S128x128⟩, ⟨S128x128, shapeCast S128x128 a1 shapeCasts_S1x128x128_S128x128⟩,
        ⟨S128x128, shapeCast S128x128 a2 shapeCasts_S1x128x128_S128x128⟩, ⟨S128x128, shapeCast S128x128 a3 shapeCasts_S1x128x128_S128x128⟩]
        concatenates_S128x128_S128x128_S128x128_S128x128_S512x128_d0⟩,
     ⟨S512x128, concatenate S512x128 0 [⟨S128x128, shapeCast S128x128 b0 shapeCasts_S1x128x128_S128x128⟩, ⟨S128x128, shapeCast S128x128 b1 shapeCasts_S1x128x128_S128x128⟩,
        ⟨S128x128, shapeCast S128x128 b2 shapeCasts_S1x128x128_S128x128⟩, ⟨S128x128, shapeCast S128x128 b3 shapeCasts_S1x128x128_S128x128⟩]
        concatenates_S128x128_S128x128_S128x128_S128x128_S512x128_d0⟩]
    concatenates_S512x128_S512x128_S512x256_d1

/-- The causal convolution of width three, from the twelve strided loads of the two slabs. -/
def conv (w : Vec Ideal S3x256 .f32) (b : Vec Ideal S1x256 .f32) (a0 a1 a2 a3 a4 a5 b0 b1 b2 b3 b4 b5 : Vec Ideal S1x128x128 .f32) : FVec Ideal S512x256 .f32 :=
  addf (addf (addf (broadcastTo S512x256 b broadcasts_S1x256_S512x256)
    (mulf (broadcastTo S512x256 (extractStridedSlice S1x256 ![0, 0] w slices_S3x256_o0_0_S1x256) broadcasts_S1x256_S512x256) (back a0 a1 a2 a3 b0 b1 b2 b3)))
    (mulf (broadcastTo S512x256 (extractStridedSlice S1x256 ![1, 0] w slices_S3x256_o1_0_S1x256) broadcasts_S1x256_S512x256) (back a1 a2 a3 a4 b1 b2 b3 b4)))
    (mulf (broadcastTo S512x256 (extractStridedSlice S1x256 ![2, 0] w slices_S3x256_o2_0_S1x256) broadcasts_S1x256_S512x256) (back a2 a3 a4 a5 b2 b3 b4 b5))

/-- The convolution of what the stores `L` left in the parking buffer `m`. -/
def convOf (m : Memref sig .tc .vmem S2x528x128 .f32) (L : List (View.Piece (Elt Ideal) S2x528x128 .f32)) (w : Vec Ideal S3x256 .f32) (b : Vec Ideal S1x256 .f32) :
    FVec Ideal S512x256 .f32 :=
  conv w b
    (m.view.readCov L (rowsAt ![0, 14, 0] (by decide))) (m.view.readCov L (rowsAt ![0, 15, 0] (by decide))) (m.view.readCov L (rowsAt ![0, 16, 0] (by decide)))
    (m.view.readCov L (rowsAt ![0, 17, 0] (by decide))) (m.view.readCov L (rowsAt ![0, 18, 0] (by decide))) (m.view.readCov L (rowsAt ![0, 19, 0] (by decide)))
    (m.view.readCov L (rowsAt ![1, 14, 0] (by decide))) (m.view.readCov L (rowsAt ![1, 15, 0] (by decide))) (m.view.readCov L (rowsAt ![1, 16, 0] (by decide)))
    (m.view.readCov L (rowsAt ![1, 17, 0] (by decide))) (m.view.readCov L (rowsAt ![1, 18, 0] (by decide))) (m.view.readCov L (rowsAt ![1, 19, 0] (by decide)))

/-- `silu gate * val`, as the body takes it. -/
def gated (g v : FVec Ideal S512x256 .f32) : FVec Ideal S512x256 .bf16 :=
  shapeCast S512x256 (truncf .bf16 (mulf (mulf g (divf (broadcast S512x256 (Scalar.ofBits .f32 0x3F800000#32)) (addf (broadcast S512x256 (Scalar.ofBits .f32 0x3F800000#32))
    (exp (subf (broadcast S512x256 (Scalar.ofBits .f32 0x00000000#32)) g))))) v) bitsLt_bf16_f32) shapeCasts_S512x256_S512x256

/-- 256 columns of the up projection, of all 528 rows. -/
def up (u : Vec Ideal S528x1024 .bf16) (w : Vec Ideal S1x1024x256 .bf16) : FVec Ideal S528x256 .f32 :=
  matmul (φ₁ := .bf16) (φ₂ := .bf16) dot_S528x1024_S1024x256_S528x256_1_0_0_1_n_n none u (shapeCast S1024x256 w shapeCasts_S1x1024x256_S1024x256) (constant S528x256 .f32 0x00000000#32)

/-- What the stores into a parking buffer are after `n` blocks, last first: two slabs of 128 columns for each block. -/
def parked (u : Vec Ideal S528x1024 .bf16) (w : ℕ → Vec Ideal S1x1024x256 .bf16) : ℕ → List (View.Piece (Elt Ideal) S2x528x128 .f32)
  | 0 => []
  | n + 1 =>
    ⟨Rect.unit ![1, 0, 0] S1x528x128.size inb_S2x528x128_S1x528x128_1_0_0,
      shapeCast S1x528x128 (extractStridedSlice S528x128 ![0, 128] (up u (w n)) slices_S528x256_o0_128_S528x128) shapeCasts_S528x128_S1x528x128⟩ ::
    ⟨Rect.unit ![0, 0, 0] S1x528x128.size inb_S2x528x128_S1x528x128_0_0_0,
      shapeCast S1x528x128 (extractStridedSlice S528x128 ![0, 0] (up u (w n)) slices_S528x256_o0_0_S528x128) shapeCasts_S528x128_S1x528x128⟩ :: parked u w n

/-- Block `j` of the hidden layer. -/
def hidden (m m' : Memref sig .tc .vmem S2x528x128 .f32) (u : Vec Ideal S528x1024 .bf16) (w w' : ℕ → Vec Ideal S1x1024x256 .bf16) (cw cw' : ℕ → Vec Ideal S3x256 .f32)
    (cb cb' : ℕ → Vec Ideal S1x256 .f32) (j : ℕ) : FVec Ideal S512x256 .bf16 :=
  gated (convOf m (parked u w (j + 1)) (cw j) (cb j)) (convOf m' (parked u w' (j + 1)) (cw' j) (cb' j))

/-- The stores into the hidden layer's buffer, last first. -/
def hiddenStores (a : ℕ → FVec Ideal S512x256 .bf16) : List (View.Piece (Elt Ideal) S512x2816 .bf16) :=
  [⟨Rect.unit ![0, 2560] S512x256.size (by decide), a 10⟩, ⟨Rect.unit ![0, 2304] S512x256.size (by decide), a 9⟩, ⟨Rect.unit ![0, 2048] S512x256.size (by decide), a 8⟩,
   ⟨Rect.unit ![0, 1792] S512x256.size (by decide), a 7⟩, ⟨Rect.unit ![0, 1536] S512x256.size (by decide), a 6⟩, ⟨Rect.unit ![0, 1280] S512x256.size (by decide), a 5⟩,
   ⟨Rect.unit ![0, 1024] S512x256.size (by decide), a 4⟩, ⟨Rect.unit ![0, 768] S512x256.size (by decide), a 3⟩, ⟨Rect.unit ![0, 512] S512x256.size (by decide), a 2⟩,
   ⟨Rect.unit ![0, 256] S512x256.size (by decide), a 1⟩, ⟨Rect.unit ![0, 0] S512x256.size (by decide), a 0⟩]

/-- 256 columns of the down projection. -/
def down (a : Vec Ideal S512x2816 .bf16) (w : Vec Ideal S1x2816x256 .bf16) : FVec Ideal S512x256 .f32 :=
  matmul (φ₁ := .bf16) (φ₂ := .bf16) dot_S512x2816_S2816x256_S512x256_1_0_0_1_n_n none a (shapeCast S2816x256 w shapeCasts_S1x2816x256_S2816x256) (constant S512x256 .f32 0x00000000#32)

theorem slab_inb (k : Fin 8) (r : Fin 4) (a : Fin 3) : S1x128x128.size a = 0 ∨ (![k.val, r.val, 0] : Fin 3 → ℕ) a + (![1, 4, 1] : Fin 3 → ℕ) a * (S1x128x128.size a - 1) < S8x512x128.size a := by
  revert k r a; decide

theorem cut_slices (k : Fin 8) (r : Fin 4) : S512x256.Slices ![128 * r.val, 128 * (k.val % 2)] S128x128 := by
  revert k r; decide

theorem plane_inb (k : Fin 8) (a : Fin 3) : (![k.val, 0, 0] : Fin 3 → ℕ) a + S1x512x128.size a ≤ S8x512x128.size a := by
  revert k a; decide

theorem lanes_inb (k : Fin 8) (a : Fin 2) : (![0, 128 * k.val] : Fin 2 → ℕ) a + S512x128.size a ≤ S512x1024.size a := by
  revert k a; decide

/-- One row class of a slab of the down projection, stored four rows apart. -/
def spread (y : FVec Ideal S512x256 .f32) (k : Fin 8) (r : Fin 4) : View.Piece (Elt Ideal) S8x512x128 .f32 :=
  ⟨{ off := ![k.val, r.val, 0], size := S1x128x128.size, stride := ![1, 4, 1], inb := slab_inb k r, stride_pos := spos_1_4_1 },
    shapeCast S1x128x128 (extractStridedSlice S128x128 ![128 * r.val, 128 * (k.val % 2)] y (cut_slices k r)) shapeCasts_S128x128_S1x128x128⟩

/-- The stores that put the rows of the down projection back in order, last first, after `n` slabs. -/
def spreads (y : ℕ → FVec Ideal S512x256 .f32) : ℕ → List (View.Piece (Elt Ideal) S8x512x128 .f32)
  | 0 => []
  | n + 1 => spread (y (n / 2)) (Fin.ofNat 8 n) 3 :: spread (y (n / 2)) (Fin.ofNat 8 n) 2 :: spread (y (n / 2)) (Fin.ofNat 8 n) 1 :: spread (y (n / 2)) (Fin.ofNat 8 n) 0 :: spreads y n

/-- The stores into the output block before the last, last first: the residual, then slab by slab what the down projection adds. -/
def residual (m : Memref sig .tc .vmem S512x1024 .f32) (m' : Memref sig .tc .vmem S8x512x128 .f32) (h : FVec Ideal S512x1024 .f32) (y : ℕ → FVec Ideal S512x256 .f32) :
    ℕ → List (View.Piece (Elt Ideal) S512x1024 .f32)
  | 0 => [⟨Rect.unit ![0, 0] S512x1024.size inb_S512x1024_S512x1024_0_0, h⟩]
  | n + 1 =>
    ⟨Rect.unit ![0, 128 * (Fin.ofNat 8 n).val] S512x128.size (lanes_inb (Fin.ofNat 8 n)),
      (addf (shapeCast S512x128 (m.view.readCov (residual m m' h y n) (Rect.unit (s := S512x1024) ![0, 128 * (Fin.ofNat 8 n).val] S512x128.size (lanes_inb (Fin.ofNat 8 n))).toLoadRect) shapeCasts_S512x128_S512x128)
        (shapeCast S512x128 (m'.view.readCov (spreads y (n + 1)) (Rect.unit (s := S8x512x128) ![(Fin.ofNat 8 n).val, 0, 0] S1x512x128.size (plane_inb (Fin.ofNat 8 n))).toLoadRect) shapeCasts_S1x512x128_S512x128) : FVec Ideal S512x128 .f32)⟩
      :: residual m m' h y n

/-- Rows of 1024 divided by the root of their mean squares, times one row of weights. -/
def rms (x : FVec Ideal S512x1024 .f32) (w : FVec Ideal S1x1024 .f32) : FVec Ideal S512x1024 .f32 :=
  mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits .f32 0x44800000#32))) (broadcast S512x1 (Scalar.ofBits .f32 0x358637BD#32))))
    broadcasts_S512x1_S512x1024)) (broadcastTo S512x1024 w broadcasts_S1x1024_S512x1024)

/-- Everything the body stores into its output block, last first. -/
def stores (m12 : Memref sig .tc .vmem S512x1024 .f32) (m14 : Memref sig .tc .vmem S512x2816 .bf16) (m15 m16 : Memref sig .tc .vmem S2x528x128 .f32)
    (m17 : Memref sig .tc .vmem S8x512x128 .f32) (h : FVec Ideal S512x1024 .f32) (u : Vec Ideal S528x1024 .bf16) (w w' : ℕ → Vec Ideal S1x1024x256 .bf16)
    (cw cw' : ℕ → Vec Ideal S3x256 .f32) (cb cb' : ℕ → Vec Ideal S1x256 .f32) (wd : ℕ → Vec Ideal S1x2816x256 .bf16) (fw : Vec Ideal S1x1024 .f32) :
    List (View.Piece (Elt Ideal) S512x1024 .f32) :=
  ⟨Rect.unit ![0, 0] S512x1024.size inb_S512x1024_S512x1024_0_0,
    rms (shapeCast S512x1024 (m12.view.readCov (residual m12 m17 h (fun c => down (m14.view.readCov (hiddenStores (hidden m15 m16 u w w' cw cw' cb cb'))
        (Rect.unit (s := S512x2816) ![0, 0] S512x2816.size (by decide)).toLoadRect) (wd c)) 8)
      (Rect.unit (s := S512x1024) ![0, 0] S512x1024.size inb_S512x1024_S512x1024_0_0).toLoadRect) shapeCasts_S512x1024_S512x1024) fw⟩ ::
  residual m12 m17 h (fun c => down (m14.view.readCov (hiddenStores (hidden m15 m16 u w w' cw cw' cb cb'))
        (Rect.unit (s := S512x2816) ![0, 0] S512x2816.size (by decide)).toLoadRect) (wd c)) 8

theorem gate_inb (k : Fin 11) (a : Fin 3) : (![0, 0, 256 * k.val] : Fin 3 → ℕ) a + S1x1024x256.size a ≤ S1x1024x5632.size a := by
  revert k a; decide

theorem val_inb (k : Fin 11) (a : Fin 3) : (![0, 0, 2816 + 256 * k.val] : Fin 3 → ℕ) a + S1x1024x256.size a ≤ S1x1024x5632.size a := by
  revert k a; decide

theorem gate_inb3 (k : Fin 11) (a : Fin 2) : (![0, 256 * k.val] : Fin 2 → ℕ) a + S3x256.size a ≤ S3x5632.size a := by
  revert k a; decide

theorem val_inb3 (k : Fin 11) (a : Fin 2) : (![0, 2816 + 256 * k.val] : Fin 2 → ℕ) a + S3x256.size a ≤ S3x5632.size a := by
  revert k a; decide

theorem gate_inb1 (k : Fin 11) (a : Fin 2) : (![0, 256 * k.val] : Fin 2 → ℕ) a + S1x256.size a ≤ S1x5632.size a := by
  revert k a; decide

theorem val_inb1 (k : Fin 11) (a : Fin 2) : (![0, 2816 + 256 * k.val] : Fin 2 → ℕ) a + S1x256.size a ≤ S1x5632.size a := by
  revert k a; decide

theorem down_inb (k : Fin 4) (a : Fin 3) : (![0, 0, 256 * k.val] : Fin 3 → ℕ) a + S1x2816x256.size a ≤ S1x2816x1024.size a := by
  revert k a; decide

section
variable (m7 : Memref sig .tc .vmem S1x1024x5632 .bf16) (h7 : m7.IsWhole) (x6 : Vec Ideal S1x1024x5632 .bf16)
  (m8 : Memref sig .tc .vmem S3x5632 .f32) (h8 : m8.IsWhole) (x7 : Vec Ideal S3x5632 .f32)
  (m9 : Memref sig .tc .vmem S1x5632 .f32) (h9 : m9.IsWhole) (x8 : Vec Ideal S1x5632 .f32)
  (m10 : Memref sig .tc .vmem S1x2816x1024 .bf16) (h10 : m10.IsWhole) (x9 : Vec Ideal S1x2816x1024 .bf16)

/-- Block `n` of the gate's half of the up projection's weights. -/
def gateW (n : ℕ) : Vec Ideal S1x1024x256 .bf16 :=
  View.readAt (Elt Ideal) m7.view (Rect.unit (s := S1x1024x5632) ![0, 0, 256 * (Fin.ofNat 11 n).val] S1x1024x256.size (gate_inb _)).toLoadRect (h7.unread x6)

/-- Block `n` of the other half. -/
def valW (n : ℕ) : Vec Ideal S1x1024x256 .bf16 :=
  View.readAt (Elt Ideal) m7.view (Rect.unit (s := S1x1024x5632) ![0, 0, 2816 + 256 * (Fin.ofNat 11 n).val] S1x1024x256.size (val_inb _)).toLoadRect (h7.unread x6)

/-- Block `n` of the gate's half of the convolution's weights. -/
def gateC (n : ℕ) : Vec Ideal S3x256 .f32 :=
  View.readAt (Elt Ideal) m8.view (Rect.unit (s := S3x5632) ![0, 256 * (Fin.ofNat 11 n).val] S3x256.size (gate_inb3 _)).toLoadRect (h8.unread x7)

/-- Block `n` of the other half. -/
def valC (n : ℕ) : Vec Ideal S3x256 .f32 :=
  View.readAt (Elt Ideal) m8.view (Rect.unit (s := S3x5632) ![0, 2816 + 256 * (Fin.ofNat 11 n).val] S3x256.size (val_inb3 _)).toLoadRect (h8.unread x7)

/-- Block `n` of the gate's half of the convolution's bias. -/
def gateB (n : ℕ) : Vec Ideal S1x256 .f32 :=
  View.readAt (Elt Ideal) m9.view (Rect.unit (s := S1x5632) ![0, 256 * (Fin.ofNat 11 n).val] S1x256.size (gate_inb1 _)).toLoadRect (h9.unread x8)

/-- Block `n` of the other half. -/
def valB (n : ℕ) : Vec Ideal S1x256 .f32 :=
  View.readAt (Elt Ideal) m9.view (Rect.unit (s := S1x5632) ![0, 2816 + 256 * (Fin.ofNat 11 n).val] S1x256.size (val_inb1 _)).toLoadRect (h9.unread x8)

/-- Block `n` of the down projection's weights. -/
def downW (n : ℕ) : Vec Ideal S1x2816x256 .bf16 :=
  View.readAt (Elt Ideal) m10.view (Rect.unit (s := S1x2816x1024) ![0, 0, 256 * (Fin.ofNat 4 n).val] S1x2816x256.size (down_inb _)).toLoadRect (h10.unread x9)

end

end Cert.Proof.Mix

end
-- ==== Proof.MixLink.lean ====
/-
  What the printed body of the output projection and feed-forward kernel stores, in both of its cases, is the list written once
  for every block in `MixDefs`: both sides unfold to the same term.
-/
module

public import proofs.«01_k».proof.Proof.MixDefs

@[expose] public section

set_option maxRecDepth 16384

noncomputable section

namespace Cert.Proof.Mix

open Cert.Kernel3Ideal Cert.Kernel3Ideal.Gen
open Idealize.ShloMosaic Idealize.ShloMosaic.TcCoe

variable (arg1 : Memref sig .tc .vmem S512x512 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x1024 .f32) (harg4 : arg4.IsWhole) (arg5 : Memref sig .tc .vmem S1x1024x1024 .bf16) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S528x1024 .bf16) (harg13 : arg13.IsWhole) (arg14 : Memref sig .tc .vmem S512x2816 .bf16) (harg14 : arg14.IsWhole) (arg15 : Memref sig .tc .vmem S2x528x128 .f32) (harg15 : arg15.IsWhole) (arg16 : Memref sig .tc .vmem S2x528x128 .f32) (harg16 : arg16.IsWhole) (arg17 : Memref sig .tc .vmem S8x512x128 .f32) (harg17 : arg17.IsWhole)
    (x0 : Vec Ideal S512x512 .bf16) (x1 : Vec Ideal S512x256 .bf16) (x2 : Vec Ideal S512x256 .bf16) (x3 : Vec Ideal S512x1024 .f32) (x4 : Vec Ideal S1x1024x1024 .bf16) (x5 : Vec Ideal S1x1024 .f32) (x6 : Vec Ideal S1x1024x5632 .bf16) (x7 : Vec Ideal S3x5632 .f32) (x8 : Vec Ideal S1x5632 .f32) (x9 : Vec Ideal S1x2816x1024 .bf16) (x10 : Vec Ideal S1x1024 .f32) (xs0 : Vec Ideal S528x1024 .bf16)

/-- The first two products of the output projection, added to the residual. -/
def mixA : FVec Ideal S512x1024 .f32 :=
  k0_pay4 (F := Ideal) (View.readAt (Elt Ideal) arg4.view (Rect.unit (s := S512x1024) ![0, 0] S512x1024.size (by decide)).toLoadRect (harg4.unread x3))
    (View.readAt (Elt Ideal) arg1.view (Rect.unit (s := S512x512) ![0, 0] S512x512.size (by decide)).toLoadRect (harg1.unread x0))
    (View.readAt (Elt Ideal) arg5.view (Rect.unit (s := S1x1024x1024) ![0, 0, 0] S1x512x1024.size (by decide)).toLoadRect (harg5.unread x4))
    (View.readAt (Elt Ideal) arg2.view (Rect.unit (s := S512x256) ![0, 0] S512x256.size (by decide)).toLoadRect (harg2.unread x1))
    (View.readAt (Elt Ideal) arg5.view (Rect.unit (s := S1x1024x1024) ![0, 512, 0] S1x256x1024.size (by decide)).toLoadRect (harg5.unread x4))

/-- The residual after the output projection. -/
def mixH : FVec Ideal S512x1024 .f32 :=
  k0_pay5 (F := Ideal) (mixA arg1 harg1 arg2 harg2 arg4 harg4 arg5 harg5 x0 x1 x3 x4)
    (View.readAt (Elt Ideal) arg3.view (Rect.unit (s := S512x256) ![0, 0] S512x256.size (by decide)).toLoadRect (harg3.unread x2))
    (View.readAt (Elt Ideal) arg5.view (Rect.unit (s := S1x1024x1024) ![0, 768, 0] S1x256x1024.size (by decide)).toLoadRect (harg5.unread x4))

/-- That residual, normalised. -/
def mixU : FVec Ideal S512x1024 .bf16 :=
  k0_pay6 (F := Ideal) (mixA arg1 harg1 arg2 harg2 arg4 harg4 arg5 harg5 x0 x1 x3 x4)
    (View.readAt (Elt Ideal) arg3.view (Rect.unit (s := S512x256) ![0, 0] S512x256.size (by decide)).toLoadRect (harg3.unread x2))
    (View.readAt (Elt Ideal) arg5.view (Rect.unit (s := S1x1024x1024) ![0, 768, 0] S1x256x1024.size (by decide)).toLoadRect (harg5.unread x4))
    (View.readAt (Elt Ideal) arg6.view (Rect.unit (s := S1x1024) ![0, 0] S1x1024.size (by decide)).toLoadRect (harg6.unread x5))

/-- What the stores into the rows that the up projection reads are, with what the first sixteen rows hold. -/
def rows (o : Vec Ideal S16x1024 .bf16) (u : Vec Ideal S512x1024 .bf16) : List (View.Piece (Elt Ideal) S528x1024 .bf16) :=
  [⟨Rect.unit ![16, 0] S512x1024.size (by decide), u⟩, ⟨Rect.unit ![0, 0] S16x1024.size (by decide), o⟩]

/-- What the last sixteen rows held at the point before. -/
def halo : Vec Ideal S16x1024 .bf16 :=
  k0_pay3 (F := Ideal) (View.readAt (Elt Ideal) arg13.view (Rect.unit (s := S528x1024) ![512, 0] S16x1024.size (by decide)).toLoadRect (harg13.unread xs0))

/-- What the body stores into its output block, from what the first sixteen rows hold. -/
def bodyStores (o : Vec Ideal S16x1024 .bf16) : List (View.Piece (Elt Ideal) S512x1024 .f32) :=
  stores arg12 arg14 arg15 arg16 arg17 (mixH arg1 harg1 arg2 harg2 arg3 harg3 arg4 harg4 arg5 harg5 x0 x1 x2 x3 x4)
    (arg13.view.readCov (rows o (mixU arg1 harg1 arg2 harg2 arg3 harg3 arg4 harg4 arg5 harg5 arg6 harg6 x0 x1 x2 x3 x4 x5))
      (Rect.unit (s := S528x1024) ![0, 0] S528x1024.size (by decide)).toLoadRect)
    (gateW arg7 harg7 x6) (valW arg7 harg7 x6) (gateC arg8 harg8 x7) (valC arg8 harg8 x7) (gateB arg9 harg9 x8) (valB arg9 harg9 x8) (downW arg10 harg10 x9)
    (View.readAt (Elt Ideal) arg11.view (Rect.unit (s := S1x1024) ![0, 0] S1x1024.size (by decide)).toLoadRect (harg11.unread x10))

/-- The first case, where the rows before are zero: the output block. -/
theorem stores_A (c : Dev nD) (i : grid0.Coords) (hc0 : cond0_0 i) (hc1 : ¬cond0_1 i) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).1 =
      bodyStores arg1 harg1 arg2 harg2 arg3 harg3 arg4 harg4 arg5 harg5 arg6 harg6 arg7 harg7 arg8 harg8 arg9 harg9 arg10 harg10 arg11 harg11 arg12 arg13 arg14 arg15 arg16 arg17 x0 x1 x2 x3 x4 x5 x6 x7 x8 x9 x10 (k0_pay2 (F := Ideal)) := by sl_kernel_rfl

/-- The first case: the rows kept for the next point. -/
theorem rows_A (c : Dev nD) (i : grid0.Coords) (hc0 : cond0_0 i) (hc1 : ¬cond0_1 i) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.1 =
      rows (k0_pay2 (F := Ideal)) (mixU arg1 harg1 arg2 harg2 arg3 harg3 arg4 harg4 arg5 harg5 arg6 harg6 x0 x1 x2 x3 x4 x5) := by sl_kernel_rfl

/-- The other case, where the rows before are the last of the point before: the output block. -/
theorem stores_B (c : Dev nD) (i : grid0.Coords) (hc0 : ¬cond0_0 i) (hc1 : cond0_1 i) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs0).1 =
      bodyStores arg1 harg1 arg2 harg2 arg3 harg3 arg4 harg4 arg5 harg5 arg6 harg6 arg7 harg7 arg8 harg8 arg9 harg9 arg10 harg10 arg11 harg11 arg12 arg13 arg14 arg15 arg16 arg17 x0 x1 x2 x3 x4 x5 x6 x7 x8 x9 x10 (halo arg13 harg13 xs0) := by sl_kernel_rfl

/-- The other case: the rows kept for the next point. -/
theorem rows_B (c : Dev nD) (i : grid0.Coords) (hc0 : ¬cond0_0 i) (hc1 : cond0_1 i) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs0).2.1 =
      rows (halo arg13 harg13 xs0) (mixU arg1 harg1 arg2 harg2 arg3 harg3 arg4 harg4 arg5 harg5 arg6 harg6 x0 x1 x2 x3 x4 x5) := by sl_kernel_rfl

end Cert.Proof.Mix

end
-- ==== Proof.MixPoint.lean ====
/-
  What one run of the output projection and feed-forward body leaves in its output block, at an index: the strided loads and
  stores read through, every block of the hidden width at once.
-/
module

public import proofs.«01_k».proof.Proof.MixDefs
public import proofs.«01_k».proof.Proof.InprojKernel

@[expose] public section

set_option maxRecDepth 16384

noncomputable section

namespace Cert.Proof.Mix

open Cert.Kernel3Ideal Cert.Kernel3Ideal.Gen
open Idealize.ShloMosaic Idealize.ShloMosaic.TcCoe

open Inproj (rowRms)

theorem rms_apply (x : FVec Ideal S512x1024 .f32) (w : FVec Ideal S1x1024 .f32) (r : Fin 512) (k : Fin 1024) :
    rms x w (ValueIdx.ix2 r k) = rowRms (fun e => x (ValueIdx.ix2 r e)) (fun e => w (ValueIdx.ix2 0 e)) k := by
  have e : shapeCast S512x1 (multiReduction .add [1] S512 (mulf x x) 0x00000000#32 reduces_S512x1024_S512 (.inl rfl) rfl) shapeCasts_S512_S512x1 (ValueIdx.ix2 r 0)
      = ∑ e : Fin 1024, x (ValueIdx.ix2 r e) * x (ValueIdx.ix2 r e) := by
    refine (shapeCast_apply _ shapeCasts_S512_S512x1 (ValueIdx.ix2 r 0) (ValueIdx.ix1 r) (by
      rw [Shape.rowMajor_val_one, Shape.rowMajor_val_two]
      show r.val = r.val * 1 + 0
      omega)).trans ?_
    refine (Ideal.multiReduction_add_single (mulf x x) _ _ _ _ _).trans ?_
    refine Finset.sum_congr rfl fun d _ => ?_
    have e : reduces_S512x1024_S512.lift (ValueIdx.ix1 r) d = (ValueIdx.ix2 r d : S512x1024.Idx) := by
      funext a; apply Fin.ext
      match a with
      | ⟨0, _⟩ => rfl
      | ⟨1, _⟩ => rfl
    exact congrArg (mulf x x) e
  have h1 : ∀ (y : FVec Ideal S512x1 .f32), mulf (mulf x (broadcastTo S512x1024 y broadcasts_S512x1_S512x1024)) (broadcastTo S512x1024 w broadcasts_S1x1024_S512x1024) (ValueIdx.ix2 r k)
      = x (ValueIdx.ix2 r k) * y (ValueIdx.ix2 r 0) * w (ValueIdx.ix2 0 k) := fun y => by
    show x (ValueIdx.ix2 r k) * broadcastTo S512x1024 y broadcasts_S512x1_S512x1024 (ValueIdx.ix2 r k) * broadcastTo S512x1024 w broadcasts_S1x1024_S512x1024 (ValueIdx.ix2 r k) = _
    rw [broadcastTo_apply y broadcasts_S512x1_S512x1024 (ValueIdx.ix2 r k) (ValueIdx.ix2 r 0) (fun a => by match a with | ⟨0, _⟩ => rfl | ⟨1, _⟩ => rfl),
      broadcastTo_apply w broadcasts_S1x1024_S512x1024 (ValueIdx.ix2 r k) (ValueIdx.ix2 0 k) (fun a => by match a with | ⟨0, _⟩ => rfl | ⟨1, _⟩ => rfl)]
  rw [rms, h1, rowRms, ← e]
  rfl

theorem up_apply (u : Vec Ideal S528x1024 .bf16) (w : Vec Ideal S1x1024x256 .bf16) (q : Fin 528) (c : Fin 256) :
    up u w (ValueIdx.ix2 q c) = ∑ k : Fin 1024, (u (ValueIdx.ix2 q k) * w (ValueIdx.ix3 0 k c) : EReal) := by
  refine (Ideal.matmul_plain_apply (M := 528) (K := 1024) (N := 256) none u (shapeCast S1024x256 w shapeCasts_S1x1024x256_S1024x256 : FVec Ideal S1024x256 .bf16) (constant S528x256 .f32 0x00000000#32) q c).trans ?_
  show Ideal.ofBits .f32 0x00000000#32 + _ = _
  rw [Ideal.ofBits_zero_f32, zero_add]
  refine Finset.sum_congr rfl fun k _ => congrArg (_ * ·) ?_
  refine shapeCast_apply _ shapeCasts_S1x1024x256_S1024x256 (ValueIdx.ix2 k c) (ValueIdx.ix3 0 k c) ?_
  rw [Shape.rowMajor_val_three, Shape.rowMajor_val_two]
  show (0 * 1024 + k.val) * 256 + c.val = k.val * 256 + c.val
  omega

theorem down_apply (a : Vec Ideal S512x2816 .bf16) (w : Vec Ideal S1x2816x256 .bf16) (p : Fin 512) (c : Fin 256) :
    down a w (ValueIdx.ix2 p c) = ∑ f : Fin 2816, (a (ValueIdx.ix2 p f) * w (ValueIdx.ix3 0 f c) : EReal) := by
  refine (Ideal.matmul_plain_apply (M := 512) (K := 2816) (N := 256) none a (shapeCast S2816x256 w shapeCasts_S1x2816x256_S2816x256 : FVec Ideal S2816x256 .bf16) (constant S512x256 .f32 0x00000000#32) p c).trans ?_
  show Ideal.ofBits .f32 0x00000000#32 + _ = _
  rw [Ideal.ofBits_zero_f32, zero_add]
  refine Finset.sum_congr rfl fun k _ => congrArg (_ * ·) ?_
  refine shapeCast_apply _ shapeCasts_S1x2816x256_S2816x256 (ValueIdx.ix2 k c) (ValueIdx.ix3 0 k c) ?_
  rw [Shape.rowMajor_val_three, Shape.rowMajor_val_two]
  show (0 * 2816 + k.val) * 256 + c.val = k.val * 256 + c.val
  omega

/-- A slab read back: its last store is the last block's. -/
theorem slab_apply (y : FVec Ideal S528x256 .f32) (s : Fin 2) (o : ℕ) (hs : S528x256.Slices ![0, o] S528x128) (ho : o = 128 * s.val) (q : Fin 528) (e : Fin 128) (c : Fin 256)
    (hc : c.val = 128 * s.val + e.val) :
    shapeCast S1x528x128 (extractStridedSlice S528x128 ![0, o] y hs) shapeCasts_S528x128_S1x528x128 (ValueIdx.ix3 0 q e) = y (ValueIdx.ix2 q c) := by
  refine (shapeCast_apply _ shapeCasts_S528x128_S1x528x128 (ValueIdx.ix3 0 q e) (ValueIdx.ix2 q e) (by
    rw [Shape.rowMajor_val_three, Shape.rowMajor_val_two]
    show q.val * 128 + e.val = (0 * 528 + q.val) * 128 + e.val
    omega)).trans ?_
  refine extractStridedSlice_apply ![0, o] y hs (ValueIdx.ix2 q e) (ValueIdx.ix2 q c) fun a => ?_
  match a with
  | ⟨0, _⟩ => show q.val = 0 + q.val; omega
  | ⟨1, _⟩ => show c.val = o + e.val; omega

theorem parked_apply (u : Vec Ideal S528x1024 .bf16) (w : ℕ → Vec Ideal S1x1024x256 .bf16) (n : ℕ) (s : Fin 2) (q : Fin 528) (e : Fin 128) (c : Fin 256)
    (hc : c.val = 128 * s.val + e.val) :
    View.canon (parked u w (n + 1)) (ValueIdx.ix3 s q e : S2x528x128.Idx) = up u (w n) (ValueIdx.ix2 q c) := by
  have e1 : (ValueIdx.ix3 1 q e : S2x528x128.Idx) = (Rect.unit (s := S2x528x128) ![1, 0, 0] S1x528x128.size inb_S2x528x128_S1x528x128_1_0_0).emb (ValueIdx.ix3 0 q e : S1x528x128.Idx) := by
    funext a; apply Fin.ext
    match a with
    | ⟨0, _⟩ => rfl
    | ⟨1, _⟩ => show q.val = 0 + 1 * q.val; omega
    | ⟨2, _⟩ => show e.val = 0 + 1 * e.val; omega
  have e0 : (ValueIdx.ix3 0 q e : S2x528x128.Idx) = (Rect.unit (s := S2x528x128) ![0, 0, 0] S1x528x128.size inb_S2x528x128_S1x528x128_0_0_0).emb (ValueIdx.ix3 0 q e : S1x528x128.Idx) := by
    funext a; apply Fin.ext
    match a with
    | ⟨0, _⟩ => rfl
    | ⟨1, _⟩ => show q.val = 0 + 1 * q.val; omega
    | ⟨2, _⟩ => show e.val = 0 + 1 * e.val; omega
  match s, hc with
  | ⟨1, _⟩, hc =>
    refine (congrArg (View.canon (parked u w (n + 1))) e1).trans ?_
    refine (View.canon_cons_emb _ _ _ _).trans ?_
    exact slab_apply _ 1 _ _ rfl q e c hc
  | ⟨0, _⟩, hc =>
    refine (View.canon_cons_of_not_mem _ _ fun h => ?_).trans ?_
    · have h0 := ((Rect.mem_set_unit (s := S2x528x128) (off := ![1, 0, 0]) (size := S1x528x128.size) (inb := inb_S2x528x128_S1x528x128_1_0_0)).mp h (0 : Fin 3)).1
      exact absurd (show (1 : ℕ) ≤ 0 from h0) (by omega)
    refine (congrArg (View.canon _) e0).trans ?_
    refine (View.canon_cons_emb _ _ _ _).trans ?_
    exact slab_apply _ 0 _ _ rfl q e c hc

/-- A strided load of the parked slabs. -/
theorem load_apply (m : Memref sig .tc .vmem S2x528x128 .f32) (u : Vec Ideal S528x1024 .bf16) (w : ℕ → Vec Ideal S1x1024x256 .bf16) (n o : ℕ) (s : Fin 2) (inb)
    (i e : Fin 128) (q : Fin 528) (c : Fin 256) (hq : q.val = o + 4 * i.val) (hc : c.val = 128 * s.val + e.val) :
    m.view.readCov (parked u w (n + 1)) (rowsAt ![s.val, o, 0] inb) (ValueIdx.ix3 0 i e : S1x128x128.Idx) = up u (w n) (ValueIdx.ix2 q c) := by
  rw [View.readCov_eq_canon']
  have h : (rowsAt ![s.val, o, 0] inb).idx (ValueIdx.ix3 0 i e : S1x128x128.Idx) = (ValueIdx.ix3 s q e : S2x528x128.Idx) := by
    funext a; apply Fin.ext
    match a with
    | ⟨0, _⟩ => show s.val + 1 * 0 = s.val; omega
    | ⟨1, _⟩ => show o + 4 * i.val = q.val; omega
    | ⟨2, _⟩ => show 0 + 1 * e.val = e.val; omega
  exact (congrArg (View.canon _) h).trans (parked_apply u w n s q e c hc)

/-- Four row classes below each other. -/
theorem quad_apply (f : Fin 4 → Vec Ideal S1x128x128 .f32) (p : Fin 512) (r : Fin 4) (i e : Fin 128) (hp : p.val = 128 * r.val + i.val) :
    concatenate S512x128 0 [⟨S128x128, shapeCast S128x128 (f 0) shapeCasts_S1x128x128_S128x128⟩, ⟨S128x128, shapeCast S128x128 (f 1) shapeCasts_S1x128x128_S128x128⟩,
        ⟨S128x128, shapeCast S128x128 (f 2) shapeCasts_S1x128x128_S128x128⟩, ⟨S128x128, shapeCast S128x128 (f 3) shapeCasts_S1x128x128_S128x128⟩]
        concatenates_S128x128_S128x128_S128x128_S128x128_S512x128_d0 (ValueIdx.ix2 p e) = f r (ValueIdx.ix3 0 i e) := by
  have hi := i.isLt
  refine (concatenate_ofFn_apply (t := S512x128) (s₁ := S128x128) 0 (N := 4) (fun n => shapeCast S128x128 (f n) shapeCasts_S1x128x128_S128x128)
    concatenates_S128x128_S128x128_S128x128_S128x128_S512x128_d0 rfl 128 rfl (ValueIdx.ix2 p e) r
    (show p.val / 128 = r.val by omega) (ValueIdx.ix2 i e) (show i.val = p.val % 128 by omega) (fun b hb => ?_)).trans ?_
  · match b, hb with
    | ⟨0, _⟩, hb => exact absurd rfl hb
    | ⟨1, _⟩, _ => rfl
  · refine shapeCast_apply _ shapeCasts_S1x128x128_S128x128 (ValueIdx.ix2 i e) (ValueIdx.ix3 0 i e) ?_
    rw [Shape.rowMajor_val_three, Shape.rowMajor_val_two]
    show (0 * 128 + i.val) * 128 + e.val = i.val * 128 + e.val
    omega

theorem back_apply (f g : Fin 4 → Vec Ideal S1x128x128 .f32) (p : Fin 512) (r : Fin 4) (i e : Fin 128) (s : Fin 2) (c : Fin 256)
    (hp : p.val = 128 * r.val + i.val) (hc : c.val = 128 * s.val + e.val) :
    back (f 0) (f 1) (f 2) (f 3) (g 0) (g 1) (g 2) (g 3) (ValueIdx.ix2 p c) = (if s = 0 then f r else g r) (ValueIdx.ix3 0 i e) := by
  unfold back
  match s, hc with
  | ⟨0, _⟩, hc =>
    refine (concatenate_pair_apply_left (t := S512x256) (s₁ := S512x128) (s₂ := S512x128) 1 _ _ concatenates_S512x128_S512x128_S512x256_d1 (ValueIdx.ix2 p c) rfl
      (ValueIdx.ix2 p e) (fun b => ?_)).trans (quad_apply f p r i e hp)
    match b with
    | ⟨0, _⟩ => rfl
    | ⟨1, _⟩ => show e.val = c.val; simpa using hc.symm
  | ⟨1, _⟩, hc =>
    refine (concatenate_pair_apply_right (t := S512x256) (s₁ := S512x128) (s₂ := S512x128) 1 _ _ concatenates_S512x128_S512x128_S512x256_d1 (ValueIdx.ix2 p c) rfl rfl
      (ValueIdx.ix2 p e) (fun b hb => ?_) ?_).trans (quad_apply g p r i e hp)
    · match b, hb with
      | ⟨0, _⟩, _ => rfl
      | ⟨1, _⟩, hb => exact absurd rfl hb
    · show e.val + 128 = c.val
      have : c.val = 128 * 1 + e.val := hc
      omega

/-- The convolution of one block at an index: three rows of the up projection, the oldest first. -/
def taps (u : Vec Ideal S528x1024 .bf16) (w : Vec Ideal S1x1024x256 .bf16) (cw : Vec Ideal S3x256 .f32) (cb : Vec Ideal S1x256 .f32) (p : Fin 512) (c : Fin 256) : EReal :=
  ((cb (ValueIdx.ix2 0 c) + cw (ValueIdx.ix2 0 c) * up u w (ValueIdx.ix2 ⟨14 + p.val, by omega⟩ c)) + cw (ValueIdx.ix2 1 c) * up u w (ValueIdx.ix2 ⟨15 + p.val, by omega⟩ c))
    + cw (ValueIdx.ix2 2 c) * up u w (ValueIdx.ix2 ⟨16 + p.val, by omega⟩ c)

/-- Eight strided loads from row `o` on, put together: row `128 r + i` of the result is row `o + 4 i + r` of the up projection. -/
theorem backOf_apply (m : Memref sig .tc .vmem S2x528x128 .f32) (u : Vec Ideal S528x1024 .bf16) (w : ℕ → Vec Ideal S1x1024x256 .bf16) (n o : ℕ) (h : ∀ (s : Fin 2) (d : Fin 4) a, S1x128x128.size a = 0 ∨
      (![s.val, o + d.val, 0] : Fin 3 → ℕ) a + (![1, 4, 1] : Fin 3 → ℕ) a * (S1x128x128.size a - 1) < S2x528x128.size a)
    (p : Fin 512) (c : Fin 256) (q : Fin 528) (hq : q.val = o + (4 * (p.val % 128) + p.val / 128)) :
    back (m.view.readCov (parked u w (n + 1)) (rowsAt ![0, o + 0, 0] (h 0 0))) (m.view.readCov (parked u w (n + 1)) (rowsAt ![0, o + 1, 0] (h 0 1)))
      (m.view.readCov (parked u w (n + 1)) (rowsAt ![0, o + 2, 0] (h 0 2))) (m.view.readCov (parked u w (n + 1)) (rowsAt ![0, o + 3, 0] (h 0 3)))
      (m.view.readCov (parked u w (n + 1)) (rowsAt ![1, o + 0, 0] (h 1 0))) (m.view.readCov (parked u w (n + 1)) (rowsAt ![1, o + 1, 0] (h 1 1)))
      (m.view.readCov (parked u w (n + 1)) (rowsAt ![1, o + 2, 0] (h 1 2))) (m.view.readCov (parked u w (n + 1)) (rowsAt ![1, o + 3, 0] (h 1 3)))
      (ValueIdx.ix2 p c) = up u (w n) (ValueIdx.ix2 q c) := by
  have hp := p.isLt
  have hc := c.isLt
  refine (back_apply (fun d => m.view.readCov (parked u w (n + 1)) (rowsAt ![0, o + d.val, 0] (h 0 d))) (fun d => m.view.readCov (parked u w (n + 1)) (rowsAt ![1, o + d.val, 0] (h 1 d)))
    p ⟨p.val / 128, by omega⟩ ⟨p.val % 128, by omega⟩ ⟨c.val % 128, by omega⟩ ⟨c.val / 128, by omega⟩ c (show p.val = 128 * (p.val / 128) + p.val % 128 by omega)
    (show c.val = 128 * (c.val / 128) + c.val % 128 by omega)).trans ?_
  split
  · rename_i hs
    exact load_apply m u w n _ 0 _ _ _ q c (show q.val = o + p.val / 128 + 4 * (p.val % 128) by omega)
      (show c.val = 128 * 0 + c.val % 128 by have : c.val / 128 = 0 := congrArg Fin.val hs; omega)
  · rename_i hs
    exact load_apply m u w n _ 1 _ _ _ q c (show q.val = o + p.val / 128 + 4 * (p.val % 128) by omega)
      (show c.val = 128 * 1 + c.val % 128 by have : c.val / 128 ≠ 0 := fun h => hs (Fin.ext h); omega)

theorem convOf_apply (m : Memref sig .tc .vmem S2x528x128 .f32) (u : Vec Ideal S528x1024 .bf16) (w : ℕ → Vec Ideal S1x1024x256 .bf16) (n : ℕ) (cw : Vec Ideal S3x256 .f32)
    (cb : Vec Ideal S1x256 .f32) (p p' : Fin 512) (c : Fin 256) (hp : p'.val = 4 * (p.val % 128) + p.val / 128) :
    convOf m (parked u w (n + 1)) cw cb (ValueIdx.ix2 p c) = taps u (w n) cw cb p' c := by
  have hp0 := p.isLt
  have b1 : ∀ (b : FVec Ideal S1x256 .f32), broadcastTo S512x256 b broadcasts_S1x256_S512x256 (ValueIdx.ix2 p c) = b (ValueIdx.ix2 0 c) := fun b =>
    broadcastTo_apply b broadcasts_S1x256_S512x256 (ValueIdx.ix2 p c) (ValueIdx.ix2 0 c) (fun a => by match a with | ⟨0, _⟩ => rfl | ⟨1, _⟩ => rfl)
  have b2 : ∀ (d : Fin 3) (hs : S3x256.Slices ![d.val, 0] S1x256), broadcastTo S512x256 (extractStridedSlice S1x256 ![d.val, 0] cw hs) broadcasts_S1x256_S512x256 (ValueIdx.ix2 p c)
      = cw (ValueIdx.ix2 d c) := fun d hs => by
    refine (b1 _).trans (extractStridedSlice_apply ![d.val, 0] cw hs (ValueIdx.ix2 0 c) (ValueIdx.ix2 d c) fun a => ?_)
    match a with
    | ⟨0, _⟩ => show d.val = d.val + 0; omega
    | ⟨1, _⟩ => show c.val = 0 + c.val; omega
  have k0 := backOf_apply m u w n 14 (by decide) p c ⟨14 + p'.val, by omega⟩ (show 14 + p'.val = _ by omega)
  have k1 := backOf_apply m u w n 15 (by decide) p c ⟨15 + p'.val, by omega⟩ (show 15 + p'.val = _ by omega)
  have k2 := backOf_apply m u w n 16 (by decide) p c ⟨16 + p'.val, by omega⟩ (show 16 + p'.val = _ by omega)
  unfold convOf conv taps
  exact congrArg₂ (· + ·) (congrArg₂ (· + ·) (congrArg₂ (· + ·) (b1 cb) (congrArg₂ (· * ·) (b2 0 slices_S3x256_o0_0_S1x256) k0)) (congrArg₂ (· * ·) (b2 1 slices_S3x256_o1_0_S1x256) k1))
    (congrArg₂ (· * ·) (b2 2 slices_S3x256_o2_0_S1x256) k2)

/-- `silu g * v` on the extended reals, as the body takes it. -/
def swish (g v : EReal) : EReal :=
  g * Ideal.div (Ideal.ofBits .f32 0x3F800000#32) (Ideal.ofBits .f32 0x3F800000#32 + Ideal.exp (Ideal.ofBits .f32 0x00000000#32 - g)) * v

theorem gated_apply (g v : FVec Ideal S512x256 .f32) (x : S512x256.Idx) : gated g v x = swish (g x) (v x) := by
  unfold gated
  rw [shapeCast_self]
  rfl

/-- A block of the hidden layer at an index, of the rows in order. -/
def act (u : Vec Ideal S528x1024 .bf16) (w w' : ℕ → Vec Ideal S1x1024x256 .bf16) (cw cw' : ℕ → Vec Ideal S3x256 .f32) (cb cb' : ℕ → Vec Ideal S1x256 .f32) (j : ℕ) (p : Fin 512)
    (c : Fin 256) : EReal :=
  swish (taps u (w j) (cw j) (cb j) p c) (taps u (w' j) (cw' j) (cb' j) p c)

section
variable (m12 : Memref sig .tc .vmem S512x1024 .f32) (m14 : Memref sig .tc .vmem S512x2816 .bf16) (m15 m16 : Memref sig .tc .vmem S2x528x128 .f32)
  (m17 : Memref sig .tc .vmem S8x512x128 .f32) (u : Vec Ideal S528x1024 .bf16) (w w' : ℕ → Vec Ideal S1x1024x256 .bf16) (cw cw' : ℕ → Vec Ideal S3x256 .f32)
  (cb cb' : ℕ → Vec Ideal S1x256 .f32)

theorem hidden_apply (j : ℕ) (p p' : Fin 512) (c : Fin 256) (hp : p'.val = 4 * (p.val % 128) + p.val / 128) :
    hidden m15 m16 u w w' cw cw' cb cb' j (ValueIdx.ix2 p c) = act u w w' cw cw' cb cb' j p' c := by
  unfold hidden act
  rw [gated_apply, convOf_apply m15 u w j (cw j) (cb j) p p' c hp, convOf_apply m16 u w' j (cw' j) (cb' j) p p' c hp]

/-- The hidden layer read back whole: block `f / 256` at column `f % 256`. -/
theorem hiddenStores_apply (a : ℕ → FVec Ideal S512x256 .bf16) (p : Fin 512) (f : Fin 2816) :
    View.canon (hiddenStores a) (ValueIdx.ix2 p f : S512x2816.Idx) = a (f.val / 256) (ValueIdx.ix2 p ⟨f.val % 256, Nat.mod_lt _ (by norm_num)⟩) := by
  have key : ∀ (o j : ℕ) (x : S512x256.Idx) (h0 : p.val = (x 0).val) (h1 : f.val = o + (x 1).val), o = 256 * j →
      a j x = a (f.val / 256) (ValueIdx.ix2 p ⟨f.val % 256, Nat.mod_lt _ (by norm_num)⟩) := fun o j x h0 h1 ho => by
    have hx : (x 1).val < 256 := (x 1).isLt
    have hj : f.val / 256 = j := by omega
    rw [hj]
    refine congrArg (a j) ?_
    funext q; apply Fin.ext
    match q with
    | ⟨0, _⟩ => exact h0.symm
    | ⟨1, _⟩ => show (x 1).val = f.val % 256; omega
  unfold hiddenStores
  canon_tiles x h
  · exact key 2560 10 x h0 h1 rfl
  · exact key 2304 9 x h0 h1 rfl
  · exact key 2048 8 x h0 h1 rfl
  · exact key 1792 7 x h0 h1 rfl
  · exact key 1536 6 x h0 h1 rfl
  · exact key 1280 5 x h0 h1 rfl
  · exact key 1024 4 x h0 h1 rfl
  · exact key 768 3 x h0 h1 rfl
  · exact key 512 2 x h0 h1 rfl
  · exact key 256 1 x h0 h1 rfl
  · exact key 0 0 x h0 ((Nat.zero_add _).symm ▸ h1) rfl

/-- The down projection of the hidden layer read back: row `p` is row `4 (p % 128) + p / 128` of the layer. -/
theorem downOf_apply (v : Vec Ideal S1x2816x256 .bf16) (p p' : Fin 512) (c : Fin 256) (hp : p'.val = 4 * (p.val % 128) + p.val / 128) :
    down (m14.view.readCov (hiddenStores (hidden m15 m16 u w w' cw cw' cb cb')) (Rect.unit (s := S512x2816) ![0, 0] S512x2816.size (by decide)).toLoadRect) v (ValueIdx.ix2 p c)
      = ∑ f : Fin 2816, (act u w w' cw cw' cb cb' (f.val / 256) p' ⟨f.val % 256, Nat.mod_lt _ (by norm_num)⟩ * v (ValueIdx.ix3 0 f c) : EReal) := by
  rw [down_apply]
  refine Finset.sum_congr rfl fun f _ => congrArg (· * _) ?_
  rw [View.readCov_eq_canon']
  have h : (Rect.unit (s := S512x2816) ![0, 0] S512x2816.size (by decide)).toLoadRect.idx (ValueIdx.ix2 p f : S512x2816.Idx) = (ValueIdx.ix2 p f : S512x2816.Idx) := by
    funext a; apply Fin.ext
    match a with
    | ⟨0, _⟩ => show 0 + 1 * p.val = p.val; omega
    | ⟨1, _⟩ => show 0 + 1 * f.val = f.val; omega
  refine (congrArg (View.canon _) h).trans ?_
  rw [hiddenStores_apply, hidden_apply m15 m16 u w w' cw cw' cb cb' _ p p' _ hp]

/-- One row class, stored with a stride of four rows, at its own rows. -/
theorem spread_emb (y : FVec Ideal S512x256 .f32) (k : Fin 8) (r : Fin 4) (L : List (View.Piece (Elt Ideal) S8x512x128 .f32)) (p : Fin 512) (e : Fin 128) (p' : Fin 512) (c : Fin 256)
    (hp : p.val % 4 = r.val) (hp' : p'.val = 128 * (p.val % 4) + p.val / 4) (hc : c.val = 128 * (k.val % 2) + e.val) :
    View.canon (spread y k r :: L) (ValueIdx.ix3 k p e : S8x512x128.Idx) = y (ValueIdx.ix2 p' c) := by
  have hpl := p.isLt
  have h : (ValueIdx.ix3 k p e : S8x512x128.Idx) = (spread y k r).1.emb (ValueIdx.ix3 0 ⟨p.val / 4, by omega⟩ e : S1x128x128.Idx) := by
    funext a; apply Fin.ext
    match a with
    | ⟨0, _⟩ => show k.val = k.val + 1 * 0; omega
    | ⟨1, _⟩ => show p.val = r.val + 4 * (p.val / 4); omega
    | ⟨2, _⟩ => show e.val = 0 + 1 * e.val; omega
  refine (congrArg (View.canon _) h).trans ((View.canon_cons_emb _ _ _ _).trans ?_)
  refine (shapeCast_apply _ shapeCasts_S128x128_S1x128x128 (ValueIdx.ix3 0 ⟨p.val / 4, by omega⟩ e) (ValueIdx.ix2 ⟨p.val / 4, by omega⟩ e) (by
    rw [Shape.rowMajor_val_three, Shape.rowMajor_val_two]
    show p.val / 4 * 128 + e.val = (0 * 128 + p.val / 4) * 128 + e.val
    omega)).trans ?_
  refine extractStridedSlice_apply _ y _ (ValueIdx.ix2 ⟨p.val / 4, by omega⟩ e) (ValueIdx.ix2 p' c) fun a => ?_
  match a with
  | ⟨0, _⟩ => show p'.val = 128 * r.val + p.val / 4; omega
  | ⟨1, _⟩ => show c.val = 128 * (k.val % 2) + e.val; omega

theorem spread_off (y : FVec Ideal S512x256 .f32) (k : Fin 8) (r : Fin 4) (L : List (View.Piece (Elt Ideal) S8x512x128 .f32)) (p : Fin 512) (e : Fin 128) (hp : p.val % 4 ≠ r.val) :
    View.canon (spread y k r :: L) (ValueIdx.ix3 k p e : S8x512x128.Idx) = View.canon L (ValueIdx.ix3 k p e : S8x512x128.Idx) := by
  refine View.canon_cons_of_not_mem _ _ fun h => ?_
  obtain ⟨j, _, hj⟩ := (LoadRect.mem_set (r := (spread y k r).1.toLoadRect)).mp h (1 : Fin 3)
  have h' : p.val = r.val + 4 * j := hj
  have := r.isLt
  omega

/-- A plane after its four stores: its rows are back in order. -/
theorem spreads_apply (y : ℕ → FVec Ideal S512x256 .f32) (n : ℕ) (k : Fin 8) (hk : Fin.ofNat 8 n = k) (hn : n = k.val) (p : Fin 512) (e : Fin 128) (p' : Fin 512) (c : Fin 256)
    (hp' : p'.val = 128 * (p.val % 4) + p.val / 4) (hc : c.val = 128 * (k.val % 2) + e.val) :
    View.canon (spreads y (n + 1)) (ValueIdx.ix3 k p e : S8x512x128.Idx) = y (k.val / 2) (ValueIdx.ix2 p' c) := by
  have e0 : spreads y (n + 1) = spread (y (k.val / 2)) k 3 :: spread (y (k.val / 2)) k 2 :: spread (y (k.val / 2)) k 1 :: spread (y (k.val / 2)) k 0 :: spreads y n := by
    rw [← hn, ← hk]; rfl
  rw [e0]
  by_cases h3 : p.val % 4 = 3
  · exact spread_emb _ k 3 _ p e p' c h3 hp' hc
  rw [spread_off _ k 3 _ p e h3]
  by_cases h2 : p.val % 4 = 2
  · exact spread_emb _ k 2 _ p e p' c h2 hp' hc
  rw [spread_off _ k 2 _ p e h2]
  by_cases h1 : p.val % 4 = 1
  · exact spread_emb _ k 1 _ p e p' c h1 hp' hc
  rw [spread_off _ k 1 _ p e h1]
  exact spread_emb _ k 0 _ p e p' c (show p.val % 4 = 0 by omega) hp' hc

/-- The output block after `n` slabs: the first `128 n` columns have what the down projection adds. -/
theorem residual_apply (h : FVec Ideal S512x1024 .f32) (y : ℕ → FVec Ideal S512x256 .f32) (p p' : Fin 512) (hp' : p'.val = 128 * (p.val % 4) + p.val / 4) :
    ∀ (n : ℕ) (hn : n ≤ 8) (c : Fin 1024), View.canon (residual m12 m17 h y n) (ValueIdx.ix2 p c : S512x1024.Idx)
      = if c.val < 128 * n then (h (ValueIdx.ix2 p c) + y (c.val / 256) (ValueIdx.ix2 p' ⟨c.val % 256, Nat.mod_lt _ (by norm_num)⟩) : EReal) else h (ValueIdx.ix2 p c) := by
  intro n
  induction n with
  | zero =>
    intro _ c
    rw [if_neg (by omega)]
    have e : (ValueIdx.ix2 p c : S512x1024.Idx) = (Rect.unit (s := S512x1024) ![0, 0] S512x1024.size inb_S512x1024_S512x1024_0_0).emb (ValueIdx.ix2 p c : S512x1024.Idx) := by
      funext a; apply Fin.ext
      match a with
      | ⟨0, _⟩ => show p.val = 0 + 1 * p.val; omega
      | ⟨1, _⟩ => show c.val = 0 + 1 * c.val; omega
    exact (congrArg (View.canon _) e).trans (View.canon_cons_emb _ _ _ _)
  | succ n ih =>
    intro hn c
    have hc := c.isLt
    have hk : (Fin.ofNat 8 n).val = n := Nat.mod_eq_of_lt (by omega)
    by_cases hlo : c.val < 128 * n
    · rw [if_pos (by omega)]
      refine (View.canon_cons_of_not_mem _ _ fun hm => ?_).trans ((ih (by omega) c).trans (if_pos hlo))
      have h1 := ((Rect.mem_set_unit (s := S512x1024) (off := ![0, 128 * (Fin.ofNat 8 n).val]) (size := S512x128.size) (inb := lanes_inb (Fin.ofNat 8 n))).mp hm (1 : Fin 2)).1
      have h2 : 128 * (Fin.ofNat 8 n).val ≤ c.val := h1
      omega
    by_cases hhi : c.val < 128 * (n + 1)
    · rw [if_pos hhi]
      obtain ⟨e, he⟩ : ∃ e : Fin 128, c.val = 128 * n + e.val := ⟨⟨c.val - 128 * n, by omega⟩, by show c.val = 128 * n + (c.val - 128 * n); omega⟩
      have ee : (ValueIdx.ix2 p c : S512x1024.Idx) = (Rect.unit (s := S512x1024) ![0, 128 * (Fin.ofNat 8 n).val] S512x128.size (lanes_inb (Fin.ofNat 8 n))).emb (ValueIdx.ix2 p e : S512x128.Idx) := by
        funext a; apply Fin.ext
        match a with
        | ⟨0, _⟩ => show p.val = 0 + 1 * p.val; omega
        | ⟨1, _⟩ => show c.val = 128 * (Fin.ofNat 8 n).val + 1 * e.val; omega
      refine (congrArg (View.canon _) ee).trans ((View.canon_cons_emb _ _ _ _).trans ?_)
      refine congrArg₂ (· + ·) ?_ ?_
      · refine (congrFun (shapeCast_self (s := S512x128) _ shapeCasts_S512x128_S512x128) (ValueIdx.ix2 p e)).trans ?_
        rw [View.readCov_eq_canon']
        refine (congrArg (View.canon _) (show _ = (ValueIdx.ix2 p c : S512x1024.Idx) from ee.symm)).trans ((ih (by omega) c).trans (if_neg hlo))
      · refine (shapeCast_apply _ shapeCasts_S1x512x128_S512x128 (ValueIdx.ix2 p e) (ValueIdx.ix3 0 p e) (by
          rw [Shape.rowMajor_val_three, Shape.rowMajor_val_two]
          show (0 * 512 + p.val) * 128 + e.val = p.val * 128 + e.val
          omega)).trans ?_
        rw [View.readCov_eq_canon']
        have e3 : (Rect.unit (s := S8x512x128) ![(Fin.ofNat 8 n).val, 0, 0] S1x512x128.size (plane_inb (Fin.ofNat 8 n))).toLoadRect.idx (ValueIdx.ix3 0 p e : S1x512x128.Idx)
            = (ValueIdx.ix3 (Fin.ofNat 8 n) p e : S8x512x128.Idx) := by
          funext a; apply Fin.ext
          match a with
          | ⟨0, _⟩ => show (Fin.ofNat 8 n).val + 1 * 0 = (Fin.ofNat 8 n).val; omega
          | ⟨1, _⟩ => show 0 + 1 * p.val = p.val; omega
          | ⟨2, _⟩ => show 0 + 1 * e.val = e.val; omega
        have hel := e.isLt
        refine (congrArg (View.canon _) e3).trans ((spreads_apply y n (Fin.ofNat 8 n) rfl hk.symm p e p' ⟨c.val % 256, Nat.mod_lt _ (by norm_num)⟩ hp' (by
          show c.val % 256 = 128 * ((Fin.ofNat 8 n).val % 2) + e.val
          omega)).trans ?_)
        rw [show (Fin.ofNat 8 n).val / 2 = c.val / 256 by omega]
    · rw [if_neg hhi]
      refine (View.canon_cons_of_not_mem _ _ fun hm => ?_).trans ((ih (by omega) c).trans (if_neg hlo))
      have h1 := ((Rect.mem_set_unit (s := S512x1024) (off := ![0, 128 * (Fin.ofNat 8 n).val]) (size := S512x128.size) (inb := lanes_inb (Fin.ofNat 8 n))).mp hm (1 : Fin 2)).2
      have h2 : c.val < 128 * (Fin.ofNat 8 n).val + 128 := h1
      omega

/-- What the body leaves in its output block, at row `p` and column `c`. -/
theorem stores_apply (h : FVec Ideal S512x1024 .f32) (wd : ℕ → Vec Ideal S1x2816x256 .bf16) (fw : Vec Ideal S1x1024 .f32) (p : Fin 512) (c : Fin 1024) :
    View.canon (stores m12 m14 m15 m16 m17 h u w w' cw cw' cb cb' wd fw) (ValueIdx.ix2 p c : S512x1024.Idx)
      = rowRms (fun e => (h (ValueIdx.ix2 p e) + ∑ f : Fin 2816, (act u w w' cw cw' cb cb' (f.val / 256) p ⟨f.val % 256, Nat.mod_lt _ (by norm_num)⟩
          * wd (e.val / 256) (ValueIdx.ix3 0 f ⟨e.val % 256, Nat.mod_lt _ (by norm_num)⟩) : EReal) : EReal))
          (fun e => fw (ValueIdx.ix2 0 e)) c := by
  have hp := p.isLt
  have ee : ∀ c : Fin 1024, (ValueIdx.ix2 p c : S512x1024.Idx) = (Rect.unit (s := S512x1024) ![0, 0] S512x1024.size inb_S512x1024_S512x1024_0_0).emb (ValueIdx.ix2 p c : S512x1024.Idx) := fun c => by
    funext a; apply Fin.ext
    match a with
    | ⟨0, _⟩ => show p.val = 0 + 1 * p.val; omega
    | ⟨1, _⟩ => show c.val = 0 + 1 * c.val; omega
  unfold stores
  refine (congrArg (View.canon _) (ee c)).trans ((View.canon_cons_emb _ _ _ _).trans ?_)
  refine (rms_apply _ fw p c).trans (congrArg (fun f => rowRms f _ c) (funext fun e => ?_))
  refine (congrFun (shapeCast_self (s := S512x1024) _ shapeCasts_S512x1024_S512x1024) (ValueIdx.ix2 p e)).trans ?_
  rw [View.readCov_eq_canon']
  refine (congrArg (View.canon _) (show _ = (ValueIdx.ix2 p e : S512x1024.Idx) from (ee e).symm)).trans ?_
  have he := e.isLt
  refine (residual_apply m12 m17 h _ p ⟨128 * (p.val % 4) + p.val / 4, by omega⟩ rfl 8 le_rfl e).trans ((if_pos (by omega)).trans ?_)
  refine congrArg (_ + ·) (downOf_apply m14 m15 m16 u w w' cw cw' cb cb' _ _ p _ ?_)
  show p.val = 4 * ((128 * (p.val % 4) + p.val / 4) % 128) + (128 * (p.val % 4) + p.val / 4) / 128
  omega

end

end Cert.Proof.Mix

end
-- ==== Proof.MixBody.lean ====
/-
  The output block of one run of the body as a formula in its input blocks and the rows before them.
-/
module

public import proofs.«01_k».proof.Proof.MixLink
public import proofs.«01_k».proof.Proof.MixPoint

@[expose] public section

set_option maxRecDepth 16384

noncomputable section

namespace Cert.Proof.Mix

open Cert.Kernel3Ideal Cert.Kernel3Ideal.Gen
open Idealize.ShloMosaic Idealize.ShloMosaic.TcCoe

open Inproj (rowRms)

/-- A load of a whole buffer's contents, at an index. -/
theorem ld_at {S : Shape} {e : EltTy} (m : Memref sig .tc .vmem S e) (h : m.IsWhole) (X : Vec Ideal S e) (off size : Fin S.rank → ℕ) (inb : ∀ a, off a + size a ≤ S.size a)
    (j : (Rect.unit (s := S) off size inb).shape.Idx) (i : S.Idx) (hi : ∀ a, (i a : ℕ) = off a + (j a : ℕ)) :
    View.readAt (Elt Ideal) m.view (Rect.unit (s := S) off size inb).toLoadRect (h.unread X) j = X i :=
  (congrFun (h.read_unread X) _).trans (View.ld_unit_apply_of X off size inb j i hi)

theorem mm512_apply (a : FVec Ideal S512x512 .bf16) (w : FVec Ideal S1x512x1024 .bf16) (p : Fin 512) (c : Fin 1024) :
    matmul dot_S512x512_S512x1024_S512x1024_1_0_0_1_n_n none a (shapeCast S512x1024 w shapeCasts_S1x512x1024_S512x1024 : FVec Ideal S512x1024 .bf16) (constant S512x1024 .f32 0x00000000#32)
      (ValueIdx.ix2 p c) = ∑ k : Fin 512, (a (ValueIdx.ix2 p k) * w (ValueIdx.ix3 0 k c) : EReal) := by
  refine (Ideal.matmul_plain_apply (M := 512) (K := 512) (N := 1024) none a (shapeCast S512x1024 w shapeCasts_S1x512x1024_S512x1024 : FVec Ideal S512x1024 .bf16) (constant S512x1024 .f32 0x00000000#32) p c).trans ?_
  show Ideal.ofBits .f32 0x00000000#32 + _ = _
  rw [Ideal.ofBits_zero_f32, zero_add]
  refine Finset.sum_congr rfl fun k _ => congrArg (_ * ·) ?_
  refine shapeCast_apply _ shapeCasts_S1x512x1024_S512x1024 (ValueIdx.ix2 k c) (ValueIdx.ix3 0 k c) ?_
  rw [Shape.rowMajor_val_three, Shape.rowMajor_val_two]
  show (0 * 512 + k.val) * 1024 + c.val = k.val * 1024 + c.val
  omega

theorem mm256_apply (a : FVec Ideal S512x256 .bf16) (w : FVec Ideal S1x256x1024 .bf16) (p : Fin 512) (c : Fin 1024) :
    matmul dot_S512x256_S256x1024_S512x1024_1_0_0_1_n_n none a (shapeCast S256x1024 w shapeCasts_S1x256x1024_S256x1024 : FVec Ideal S256x1024 .bf16) (constant S512x1024 .f32 0x00000000#32)
      (ValueIdx.ix2 p c) = ∑ k : Fin 256, (a (ValueIdx.ix2 p k) * w (ValueIdx.ix3 0 k c) : EReal) := by
  refine (Ideal.matmul_plain_apply (M := 512) (K := 256) (N := 1024) none a (shapeCast S256x1024 w shapeCasts_S1x256x1024_S256x1024 : FVec Ideal S256x1024 .bf16) (constant S512x1024 .f32 0x00000000#32) p c).trans ?_
  show Ideal.ofBits .f32 0x00000000#32 + _ = _
  rw [Ideal.ofBits_zero_f32, zero_add]
  refine Finset.sum_congr rfl fun k _ => congrArg (_ * ·) ?_
  refine shapeCast_apply _ shapeCasts_S1x256x1024_S256x1024 (ValueIdx.ix2 k c) (ValueIdx.ix3 0 k c) ?_
  rw [Shape.rowMajor_val_three, Shape.rowMajor_val_two]
  show (0 * 256 + k.val) * 1024 + c.val = k.val * 1024 + c.val
  omega

/-- The residual after the output projection, of one row: its three inputs, its residual and the projection's weights. -/
def mixRow (a : Fin 512 → EReal) (b d : Fin 256 → EReal) (h : Fin 1024 → EReal) (w : Fin 1024 → Fin 1024 → EReal) (e : Fin 1024) : EReal :=
  ((h e + ∑ k : Fin 512, a k * w ⟨k.val, by omega⟩ e) + ∑ k : Fin 256, b k * w ⟨512 + k.val, by omega⟩ e) + ∑ k : Fin 256, d k * w ⟨768 + k.val, by omega⟩ e

/-- One column of the hidden layer before the gate: the convolution of the up projection of three rows, the oldest first. -/
def tap (n : Fin 3 → Fin 1024 → EReal) (w : Fin 1024 → EReal) (cw : Fin 3 → EReal) (cb : EReal) : EReal :=
  ((cb + cw 0 * ∑ k : Fin 1024, n 0 k * w k) + cw 1 * ∑ k : Fin 1024, n 1 k * w k) + cw 2 * ∑ k : Fin 1024, n 2 k * w k

/-- The gated hidden layer of one row. -/
def gate (n : Fin 3 → Fin 1024 → EReal) (w : Fin 1024 → Fin 5632 → EReal) (cw : Fin 3 → Fin 5632 → EReal) (cb : Fin 5632 → EReal) (f : Fin 2816) : EReal :=
  swish (tap n (fun k => w k ⟨f.val, by omega⟩) (fun d => cw d ⟨f.val, by omega⟩) (cb ⟨f.val, by omega⟩))
    (tap n (fun k => w k ⟨2816 + f.val, by omega⟩) (fun d => cw d ⟨2816 + f.val, by omega⟩) (cb ⟨2816 + f.val, by omega⟩))

/-- One row of the output, from the residual and the three normalised rows that its convolution reads. -/
def outRow (h : Fin 1024 → EReal) (n : Fin 3 → Fin 1024 → EReal) (w : Fin 1024 → Fin 5632 → EReal) (cw : Fin 3 → Fin 5632 → EReal) (cb : Fin 5632 → EReal)
    (wd : Fin 2816 → Fin 1024 → EReal) (fw : Fin 1024 → EReal) : Fin 1024 → EReal :=
  rowRms (fun e => h e + ∑ f : Fin 2816, gate n w cw cb f * wd f e) fw

variable (arg1 : Memref sig .tc .vmem S512x512 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x1024 .f32) (harg4 : arg4.IsWhole) (arg5 : Memref sig .tc .vmem S1x1024x1024 .bf16) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S528x1024 .bf16) (harg13 : arg13.IsWhole) (arg14 : Memref sig .tc .vmem S512x2816 .bf16) (harg14 : arg14.IsWhole) (arg15 : Memref sig .tc .vmem S2x528x128 .f32) (harg15 : arg15.IsWhole) (arg16 : Memref sig .tc .vmem S2x528x128 .f32) (harg16 : arg16.IsWhole) (arg17 : Memref sig .tc .vmem S8x512x128 .f32) (harg17 : arg17.IsWhole)
    (x0 : Vec Ideal S512x512 .bf16) (x1 : Vec Ideal S512x256 .bf16) (x2 : Vec Ideal S512x256 .bf16) (x3 : Vec Ideal S512x1024 .f32) (x4 : Vec Ideal S1x1024x1024 .bf16) (x5 : Vec Ideal S1x1024 .f32) (x6 : Vec Ideal S1x1024x5632 .bf16) (x7 : Vec Ideal S3x5632 .f32) (x8 : Vec Ideal S1x5632 .f32) (x9 : Vec Ideal S1x2816x1024 .bf16) (x10 : Vec Ideal S1x1024 .f32) (xs0 : Vec Ideal S528x1024 .bf16)

theorem mixH_apply (p : Fin 512) (e : Fin 1024) :
    mixH arg1 harg1 arg2 harg2 arg3 harg3 arg4 harg4 arg5 harg5 x0 x1 x2 x3 x4 (ValueIdx.ix2 p e)
      = mixRow (fun k => x0 (ValueIdx.ix2 p k)) (fun k => x1 (ValueIdx.ix2 p k)) (fun k => x2 (ValueIdx.ix2 p k)) (fun k => x3 (ValueIdx.ix2 p k)) (fun k c => x4 (ValueIdx.ix3 0 k c)) e := by
  have t3 : ∀ (q : Fin 512) (k : Fin 1024), _ = x3 (ValueIdx.ix2 q k) := fun q k => ld_at arg4 harg4 x3 ![0, 0] S512x1024.size (by decide) (ValueIdx.ix2 q k) (ValueIdx.ix2 q k) (fun a => by
    match a with | ⟨0, _⟩ => exact (Nat.zero_add _).symm | ⟨1, _⟩ => exact (Nat.zero_add _).symm)
  have t0 : ∀ (q : Fin 512) (k : Fin 512), _ = x0 (ValueIdx.ix2 q k) := fun q k => ld_at arg1 harg1 x0 ![0, 0] S512x512.size (by decide) (ValueIdx.ix2 q k) (ValueIdx.ix2 q k) (fun a => by
    match a with | ⟨0, _⟩ => exact (Nat.zero_add _).symm | ⟨1, _⟩ => exact (Nat.zero_add _).symm)
  have t1 : ∀ (q : Fin 512) (k : Fin 256), _ = x1 (ValueIdx.ix2 q k) := fun q k => ld_at arg2 harg2 x1 ![0, 0] S512x256.size (by decide) (ValueIdx.ix2 q k) (ValueIdx.ix2 q k) (fun a => by
    match a with | ⟨0, _⟩ => exact (Nat.zero_add _).symm | ⟨1, _⟩ => exact (Nat.zero_add _).symm)
  have t2 : ∀ (q : Fin 512) (k : Fin 256), _ = x2 (ValueIdx.ix2 q k) := fun q k => ld_at arg3 harg3 x2 ![0, 0] S512x256.size (by decide) (ValueIdx.ix2 q k) (ValueIdx.ix2 q k) (fun a => by
    match a with | ⟨0, _⟩ => exact (Nat.zero_add _).symm | ⟨1, _⟩ => exact (Nat.zero_add _).symm)
  have w0 : ∀ (k : Fin 512) (c : Fin 1024), _ = x4 (ValueIdx.ix3 0 ⟨k.val, by omega⟩ c) := fun k c => ld_at arg5 harg5 x4 ![0, 0, 0] S1x512x1024.size (by decide) (ValueIdx.ix3 0 k c) (ValueIdx.ix3 0 ⟨k.val, by omega⟩ c) (fun a => by
    match a with | ⟨0, _⟩ => rfl | ⟨1, _⟩ => exact (Nat.zero_add _).symm | ⟨2, _⟩ => exact (Nat.zero_add _).symm)
  have w1 : ∀ (k : Fin 256) (c : Fin 1024), _ = x4 (ValueIdx.ix3 0 ⟨512 + k.val, by omega⟩ c) := fun k c => ld_at arg5 harg5 x4 ![0, 512, 0] S1x256x1024.size (by decide) (ValueIdx.ix3 0 k c) (ValueIdx.ix3 0 ⟨512 + k.val, by omega⟩ c) (fun a => by
    match a with | ⟨0, _⟩ => rfl | ⟨1, _⟩ => rfl | ⟨2, _⟩ => exact (Nat.zero_add _).symm)
  have w2 : ∀ (k : Fin 256) (c : Fin 1024), _ = x4 (ValueIdx.ix3 0 ⟨768 + k.val, by omega⟩ c) := fun k c => ld_at arg5 harg5 x4 ![0, 768, 0] S1x256x1024.size (by decide) (ValueIdx.ix3 0 k c) (ValueIdx.ix3 0 ⟨768 + k.val, by omega⟩ c) (fun a => by
    match a with | ⟨0, _⟩ => rfl | ⟨1, _⟩ => rfl | ⟨2, _⟩ => exact (Nat.zero_add _).symm)
  unfold mixH mixA k0_pay5 k0_pay4 mixRow
  refine congrArg₂ (· + ·) (congrArg₂ (· + ·) (congrArg₂ (· + ·) (t3 p e) ((mm512_apply _ _ p e).trans (Finset.sum_congr rfl fun k _ => congrArg₂ (· * ·) (t0 p k) (w0 k e))))
    ((mm256_apply _ _ p e).trans (Finset.sum_congr rfl fun k _ => congrArg₂ (· * ·) (t1 p k) (w1 k e)))) ((mm256_apply _ _ p e).trans (Finset.sum_congr rfl fun k _ => congrArg₂ (· * ·) (t2 p k) (w2 k e)))

theorem mixU_apply (p : Fin 512) (k : Fin 1024) :
    mixU arg1 harg1 arg2 harg2 arg3 harg3 arg4 harg4 arg5 harg5 arg6 harg6 x0 x1 x2 x3 x4 x5 (ValueIdx.ix2 p k)
      = rowRms (fun e => mixH arg1 harg1 arg2 harg2 arg3 harg3 arg4 harg4 arg5 harg5 x0 x1 x2 x3 x4 (ValueIdx.ix2 p e)) (fun e => x5 (ValueIdx.ix2 0 e)) k := by
  have h : mixU arg1 harg1 arg2 harg2 arg3 harg3 arg4 harg4 arg5 harg5 arg6 harg6 x0 x1 x2 x3 x4 x5 = rms (mixH arg1 harg1 arg2 harg2 arg3 harg3 arg4 harg4 arg5 harg5 x0 x1 x2 x3 x4)
      (View.readAt (Elt Ideal) arg6.view (Rect.unit (s := S1x1024) ![0, 0] S1x1024.size (by decide)).toLoadRect (harg6.unread x5)) := by
    unfold mixU k0_pay6
    exact shapeCast_self (s := S512x1024) _ shapeCasts_S512x1024_S512x1024
  rw [h, rms_apply]
  refine congrArg (fun f => rowRms _ f k) (funext fun e => ?_)
  exact ld_at arg6 harg6 x5 ![0, 0] S1x1024.size (by decide) (ValueIdx.ix2 0 e) (ValueIdx.ix2 0 e) (fun a => by
    match a with | ⟨0, _⟩ => rfl | ⟨1, _⟩ => exact (Nat.zero_add _).symm)

/-- The rows that the up projection reads: the sixteen before, then the block's own. -/
theorem rows_lo (o : Vec Ideal S16x1024 .bf16) (v : Vec Ideal S512x1024 .bf16) (q : Fin 16) (k : Fin 1024) :
    View.canon (rows o v) (ValueIdx.ix2 ⟨q.val, by omega⟩ k : S528x1024.Idx) = o (ValueIdx.ix2 q k) := by
  have e : (ValueIdx.ix2 ⟨q.val, by omega⟩ k : S528x1024.Idx) = (Rect.unit (s := S528x1024) ![0, 0] S16x1024.size (by decide)).emb (ValueIdx.ix2 q k : S16x1024.Idx) := by
    funext a; apply Fin.ext
    match a with
    | ⟨0, _⟩ => show q.val = 0 + 1 * q.val; omega
    | ⟨1, _⟩ => show k.val = 0 + 1 * k.val; omega
  refine (View.canon_cons_of_not_mem _ _ fun hm => ?_).trans ((congrArg (View.canon _) e).trans (View.canon_cons_emb _ _ _ _))
  have h1 := ((Rect.mem_set_unit (s := S528x1024) (off := ![16, 0]) (size := S512x1024.size) (inb := by decide)).mp hm (0 : Fin 2)).1
  have h2 : 16 ≤ q.val := h1
  omega

theorem rows_hi (o : Vec Ideal S16x1024 .bf16) (v : Vec Ideal S512x1024 .bf16) (p : Fin 512) (k : Fin 1024) (q : Fin 528) (hq : q.val = 16 + p.val) :
    View.canon (rows o v) (ValueIdx.ix2 q k : S528x1024.Idx) = v (ValueIdx.ix2 p k) := by
  have e : (ValueIdx.ix2 q k : S528x1024.Idx) = (Rect.unit (s := S528x1024) ![16, 0] S512x1024.size (by decide)).emb (ValueIdx.ix2 p k : S512x1024.Idx) := by
    funext a; apply Fin.ext
    match a with
    | ⟨0, _⟩ => show q.val = 16 + 1 * p.val; omega
    | ⟨1, _⟩ => show k.val = 0 + 1 * k.val; omega
  exact (congrArg (View.canon _) e).trans (View.canon_cons_emb _ _ _ _)

theorem taps_gate (u : Vec Ideal S528x1024 .bf16) (n : Fin 3 → Fin 1024 → EReal) (p : Fin 512)
    (hn : ∀ (d : Fin 3) (k : Fin 1024), u (ValueIdx.ix2 ⟨14 + d.val + p.val, by omega⟩ k) = n d k)
    (w : Vec Ideal S1x1024x256 .bf16) (cw : Vec Ideal S3x256 .f32) (cb : Vec Ideal S1x256 .f32) (c : Fin 256) (W : Fin 1024 → EReal) (CW : Fin 3 → EReal) (CB : EReal)
    (hw : ∀ k, w (ValueIdx.ix3 0 k c) = W k) (hcw : ∀ d, cw (ValueIdx.ix2 d c) = CW d) (hcb : cb (ValueIdx.ix2 0 c) = CB) :
    taps u w cw cb p c = tap n W CW CB := by
  have e : ∀ d : Fin 3, up u w (ValueIdx.ix2 ⟨14 + d.val + p.val, by omega⟩ c) = ∑ k : Fin 1024, n d k * W k := fun d => by
    rw [up_apply]
    exact Finset.sum_congr rfl fun k _ => congrArg₂ (· * ·) (hn d k) (hw k)
  unfold taps tap
  exact congrArg₂ (· + ·) (congrArg₂ (· + ·) (congrArg₂ (· + ·) hcb (congrArg₂ (· * ·) (hcw 0) (e 0))) (congrArg₂ (· * ·) (hcw 1) (e 1))) (congrArg₂ (· * ·) (hcw 2) (e 2))

/-- The output block at row `p`: `n` are the three normalised rows that end with row `p`. -/
theorem body_apply (o : Vec Ideal S16x1024 .bf16) (p : Fin 512) (c : Fin 1024) (n : Fin 3 → Fin 1024 → EReal)
    (hn : ∀ (d : Fin 3) (k : Fin 1024), View.canon (rows o (mixU arg1 harg1 arg2 harg2 arg3 harg3 arg4 harg4 arg5 harg5 arg6 harg6 x0 x1 x2 x3 x4 x5))
      (ValueIdx.ix2 ⟨14 + d.val + p.val, by omega⟩ k : S528x1024.Idx) = n d k) :
    View.canon (bodyStores arg1 harg1 arg2 harg2 arg3 harg3 arg4 harg4 arg5 harg5 arg6 harg6 arg7 harg7 arg8 harg8 arg9 harg9 arg10 harg10 arg11 harg11 arg12 arg13 arg14 arg15 arg16 arg17 x0 x1 x2 x3 x4 x5 x6 x7 x8 x9 x10 o) (ValueIdx.ix2 p c : S512x1024.Idx)
      = outRow (mixRow (fun k => x0 (ValueIdx.ix2 p k)) (fun k => x1 (ValueIdx.ix2 p k)) (fun k => x2 (ValueIdx.ix2 p k)) (fun k => x3 (ValueIdx.ix2 p k)) (fun k c => x4 (ValueIdx.ix3 0 k c)))
          n (fun k f => x6 (ValueIdx.ix3 0 k f)) (fun d f => x7 (ValueIdx.ix2 d f)) (fun f => x8 (ValueIdx.ix2 0 f)) (fun f e => x9 (ValueIdx.ix3 0 f e)) (fun e => x10 (ValueIdx.ix2 0 e)) c := by
  unfold bodyStores
  refine (stores_apply arg12 arg14 arg15 arg16 arg17 _ _ _ _ _ _ _ _ _ _ p c).trans ?_
  unfold outRow
  refine congrArg₂ (fun a b => rowRms a b c) (funext fun e => congrArg₂ (· + ·) (mixH_apply arg1 harg1 arg2 harg2 arg3 harg3 arg4 harg4 arg5 harg5 x0 x1 x2 x3 x4 p e) (Finset.sum_congr rfl fun f _ => congrArg₂ (· * ·) ?_ ?_)) (funext fun e => ?_)
  · have hf := f.isLt
    have hm : (Fin.ofNat 11 (f.val / 256)).val = f.val / 256 := Nat.mod_eq_of_lt (by omega)
    have hu : ∀ (d : Fin 3) (k : Fin 1024), (arg13.view.readCov (rows o (mixU arg1 harg1 arg2 harg2 arg3 harg3 arg4 harg4 arg5 harg5 arg6 harg6 x0 x1 x2 x3 x4 x5))
      (Rect.unit (s := S528x1024) ![0, 0] S528x1024.size (by decide)).toLoadRect : Vec Ideal S528x1024 .bf16) (ValueIdx.ix2 ⟨14 + d.val + p.val, by omega⟩ k) = n d k := fun d k => by
      rw [View.readCov_eq_canon']
      refine (congrArg (View.canon _) ?_).trans (hn d k)
      funext a; apply Fin.ext
      match a with
      | ⟨0, _⟩ => show 0 + 1 * (14 + d.val + p.val) = 14 + d.val + p.val; omega
      | ⟨1, _⟩ => show 0 + 1 * k.val = k.val; omega
    unfold act gate
    refine congrArg₂ swish (taps_gate _ n p hu _ _ _ _ _ _ _ (fun k => ?_) (fun d => ?_) ?_) (taps_gate _ n p hu _ _ _ _ _ _ _ (fun k => ?_) (fun d => ?_) ?_)
    · refine ld_at arg7 harg7 x6 _ _ _ _ _ fun a => ?_
      match a with
      | ⟨0, _⟩ => rfl
      | ⟨1, _⟩ => exact (Nat.zero_add _).symm
      | ⟨2, _⟩ => show f.val = 256 * (Fin.ofNat 11 (f.val / 256)).val + f.val % 256; omega
    · refine ld_at arg8 harg8 x7 _ _ _ _ _ fun a => ?_
      match a with
      | ⟨0, _⟩ => exact (Nat.zero_add _).symm
      | ⟨1, _⟩ => show f.val = 256 * (Fin.ofNat 11 (f.val / 256)).val + f.val % 256; omega
    · refine ld_at arg9 harg9 x8 _ _ _ _ _ fun a => ?_
      match a with
      | ⟨0, _⟩ => rfl
      | ⟨1, _⟩ => show f.val = 256 * (Fin.ofNat 11 (f.val / 256)).val + f.val % 256; omega
    · refine ld_at arg7 harg7 x6 _ _ _ _ _ fun a => ?_
      match a with
      | ⟨0, _⟩ => rfl
      | ⟨1, _⟩ => exact (Nat.zero_add _).symm
      | ⟨2, _⟩ => show 2816 + f.val = 2816 + 256 * (Fin.ofNat 11 (f.val / 256)).val + f.val % 256; omega
    · refine ld_at arg8 harg8 x7 _ _ _ _ _ fun a => ?_
      match a with
      | ⟨0, _⟩ => exact (Nat.zero_add _).symm
      | ⟨1, _⟩ => show 2816 + f.val = 2816 + 256 * (Fin.ofNat 11 (f.val / 256)).val + f.val % 256; omega
    · refine ld_at arg9 harg9 x8 _ _ _ _ _ fun a => ?_
      match a with
      | ⟨0, _⟩ => rfl
      | ⟨1, _⟩ => show 2816 + f.val = 2816 + 256 * (Fin.ofNat 11 (f.val / 256)).val + f.val % 256; omega
  · have he := e.isLt
    have hm : (Fin.ofNat 4 (e.val / 256)).val = e.val / 256 := Nat.mod_eq_of_lt (by omega)
    refine ld_at arg10 harg10 x9 _ _ _ _ _ fun a => ?_
    match a with
    | ⟨0, _⟩ => rfl
    | ⟨1, _⟩ => exact (Nat.zero_add _).symm
    | ⟨2, _⟩ => show e.val = 256 * (Fin.ofNat 4 (e.val / 256)).val + e.val % 256; omega
  · exact ld_at arg11 harg11 x10 ![0, 0] S1x1024.size (by decide) (ValueIdx.ix2 0 e) (ValueIdx.ix2 0 e) (fun a => by
      match a with | ⟨0, _⟩ => rfl | ⟨1, _⟩ => exact (Nat.zero_add _).symm)

end Cert.Proof.Mix

end
-- ==== Proof.MixValue.lean ====
/-
  The output array after the run: each row from its own residual and from the three normalised rows that end with it.
-/
module

public import Idealize.ShloMosaic.Lib.Pipeline.ValueKit
public import proofs.«01_k».proof.Proof.MixBody
public import proofs.«01_k».proof.Proof.Gen.Kernel3Ideal.Value

@[expose] public section

set_option maxRecDepth 16384

noncomputable section

namespace Cert.Proof.Mix

open Cert.Kernel3Ideal Cert.Kernel3Ideal.Gen
open Idealize.ShloMosaic Idealize.ShloMosaic.TcCoe

open Inproj (rowRms)

section Named

variable (arg1 : Memref sig .tc .vmem S512x512 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x1024 .f32) (harg4 : arg4.IsWhole) (arg5 : Memref sig .tc .vmem S1x1024x1024 .bf16) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S528x1024 .bf16) (harg13 : arg13.IsWhole) (arg14 : Memref sig .tc .vmem S512x2816 .bf16) (harg14 : arg14.IsWhole) (arg15 : Memref sig .tc .vmem S2x528x128 .f32) (harg15 : arg15.IsWhole) (arg16 : Memref sig .tc .vmem S2x528x128 .f32) (harg16 : arg16.IsWhole) (arg17 : Memref sig .tc .vmem S8x512x128 .f32) (harg17 : arg17.IsWhole)
    (x0 : Vec Ideal S512x512 .bf16) (x1 : Vec Ideal S512x256 .bf16) (x2 : Vec Ideal S512x256 .bf16) (x3 : Vec Ideal S512x1024 .f32) (x4 : Vec Ideal S1x1024x1024 .bf16) (x5 : Vec Ideal S1x1024 .f32) (x6 : Vec Ideal S1x1024x5632 .bf16) (x7 : Vec Ideal S3x5632 .f32) (x8 : Vec Ideal S1x5632 .f32) (x9 : Vec Ideal S1x2816x1024 .bf16) (x10 : Vec Ideal S1x1024 .f32) (xs0 : Vec Ideal S528x1024 .bf16)

theorem out_A (c : Dev nD) (i : grid0.Coords) (hc0 : cond0_0 i) (hc1 : ¬cond0_1 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 = View.canon (bodyStores arg1 harg1 arg2 harg2 arg3 harg3 arg4 harg4 arg5 harg5 arg6 harg6 arg7 harg7 arg8 harg8 arg9 harg9 arg10 harg10 arg11 harg11 arg12 arg13 arg14 arg15 arg16 arg17 x0 x1 x2 x3 x4 x5 x6 x7 x8 x9 x10 (k0_pay2 (F := Ideal))) := by
  unfold out0_A_11
  rw [View.read_writes_junk_eq_canon, stores_A]

theorem sout_A (c : Dev nD) (i : grid0.Coords) (hc0 : cond0_0 i) (hc1 : ¬cond0_1 i) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 = View.canon (rows (k0_pay2 (F := Ideal)) (mixU arg1 harg1 arg2 harg2 arg3 harg3 arg4 harg4 arg5 harg5 arg6 harg6 x0 x1 x2 x3 x4 x5)) := by
  unfold sout0_A_0
  rw [View.read_writes_junk_eq_canon, rows_A]

theorem out_B (c : Dev nD) (i : grid0.Coords) (hc0 : ¬cond0_0 i) (hc1 : cond0_1 i) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs0 = View.canon (bodyStores arg1 harg1 arg2 harg2 arg3 harg3 arg4 harg4 arg5 harg5 arg6 harg6 arg7 harg7 arg8 harg8 arg9 harg9 arg10 harg10 arg11 harg11 arg12 arg13 arg14 arg15 arg16 arg17 x0 x1 x2 x3 x4 x5 x6 x7 x8 x9 x10 (halo arg13 harg13 xs0)) := by
  unfold out0_B_11
  rw [View.read_writes_junk_eq_canon, stores_B]

theorem sout_B (c : Dev nD) (i : grid0.Coords) (hc0 : ¬cond0_0 i) (hc1 : cond0_1 i) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs0 = View.canon (rows (halo arg13 harg13 xs0) (mixU arg1 harg1 arg2 harg2 arg3 harg3 arg4 harg4 arg5 harg5 arg6 harg6 x0 x1 x2 x3 x4 x5)) := by
  unfold sout0_B_0
  rw [View.read_writes_junk_eq_canon, rows_B]

end Named

section Spec

variable (X0 : S16384x512.Idx → EReal) (X1 : S16384x256.Idx → EReal) (X2 : S16384x256.Idx → EReal) (X3 : S16384x1024.Idx → EReal) (X4 : S2x1024x1024.Idx → EReal) (X5 : S1x1024.Idx → EReal) (X6 : S2x1024x5632.Idx → EReal) (X7 : S3x5632.Idx → EReal) (X8 : S1x5632.Idx → EReal) (X9 : S2x2816x1024.Idx → EReal) (X10 : S1x1024.Idx → EReal)

/-- Row `i` of the residual after the output projection. -/
def hRow (i : Fin 16384) : Fin 1024 → EReal :=
  mixRow (fun k => X0 (ValueIdx.ix2 i k)) (fun k => X1 (ValueIdx.ix2 i k)) (fun k => X2 (ValueIdx.ix2 i k)) (fun k => X3 (ValueIdx.ix2 i k)) (fun k c => X4 (ValueIdx.ix3 1 k c))

/-- Row `i`, normalised. -/
def nRow (i : Fin 16384) : Fin 1024 → EReal := rowRms (hRow X0 X1 X2 X3 X4 i) (fun e => X5 (ValueIdx.ix2 0 e))

/-- The three normalised rows that end with row `i` of its sequence; before the sequence, zeros. -/
def lag (i : Fin 16384) (d : Fin 3) (k : Fin 1024) : EReal :=
  if i.val % 4096 + d.val < 2 then 0 else nRow X0 X1 X2 X3 X4 X5 ⟨i.val + d.val - 2, by have := i.isLt; have := d.isLt; omega⟩ k

/-- Row `i` of the output. -/
def outAt (i : Fin 16384) : Fin 1024 → EReal :=
  outRow (hRow X0 X1 X2 X3 X4 i) (lag X0 X1 X2 X3 X4 X5 i) (fun k f => X6 (ValueIdx.ix3 1 k f)) (fun d f => X7 (ValueIdx.ix2 d f)) (fun f => X8 (ValueIdx.ix2 0 f))
    (fun f e => X9 (ValueIdx.ix3 1 f e)) (fun e => X10 (ValueIdx.ix2 0 e))

end Spec

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![1, 0, 0] := by decide +kernel
theorem idx5 : ∀ t : Fin cfg0.N, win0_5.index t = ![0, 0] := by decide +kernel
theorem idx6 : ∀ t : Fin cfg0.N, win0_6.index t = ![1, 0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![1, 0, 0] := by decide +kernel
theorem idx10 : ∀ t : Fin cfg0.N, win0_10.index t = ![0, 0] := by decide +kernel
theorem idx11 : ∀ t : Fin cfg0.N, win0_11.index t = ![t.val, 0] := by decide +kernel

variable (m : (ℓ : Loc nD τ sig) → Buf (Elt Ideal) ℓ) (c : Dev nD)

theorem blk0 (t : Fin cfg0.N) (r : Fin 512) (e : Fin 512) (i : Fin 16384) (hi : i.val = 512 * t.val + r.val) :
    iblk (F := Ideal) m c 0 t (ValueIdx.ix2 r e : S512x512.Idx) = (m ((c : Thread nD τ).loc main_arg0) : S16384x512.Idx → EReal) (ValueIdx.ix2 i e) := by
  blk_ext! [iblk, V, idx0 t]
  · show t.val * 512 + r.val = i.val
    omega

theorem blk1 (t : Fin cfg0.N) (r : Fin 512) (e : Fin 256) (i : Fin 16384) (hi : i.val = 512 * t.val + r.val) :
    iblk (F := Ideal) m c 1 t (ValueIdx.ix2 r e : S512x256.Idx) = (m ((c : Thread nD τ).loc main_arg1) : S16384x256.Idx → EReal) (ValueIdx.ix2 i e) := by
  blk_ext! [iblk, V, idx1 t]
  · show t.val * 512 + r.val = i.val
    omega

theorem blk2 (t : Fin cfg0.N) (r : Fin 512) (e : Fin 256) (i : Fin 16384) (hi : i.val = 512 * t.val + r.val) :
    iblk (F := Ideal) m c 2 t (ValueIdx.ix2 r e : S512x256.Idx) = (m ((c : Thread nD τ).loc main_arg2) : S16384x256.Idx → EReal) (ValueIdx.ix2 i e) := by
  blk_ext! [iblk, V, idx2 t]
  · show t.val * 512 + r.val = i.val
    omega

theorem blk3 (t : Fin cfg0.N) (r : Fin 512) (e : Fin 1024) (i : Fin 16384) (hi : i.val = 512 * t.val + r.val) :
    iblk (F := Ideal) m c 3 t (ValueIdx.ix2 r e : S512x1024.Idx) = (m ((c : Thread nD τ).loc main_arg3) : S16384x1024.Idx → EReal) (ValueIdx.ix2 i e) := by
  blk_ext! [iblk, V, idx3 t]
  · show t.val * 512 + r.val = i.val
    omega

theorem blk4 (t : Fin cfg0.N) (k : Fin 1024) (e : Fin 1024) :
    iblk (F := Ideal) m c 4 t (ValueIdx.ix3 0 k e : S1x1024x1024.Idx) = (m ((c : Thread nD τ).loc main_arg4) : S2x1024x1024.Idx → EReal) (ValueIdx.ix3 1 k e) := by
  blk_ext! [iblk, V, idx4 t]

theorem blk6 (t : Fin cfg0.N) (k : Fin 1024) (e : Fin 5632) :
    iblk (F := Ideal) m c 6 t (ValueIdx.ix3 0 k e : S1x1024x5632.Idx) = (m ((c : Thread nD τ).loc main_arg6) : S2x1024x5632.Idx → EReal) (ValueIdx.ix3 1 k e) := by
  blk_ext! [iblk, V, idx6 t]

theorem blk9 (t : Fin cfg0.N) (k : Fin 2816) (e : Fin 1024) :
    iblk (F := Ideal) m c 9 t (ValueIdx.ix3 0 k e : S1x2816x1024.Idx) = (m ((c : Thread nD τ).loc main_arg9) : S2x2816x1024.Idx → EReal) (ValueIdx.ix3 1 k e) := by
  blk_ext! [iblk, V, idx9 t]

theorem blk5 (t : Fin cfg0.N) : iblk (F := Ideal) m c 5 t = m ((c : Thread nD τ).loc main_arg5) := by
  blk_ext! [iblk, V, idx5 t]

theorem blk7 (t : Fin cfg0.N) : iblk (F := Ideal) m c 7 t = m ((c : Thread nD τ).loc main_arg7) := by
  blk_ext! [iblk, V, idx7 t]

theorem blk8 (t : Fin cfg0.N) : iblk (F := Ideal) m c 8 t = m ((c : Thread nD τ).loc main_arg8) := by
  blk_ext! [iblk, V, idx8 t]

theorem blk10 (t : Fin cfg0.N) : iblk (F := Ideal) m c 10 t = m ((c : Thread nD τ).loc main_arg10) := by
  blk_ext! [iblk, V, idx10 t]

/-- The normalised rows of a point's block. -/
theorem mixU_blk (arg1 : Memref sig .tc .vmem S512x512 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x1024 .f32) (harg4 : arg4.IsWhole) (arg5 : Memref sig .tc .vmem S1x1024x1024 .bf16) (harg5 : arg5.IsWhole) (arg6 : Memref sig .tc .vmem S1x1024 .f32) (harg6 : arg6.IsWhole)
    (t : Fin cfg0.N) (p : Fin 512) (k : Fin 1024) (i : Fin 16384) (hi : i.val = 512 * t.val + p.val) :
    mixU arg1 harg1 arg2 harg2 arg3 harg3 arg4 harg4 arg5 harg5 arg6 harg6 (iblk (F := Ideal) m c 0 t) (iblk (F := Ideal) m c 1 t) (iblk (F := Ideal) m c 2 t) (iblk (F := Ideal) m c 3 t) (iblk (F := Ideal) m c 4 t) (iblk (F := Ideal) m c 5 t) (ValueIdx.ix2 p k) = nRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i k := by
  rw [mixU_apply]
  unfold nRow hRow
  refine congrArg₂ (fun a b => rowRms a b k) (funext fun e => ?_) (by rw [blk5])
  rw [mixH_apply, funext fun k => blk0 m c t p k i hi, funext fun k => blk1 m c t p k i hi, funext fun k => blk2 m c t p k i hi, funext fun k => blk3 m c t p k i hi,
    funext fun k => funext fun e => blk4 m c t k e]

/-- A point's output row, when the three rows its convolution reads are known. -/
theorem body_blk (arg1 : Memref sig .tc .vmem S512x512 .bf16) (harg1 : arg1.IsWhole)
    (arg2 : Memref sig .tc .vmem S512x256 .bf16) (harg2 : arg2.IsWhole)
    (arg3 : Memref sig .tc .vmem S512x256 .bf16) (harg3 : arg3.IsWhole)
    (arg4 : Memref sig .tc .vmem S512x1024 .f32) (harg4 : arg4.IsWhole)
    (arg5 : Memref sig .tc .vmem S1x1024x1024 .bf16) (harg5 : arg5.IsWhole)
    (arg6 : Memref sig .tc .vmem S1x1024 .f32) (harg6 : arg6.IsWhole)
    (arg7 : Memref sig .tc .vmem S1x1024x5632 .bf16) (harg7 : arg7.IsWhole)
    (arg8 : Memref sig .tc .vmem S3x5632 .f32) (harg8 : arg8.IsWhole)
    (arg9 : Memref sig .tc .vmem S1x5632 .f32) (harg9 : arg9.IsWhole)
    (arg10 : Memref sig .tc .vmem S1x2816x1024 .bf16) (harg10 : arg10.IsWhole)
    (arg11 : Memref sig .tc .vmem S1x1024 .f32) (harg11 : arg11.IsWhole)
    (arg12 : Memref sig .tc .vmem S512x1024 .f32)
    (arg13 : Memref sig .tc .vmem S528x1024 .bf16)
    (arg14 : Memref sig .tc .vmem S512x2816 .bf16)
    (arg15 : Memref sig .tc .vmem S2x528x128 .f32)
    (arg16 : Memref sig .tc .vmem S2x528x128 .f32)
    (arg17 : Memref sig .tc .vmem S8x512x128 .f32)
    (o : Vec Ideal S16x1024 .bf16) (t : Fin cfg0.N) (p : Fin 512) (e : Fin 1024) (i : Fin 16384) (hi : i.val = 512 * t.val + p.val)
    (ho : ∀ (d : Fin 3) (k : Fin 1024) (h : d.val + p.val < 2), o (ValueIdx.ix2 ⟨14 + d.val + p.val, by omega⟩ k) = lag (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i d k)
    (hz : ∀ d : Fin 3, i.val % 4096 + d.val < 2 → d.val + p.val < 2) :
    View.canon (bodyStores arg1 harg1 arg2 harg2 arg3 harg3 arg4 harg4 arg5 harg5 arg6 harg6 arg7 harg7 arg8 harg8 arg9 harg9 arg10 harg10 arg11 harg11 arg12 arg13 arg14 arg15 arg16 arg17 (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) o) (ValueIdx.ix2 p e : S512x1024.Idx)
      = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i e := by
  refine (body_apply arg1 harg1 arg2 harg2 arg3 harg3 arg4 harg4 arg5 harg5 arg6 harg6 arg7 harg7 arg8 harg8 arg9 harg9 arg10 harg10 arg11 harg11 arg12 arg13 arg14 arg15 arg16 arg17 (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) o p e (lag (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i) (fun d k => ?_)).trans ?_
  · have hp := p.isLt
    have hd := d.isLt
    by_cases h : d.val + p.val < 2
    · exact (rows_lo o _ ⟨14 + d.val + p.val, by omega⟩ k).trans (ho d k h)
    · refine (rows_hi o _ ⟨d.val + p.val - 2, by omega⟩ k ⟨14 + d.val + p.val, by omega⟩ (by show 14 + d.val + p.val = 16 + (d.val + p.val - 2); omega)).trans ?_
      unfold lag
      rw [if_neg fun h2 => h (hz d h2)]
      exact mixU_blk m c arg1 harg1 arg2 harg2 arg3 harg3 arg4 harg4 arg5 harg5 arg6 harg6 t ⟨d.val + p.val - 2, by omega⟩ k ⟨i.val + d.val - 2, by have := i.isLt; omega⟩ (by show i.val + d.val - 2 = 512 * t.val + (d.val + p.val - 2); omega)
  · unfold outAt hRow
    rw [funext fun k => blk0 m c t p k i hi, funext fun k => blk1 m c t p k i hi, funext fun k => blk2 m c t p k i hi, funext fun k => blk3 m c t p k i hi,
      funext fun k => funext fun e => blk4 m c t k e, funext fun k => funext fun e => blk6 m c t k e, blk7, blk8, funext fun k => funext fun e => blk9 m c t k e, blk10]

/-- The rows that a point leaves for the next one are its own normalised rows. -/
theorem kept (t : Fin cfg0.N) (q : Fin 528) (p : Fin 512) (hq : q.val = 16 + p.val) (k : Fin 1024) (i : Fin 16384) (hi : i.val = 512 * t.val + p.val) :
    (outsAt0 (F := Ideal) m c t.val t.isLt).2 (ValueIdx.ix2 q k : S528x1024.Idx) = nRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i k := by
  by_cases h0 : t.val % 8 = 0
  · simp only [outsAt0_A m c t h0 (not_not.mpr h0)]
    rw [sout_A]
    exact (rows_hi _ _ p k q hq).trans (mixU_blk m c _ _ _ _ _ _ _ _ _ _ _ _ t p k i hi)
  · simp only [outsAt0_B m c t h0 h0]
    rw [sout_B]
    exact (rows_hi _ _ p k q hq).trans (mixU_blk m c _ _ _ _ _ _ _ _ _ _ _ _ t p k i hi)

/-- The output array. -/
def G : S16384x1024.Idx → EReal := fun i => outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1)

theorem arr11 : (dats (F := Ideal) m 0 c).arrAt 11 cfg0.N = G m c := by
  refine (dats (F := Ideal) m 0 c).arrAt_eq_of_covers 11 _ (by decide +kernel) fun t hf y => ?_
  blk_simp
  rw [after0_11]
  have ht : t.val < 32 := t.isLt
  obtain ⟨p, e, rfl⟩ : ∃ (r : Fin 512) (d : Fin 1024), y = (ValueIdx.ix2 r d : S512x1024.Idx) := ⟨y 0, y 1, ValueIdx.eq_ix2 (n0 := 512) (n1 := 1024) y⟩
  have hp := p.isLt
  have em : (win0_11.blk t).view.emb (ValueIdx.ix2 p e : S512x1024.Idx) = (ValueIdx.ix2 ⟨512 * t.val + p.val, by omega⟩ e : S16384x1024.Idx) := by
    blk_ext! [idx11 t]
    · show t.val * 512 + p.val = 512 * t.val + p.val
      omega
  rw [em]
  show (outsAt0 (F := Ideal) m c t.val t.isLt).1 (ValueIdx.ix2 p e : S512x1024.Idx) = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨512 * t.val + p.val, by omega⟩ e
  by_cases h0 : t.val % 8 = 0
  · simp only [outsAt0_A m c t h0 (not_not.mpr h0)]
    rw [out_A]
    refine body_blk m c _ _ _ _ _ _ _ _ _ _ _ _ _ _ _ _ _ _ _ _ _ _ _ _ _ _ _ _ _ t p e ⟨512 * t.val + p.val, by omega⟩ rfl (fun d k h => ?_) (fun d h => ?_)
    · unfold lag
      rw [if_pos (by show (512 * t.val + p.val) % 4096 + d.val < 2; omega)]
      exact Ideal.ofBits_zero_bf16
    · have h' : (512 * t.val + p.val) % 4096 + d.val < 2 := h
      omega
  · simp only [outsAt0_B m c t h0 h0]
    rw [out_B]
    refine body_blk m c _ _ _ _ _ _ _ _ _ _ _ _ _ _ _ _ _ _ _ _ _ _ _ _ _ _ _ _ _ t p e ⟨512 * t.val + p.val, by omega⟩ rfl (fun d k h => ?_) (fun d h => ?_)
    · unfold lag halo k0_pay3
      rw [if_neg (by show ¬((512 * t.val + p.val) % 4096 + d.val < 2); omega)]
      refine (congrFun (shapeCast_self (s := S16x1024) _ shapeCasts_S16x1024_S16x1024) _).trans ?_
      refine (ld_at (S := S528x1024) _ _ _ ![512, 0] S16x1024.size _ _ (ValueIdx.ix2 (⟨526 + d.val + p.val, by omega⟩ : Fin 528) k) (fun a => ?_)).trans ?_
      · match a with
        | ⟨0, _⟩ => show 526 + d.val + p.val = 512 + (14 + d.val + p.val); omega
        | ⟨1, _⟩ => exact (Nat.zero_add _).symm
      · refine kept m c ⟨t.val - 1, lt_of_le_of_lt (Nat.sub_le _ _) t.isLt⟩ ⟨526 + d.val + p.val, by omega⟩ ⟨510 + d.val + p.val, by omega⟩ (by show 526 + d.val + p.val = 16 + (510 + d.val + p.val); omega) k _ ?_
        show 512 * t.val + p.val + d.val - 2 = 512 * (t.val - 1) + (510 + d.val + p.val)
        omega
    · have h' : (512 * t.val + p.val) % 4096 + d.val < 2 := h
      omega

end Cert.Proof.Mix

end
-- ==== Proof.MixReference.lean ====
/-
  The reference's output row by row: the same rows as the kernel's.
-/
module

public import proofs.«01_k».proof.Proof.Gen.Reference3Ideal.Run
public import proofs.«01_k».proof.Proof.Gen.Reference3Ideal.Read
public import proofs.«01_k».proof.Proof.MixValue
public import Idealize.ShloMosaic.Lib.KernelVsHost

@[expose] public section

set_option maxRecDepth 16384

noncomputable section

namespace Cert.Proof.Mix

open Cert.Reference3Ideal Cert.Reference3Ideal.Read
open Idealize.ShloMosaic Idealize.ShloMosaic.TcCoe

open Inproj (rowRms)

theorem sum_parts (f : Fin 1024 → EReal) :
    ∑ k : Fin 1024, f k = (∑ k : Fin 512, f ⟨k.val, by omega⟩ + ∑ k : Fin 256, f ⟨512 + k.val, by omega⟩) + ∑ k : Fin 256, f ⟨768 + k.val, by omega⟩ := by
  have h1 : ∑ k : Fin 1024, f k = ∑ k : Fin 512, f ⟨k.val, by omega⟩ + ∑ k : Fin 512, f ⟨512 + k.val, by omega⟩ := Fin.sum_univ_add (a := 512) (b := 512) f
  have h2 : ∑ k : Fin 512, f ⟨512 + k.val, by omega⟩ = ∑ k : Fin 256, f ⟨512 + k.val, by omega⟩ + ∑ k : Fin 256, f ⟨512 + (256 + k.val), by omega⟩ :=
    Fin.sum_univ_add (a := 256) (b := 256) (fun k : Fin 512 => f ⟨512 + k.val, by omega⟩)
  have h3 : ∑ k : Fin 256, f ⟨512 + (256 + k.val), by omega⟩ = ∑ k : Fin 256, f ⟨768 + k.val, by omega⟩ :=
    Finset.sum_congr rfl fun k _ => congrArg f (Fin.ext (show 512 + (256 + k.val) = 768 + k.val by omega))
  rw [h1, h2, h3, add_assoc]

variable (x0 : S16384x512.Idx → EReal) (x1 : S16384x256.Idx → EReal) (x2 : S16384x256.Idx → EReal) (x3 : S16384x1024.Idx → EReal) (x4 : S2x1024x1024.Idx → EReal) (x5 : S1x1024.Idx → EReal) (x6 : S2x1024x5632.Idx → EReal) (x7 : S3x5632.Idx → EReal) (x8 : S1x5632.Idx → EReal) (x9 : S2x2816x1024.Idx → EReal) (x10 : S1x1024.Idx → EReal)

theorem v0_first (r : Fin 16384) (k : Fin 512) : val_main_v0 (F := Ideal) x0 x1 x2 (ValueIdx.ix2 r ⟨k.val, by omega⟩ : S16384x1024.Idx) = x0 (ValueIdx.ix2 r k) := by
  unfold val_main_v0
  exact concatenate_apply_piece (t := S16384x1024) 1 _ _ (ValueIdx.ix2 r ⟨k.val, by omega⟩) 0 (by show 0 < 3; omega) S16384x512 x0 rfl rfl 0 rfl (ValueIdx.ix2 r k)
    (fun b => match b with | ⟨0, _⟩ => fun _ => rfl | ⟨1, _⟩ => fun h => absurd rfl h) (Nat.zero_add _)

theorem v0_second (r : Fin 16384) (k : Fin 256) : val_main_v0 (F := Ideal) x0 x1 x2 (ValueIdx.ix2 r ⟨512 + k.val, by omega⟩ : S16384x1024.Idx) = x1 (ValueIdx.ix2 r k) := by
  unfold val_main_v0
  exact concatenate_apply_piece (t := S16384x1024) 1 _ _ (ValueIdx.ix2 r ⟨512 + k.val, by omega⟩) 1 (by show 1 < 3; omega) S16384x256 x1 rfl rfl 512 rfl (ValueIdx.ix2 r k)
    (fun b => match b with | ⟨0, _⟩ => fun _ => rfl | ⟨1, _⟩ => fun h => absurd rfl h) rfl

theorem v0_third (r : Fin 16384) (k : Fin 256) : val_main_v0 (F := Ideal) x0 x1 x2 (ValueIdx.ix2 r ⟨768 + k.val, by omega⟩ : S16384x1024.Idx) = x2 (ValueIdx.ix2 r k) := by
  unfold val_main_v0
  exact concatenate_apply_piece (t := S16384x1024) 1 _ _ (ValueIdx.ix2 r ⟨768 + k.val, by omega⟩) 2 (by show 2 < 3; omega) S16384x256 x2 rfl rfl 768 rfl (ValueIdx.ix2 r k)
    (fun b => match b with | ⟨0, _⟩ => fun _ => rfl | ⟨1, _⟩ => fun h => absurd rfl h) rfl

theorem v4_apply (i : S1024x1024.Idx) (k : Fin 1024) (e : Fin 1024) (hi : i = (ValueIdx.ix2 k e : S1024x1024.Idx)) :
    val_main_v4 (F := Ideal) x4 i = x4 (ValueIdx.ix3 1 k e) := by
  rw [val_main_v4_apply, val_main_v3_apply, val_main_v2_apply]
  show x4 _ = x4 _
  refine congrArg x4 ?_
  subst hi
  have hk := k.isLt
  have he := e.isLt
  funext a; apply Fin.ext
  match a with
  | ⟨0, _⟩ => rfl
  | ⟨1, _⟩ => show (k.val * 1024 + e.val) / 1024 % 1024 = k.val; omega
  | ⟨2, _⟩ => show (k.val * 1024 + e.val) % 1024 = e.val; omega

theorem v23_apply (i : S1024x5632.Idx) (k : Fin 1024) (e : Fin 5632) (hi : i = (ValueIdx.ix2 k e : S1024x5632.Idx)) :
    val_main_v23 (F := Ideal) x6 i = x6 (ValueIdx.ix3 1 k e) := by
  rw [val_main_v23_apply, val_main_v22_apply, val_main_v21_apply]
  show x6 _ = x6 _
  refine congrArg x6 ?_
  subst hi
  have hk := k.isLt
  have he := e.isLt
  funext a; apply Fin.ext
  match a with
  | ⟨0, _⟩ => rfl
  | ⟨1, _⟩ => show (k.val * 5632 + e.val) / 5632 % 1024 = k.val; omega
  | ⟨2, _⟩ => show (k.val * 5632 + e.val) % 5632 = e.val; omega

theorem v60_apply (i : S2816x1024.Idx) (k : Fin 2816) (e : Fin 1024) (hi : i = (ValueIdx.ix2 k e : S2816x1024.Idx)) :
    val_main_v60 (F := Ideal) x9 i = x9 (ValueIdx.ix3 1 k e) := by
  rw [val_main_v60_apply, val_main_v59_apply, val_main_v58_apply]
  show x9 _ = x9 _
  refine congrArg x9 ?_
  subst hi
  have hk := k.isLt
  have he := e.isLt
  funext a; apply Fin.ext
  match a with
  | ⟨0, _⟩ => rfl
  | ⟨1, _⟩ => show (k.val * 1024 + e.val) / 1024 % 2816 = k.val; omega
  | ⟨2, _⟩ => show (k.val * 1024 + e.val) % 1024 = e.val; omega

/-- The residual after the output projection. -/
theorem v6_apply (r : Fin 16384) (e : Fin 1024) : val_main_v6 (F := Ideal) x0 x1 x2 x3 x4 (ValueIdx.ix2 r e : S16384x1024.Idx) = hRow x0 x1 x2 x3 x4 r e := by
  rw [val_main_v6_apply, val_main_v5_apply]
  have h : ∀ k : Fin 1024, val_main_v1 (F := Ideal) x0 x1 x2 (lidx_main_v5 (ValueIdx.ix2 r e : S16384x1024.Idx) k) * val_main_v4 (F := Ideal) x4 (ridx_main_v5 (ValueIdx.ix2 r e : S16384x1024.Idx) k)
      = val_main_v0 (F := Ideal) x0 x1 x2 (ValueIdx.ix2 r k : S16384x1024.Idx) * x4 (ValueIdx.ix3 1 k e) := fun k => by
    rw [v4_apply x4 _ k e (by
    funext a; apply Fin.ext
    match a with
    | ⟨0, _⟩ => rfl
    | ⟨1, _⟩ => rfl)]
    refine congrArg (fun j => val_main_v0 (F := Ideal) x0 x1 x2 j * x4 (ValueIdx.ix3 1 k e)) ?_
    funext a; apply Fin.ext
    match a with
    | ⟨0, _⟩ => rfl
    | ⟨1, _⟩ => rfl
  rw [Finset.sum_congr rfl fun k _ => h k, sum_parts]
  have h0 : ∑ k : Fin 512, val_main_v0 (F := Ideal) x0 x1 x2 (ValueIdx.ix2 r ⟨k.val, by omega⟩ : S16384x1024.Idx) * x4 (ValueIdx.ix3 1 ⟨k.val, by omega⟩ e)
      = ∑ k : Fin 512, x0 (ValueIdx.ix2 r k) * x4 (ValueIdx.ix3 1 ⟨k.val, by omega⟩ e) := Finset.sum_congr rfl fun k _ => by rw [v0_first]
  have h1 : ∑ k : Fin 256, val_main_v0 (F := Ideal) x0 x1 x2 (ValueIdx.ix2 r ⟨512 + k.val, by omega⟩ : S16384x1024.Idx) * x4 (ValueIdx.ix3 1 ⟨512 + k.val, by omega⟩ e)
      = ∑ k : Fin 256, x1 (ValueIdx.ix2 r k) * x4 (ValueIdx.ix3 1 ⟨512 + k.val, by omega⟩ e) := Finset.sum_congr rfl fun k _ => by rw [v0_second]
  have h2 : ∑ k : Fin 256, val_main_v0 (F := Ideal) x0 x1 x2 (ValueIdx.ix2 r ⟨768 + k.val, by omega⟩ : S16384x1024.Idx) * x4 (ValueIdx.ix3 1 ⟨768 + k.val, by omega⟩ e)
      = ∑ k : Fin 256, x2 (ValueIdx.ix2 r k) * x4 (ValueIdx.ix3 1 ⟨768 + k.val, by omega⟩ e) := Finset.sum_congr rfl fun k _ => by rw [v0_third]
  rw [h0, h1, h2]
  unfold hRow mixRow
  show x3 (ValueIdx.ix2 r e) + _ = _
  rw [← add_assoc, ← add_assoc]

theorem v20_apply (i : S16384x1024.Idx) (r : Fin 16384) (k : Fin 1024) (hi : i = (ValueIdx.ix2 r k : S16384x1024.Idx)) :
    val_main_v20 (F := Ideal) x0 x1 x2 x3 x4 x5 i = rowRms (hRow x0 x1 x2 x3 x4 r) (fun e => x5 (ValueIdx.ix2 0 e)) k := by
  have hw : val_main_v19 (F := Ideal) x5 i = x5 (ValueIdx.ix2 0 k) := by
    rw [val_main_v19_apply, val_main_v18_apply, val_main_v17_apply]
    refine congrArg x5 ?_
    subst hi
    funext a; apply Fin.ext
    match a with
    | ⟨0, _⟩ => rfl
    | ⟨1, _⟩ => exact Nat.mod_eq_of_lt k.isLt
  have hs : ∀ j : S16384.Idx, r = j 0 → val_main_v8 (F := Ideal) x0 x1 x2 x3 x4 j = ∑ e : Fin 1024, (hRow x0 x1 x2 x3 x4 r) e * (hRow x0 x1 x2 x3 x4 r) e := fun j hr => by
    rw [val_main_v8_apply, val_main_cst_apply]
    show Ideal.ofBits .f32 0x00000000#32 + _ = _
    rw [Ideal.ofBits_zero_f32, zero_add]
    refine Finset.sum_congr rfl fun e _ => ?_
    have h : idx_main_v8 j e = (ValueIdx.ix2 r e : S16384x1024.Idx) := by
      subst hr
      funext a; apply Fin.ext
      match a with
      | ⟨0, _⟩ => rfl
      | ⟨1, _⟩ => rfl
    rw [val_main_v7_apply, h, v6_apply]
    rfl
  have hr : val_main_v15 (F := Ideal) x0 x1 x2 x3 x4 i = Ideal.rsqrt (Ideal.div (∑ e : Fin 1024, (hRow x0 x1 x2 x3 x4 r) e * (hRow x0 x1 x2 x3 x4 r) e) (Ideal.ofBits .f32 0x44800000#32)
      + Ideal.ofBits .f32 0x358637BD#32) := by
    rw [val_main_v15_apply, val_main_v14_apply, val_main_v13_apply, val_main_v11_apply, val_main_v9_apply, val_main_v10_apply, val_main_v12_apply,
      hs _ (by subst hi; rfl)]
    rfl
  rw [val_main_v20_apply, val_main_v16_apply, hr, hw, hi, v6_apply]
  rfl

theorem v24_apply (r : Fin 16384) (f : Fin 5632) (i : S16384x5632.Idx) (hi : i = (ValueIdx.ix2 r f : S16384x5632.Idx)) :
    val_main_v24 (F := Ideal) x0 x1 x2 x3 x4 x5 x6 i = ∑ k : Fin 1024, nRow x0 x1 x2 x3 x4 x5 r k * x6 (ValueIdx.ix3 1 k f) := by
  rw [val_main_v24_apply]
  subst hi
  refine Finset.sum_congr rfl fun k _ => ?_
  rw [v20_apply x0 x1 x2 x3 x4 x5 _ r k (by
    funext a; apply Fin.ext
    match a with
    | ⟨0, _⟩ => rfl
    | ⟨1, _⟩ => rfl), v23_apply x6 _ k f (by
    funext a; apply Fin.ext
    match a with
    | ⟨0, _⟩ => rfl
    | ⟨1, _⟩ => rfl)]
  rfl

/-- The up projection, padded in front: what the convolution's tap `d` reads for row `r`. -/
theorem v26_apply (r : Fin 16384) (d : Fin 3) (f : Fin 5632) (j : S4x4098x5632.Idx) (h0 : (j 0).val = r.val / 4096) (h1 : (j 1).val = r.val % 4096 + d.val) (h2 : (j 2).val = f.val) :
    val_main_v26 (F := Ideal) x0 x1 x2 x3 x4 x5 x6 j = ∑ k : Fin 1024, lag x0 x1 x2 x3 x4 x5 r d k * x6 (ValueIdx.ix3 1 k f) := by
  have hr := r.isLt
  have hd := d.isLt
  have hf := f.isLt
  unfold val_main_v26 lag
  by_cases h : r.val % 4096 + d.val < 2
  · rw [pad_apply_of_not_inside _ _ _ _ _ _ _ j (1 : Fin 3) (fun hh => by
      have hle : 2 ≤ (j 1).val := hh.1
      omega)]
    have hz : ∀ q : S_.Idx, val_main_call0_v0 (F := Ideal) q = (0 : EReal) := fun q => by
      rw [val_main_call0_v0_apply]
      show (((0#32 : BitVec 32).toInt : ℝ) : EReal) = 0
      simp
    rw [hz]
    refine (Finset.sum_eq_zero fun k _ => ?_).symm
    rw [if_pos h, zero_mul]
  · have hlt : r.val % 4096 + d.val - 2 < 4096 := by omega
    rw [pad_apply_of_inside _ _ _ _ _ _ _ j (ValueIdx.ix3 ⟨r.val / 4096, by omega⟩ ⟨r.val % 4096 + d.val - 2, hlt⟩ f : S4x4096x5632.Idx) (fun a => by
      match a with
      | ⟨0, _⟩ => show (j 0).val = 0 + r.val / 4096 * (0 + 1); omega
      | ⟨1, _⟩ => show (j 1).val = 2 + (r.val % 4096 + d.val - 2) * (0 + 1); omega
      | ⟨2, _⟩ => show (j 2).val = 0 + f.val * (0 + 1); omega)]
    rw [val_main_v25_apply, v24_apply x0 x1 x2 x3 x4 x5 x6 ⟨r.val + d.val - 2, by omega⟩ f _ (by
      funext a; apply Fin.ext
      match a with
      | ⟨0, _⟩ => show ((r.val / 4096 * 4096 + (r.val % 4096 + d.val - 2)) * 5632 + f.val) / 5632 = r.val + d.val - 2; omega
      | ⟨1, _⟩ => show ((r.val / 4096 * 4096 + (r.val % 4096 + d.val - 2)) * 5632 + f.val) % 5632 = f.val; omega)]
    refine Finset.sum_congr rfl fun k _ => ?_
    rw [if_neg h]

theorem v31_apply (i : S4x4096x5632.Idx) (f : Fin 5632) (hf : f = i 2) : val_main_v31 (F := Ideal) x7 i = x7 (ValueIdx.ix2 0 f) := by
  rw [val_main_v31_apply, val_main_v30_apply, val_main_v28_apply, val_main_v27_apply]
  refine congrArg x7 ?_
  subst hf
  funext a; apply Fin.ext
  match a with
  | ⟨0, _⟩ => rfl
  | ⟨1, _⟩ => exact Nat.mod_eq_of_lt (i 2).isLt

theorem v39_apply (i : S4x4096x5632.Idx) (f : Fin 5632) (hf : f = i 2) : val_main_v39 (F := Ideal) x7 i = x7 (ValueIdx.ix2 1 f) := by
  rw [val_main_v39_apply, val_main_v38_apply, val_main_v36_apply, val_main_v35_apply]
  refine congrArg x7 ?_
  subst hf
  funext a; apply Fin.ext
  match a with
  | ⟨0, _⟩ => rfl
  | ⟨1, _⟩ => exact Nat.mod_eq_of_lt (i 2).isLt

theorem v46_apply (i : S4x4096x5632.Idx) (f : Fin 5632) (hf : f = i 2) : val_main_v46 (F := Ideal) x7 i = x7 (ValueIdx.ix2 2 f) := by
  rw [val_main_v46_apply, val_main_v45_apply, val_main_v43_apply, val_main_v42_apply]
  refine congrArg x7 ?_
  subst hf
  funext a; apply Fin.ext
  match a with
  | ⟨0, _⟩ => rfl
  | ⟨1, _⟩ => exact Nat.mod_eq_of_lt (i 2).isLt

theorem v51_apply (i : S4x4096x5632.Idx) (f : Fin 5632) (hf : f = i 2) : val_main_v51 (F := Ideal) x8 i = x8 (ValueIdx.ix2 0 f) := by
  rw [val_main_v51_apply, val_main_v50_apply, val_main_v49_apply]
  refine congrArg x8 ?_
  subst hf
  funext a; apply Fin.ext
  match a with
  | ⟨0, _⟩ => rfl
  | ⟨1, _⟩ => exact Nat.mod_eq_of_lt (i 2).isLt

theorem v53_apply (r : Fin 16384) (f : Fin 5632) (i : S16384x5632.Idx) (hi : i = (ValueIdx.ix2 r f : S16384x5632.Idx)) :
    val_main_v53 (F := Ideal) x0 x1 x2 x3 x4 x5 x6 x7 x8 i
      = tap (lag x0 x1 x2 x3 x4 x5 r) (fun k => x6 (ValueIdx.ix3 1 k f)) (fun d => x7 (ValueIdx.ix2 d f)) (x8 (ValueIdx.ix2 0 f)) := by
  have hr := r.isLt
  have hf := f.isLt
  rw [val_main_v53_apply]
  have e0 : (idx_main_v53 i 0).val = r.val / 4096 := by subst hi; show (r.val * 5632 + f.val) / 23068672 = r.val / 4096; omega
  have e1 : (idx_main_v53 i 1).val = r.val % 4096 := by subst hi; show (r.val * 5632 + f.val) / 5632 % 4096 = r.val % 4096; omega
  have e2 : (idx_main_v53 i 2).val = f.val := by subst hi; show (r.val * 5632 + f.val) % 5632 = f.val; omega
  generalize idx_main_v53 i = j at e0 e1 e2
  have ef : f = j 2 := Fin.ext e2.symm
  rw [val_main_v52_apply, val_main_v48_apply, val_main_v41_apply, val_main_v34_apply, val_main_v32_apply, val_main_v40_apply, val_main_v47_apply, val_main_v33_apply,
    v31_apply x7 j f ef, v39_apply x7 j f ef, v46_apply x7 j f ef, v51_apply x8 j f ef, val_main_v29_apply, val_main_v37_apply, val_main_v44_apply,
    v26_apply x0 x1 x2 x3 x4 x5 x6 r 0 f _ (by exact e0) (by exact e1) (by exact e2),
    v26_apply x0 x1 x2 x3 x4 x5 x6 r 1 f _ (by exact e0) (by show 1 + (j 1).val = r.val % 4096 + 1; omega) (by exact e2),
    v26_apply x0 x1 x2 x3 x4 x5 x6 r 2 f _ (by exact e0) (by show 2 + (j 1).val = r.val % 4096 + 2; omega) (by exact e2)]
  have hz : val_main_cst_2 (F := Ideal) (idx_main_v33 j) = (0 : EReal) := Ideal.ofBits_zero_f32
  rw [hz]
  unfold tap
  show (((0 : EReal) + _ + _) + _) + _ = _
  rw [zero_add, add_comm _ (x8 (ValueIdx.ix2 0 f)), ← add_assoc, ← add_assoc]
  rfl

theorem v57_apply (r : Fin 16384) (f : Fin 2816) (i : S16384x2816.Idx) (hi : i = (ValueIdx.ix2 r f : S16384x2816.Idx)) :
    val_main_v57 (F := Ideal) x0 x1 x2 x3 x4 x5 x6 x7 x8 i
      = gate (lag x0 x1 x2 x3 x4 x5 r) (fun k f => x6 (ValueIdx.ix3 1 k f)) (fun d f => x7 (ValueIdx.ix2 d f)) (fun f => x8 (ValueIdx.ix2 0 f)) f := by
  have hg : val_main_v54 (F := Ideal) x0 x1 x2 x3 x4 x5 x6 x7 x8 i = _ := (val_main_v54_apply (F := Ideal) x0 x1 x2 x3 x4 x5 x6 x7 x8 i).trans (v53_apply x0 x1 x2 x3 x4 x5 x6 x7 x8 r ⟨f.val, by omega⟩ _ (by
    subst hi
    funext a; apply Fin.ext
    match a with
    | ⟨0, _⟩ => rfl
    | ⟨1, _⟩ => rfl))
  have hv : val_main_v55 (F := Ideal) x0 x1 x2 x3 x4 x5 x6 x7 x8 i = _ := (val_main_v55_apply (F := Ideal) x0 x1 x2 x3 x4 x5 x6 x7 x8 i).trans (v53_apply x0 x1 x2 x3 x4 x5 x6 x7 x8 r ⟨2816 + f.val, by omega⟩ _ (by
    subst hi
    funext a; apply Fin.ext
    match a with
    | ⟨0, _⟩ => rfl
    | ⟨1, _⟩ => rfl))
  rw [val_main_v57_apply, val_main_v56_apply, val_main_call1_v5_apply, val_main_call1_v3_apply, val_main_call1_v1_apply, val_main_call1_v0_apply,
    val_main_call1_v2_apply, val_main_call1_v4_apply, hg, hv]
  unfold gate swish
  rw [Ideal.ofBits_zero_f32, zero_sub]
  rfl

theorem v62_apply (r : Fin 16384) (e : Fin 1024) : val_main_v62 (F := Ideal) x0 x1 x2 x3 x4 x5 x6 x7 x8 x9 (ValueIdx.ix2 r e : S16384x1024.Idx)
    = (fun e => hRow x0 x1 x2 x3 x4 r e + ∑ f : Fin 2816, gate (lag x0 x1 x2 x3 x4 x5 r) (fun k f => x6 (ValueIdx.ix3 1 k f)) (fun d f => x7 (ValueIdx.ix2 d f)) (fun f => x8 (ValueIdx.ix2 0 f)) f
        * x9 (ValueIdx.ix3 1 f e)) e := by
  rw [val_main_v62_apply, v6_apply, val_main_v61_apply]
  refine congrArg (hRow x0 x1 x2 x3 x4 r e + ·) (Finset.sum_congr rfl fun f _ => ?_)
  rw [v57_apply x0 x1 x2 x3 x4 x5 x6 x7 x8 r f _ (by
    funext a; apply Fin.ext
    match a with
    | ⟨0, _⟩ => rfl
    | ⟨1, _⟩ => rfl), v60_apply x9 _ f e (by
    funext a; apply Fin.ext
    match a with
    | ⟨0, _⟩ => rfl
    | ⟨1, _⟩ => rfl)]

theorem v76_apply (i : S16384x1024.Idx) (r : Fin 16384) (k : Fin 1024) (hi : i = (ValueIdx.ix2 r k : S16384x1024.Idx)) :
    val_main_v76 (F := Ideal) x0 x1 x2 x3 x4 x5 x6 x7 x8 x9 x10 i = rowRms (fun e => hRow x0 x1 x2 x3 x4 r e + ∑ f : Fin 2816, gate (lag x0 x1 x2 x3 x4 x5 r) (fun k f => x6 (ValueIdx.ix3 1 k f)) (fun d f => x7 (ValueIdx.ix2 d f)) (fun f => x8 (ValueIdx.ix2 0 f)) f * x9 (ValueIdx.ix3 1 f e)) (fun e => x10 (ValueIdx.ix2 0 e)) k := by
  have hw : val_main_v75 (F := Ideal) x10 i = x10 (ValueIdx.ix2 0 k) := by
    rw [val_main_v75_apply, val_main_v74_apply, val_main_v73_apply]
    refine congrArg x10 ?_
    subst hi
    funext a; apply Fin.ext
    match a with
    | ⟨0, _⟩ => rfl
    | ⟨1, _⟩ => exact Nat.mod_eq_of_lt k.isLt
  have hs : ∀ j : S16384.Idx, r = j 0 → val_main_v64 (F := Ideal) x0 x1 x2 x3 x4 x5 x6 x7 x8 x9 j = ∑ e : Fin 1024, (fun e => hRow x0 x1 x2 x3 x4 r e + ∑ f : Fin 2816, gate (lag x0 x1 x2 x3 x4 x5 r) (fun k f => x6 (ValueIdx.ix3 1 k f)) (fun d f => x7 (ValueIdx.ix2 d f)) (fun f => x8 (ValueIdx.ix2 0 f)) f * x9 (ValueIdx.ix3 1 f e)) e * (fun e => hRow x0 x1 x2 x3 x4 r e + ∑ f : Fin 2816, gate (lag x0 x1 x2 x3 x4 x5 r) (fun k f => x6 (ValueIdx.ix3 1 k f)) (fun d f => x7 (ValueIdx.ix2 d f)) (fun f => x8 (ValueIdx.ix2 0 f)) f * x9 (ValueIdx.ix3 1 f e)) e := fun j hr => by
    rw [val_main_v64_apply, val_main_cst_3_apply]
    show Ideal.ofBits .f32 0x00000000#32 + _ = _
    rw [Ideal.ofBits_zero_f32, zero_add]
    refine Finset.sum_congr rfl fun e _ => ?_
    have h : idx_main_v64 j e = (ValueIdx.ix2 r e : S16384x1024.Idx) := by
      subst hr
      funext a; apply Fin.ext
      match a with
      | ⟨0, _⟩ => rfl
      | ⟨1, _⟩ => rfl
    rw [val_main_v63_apply, h, v62_apply]
    rfl
  have hr : val_main_v71 (F := Ideal) x0 x1 x2 x3 x4 x5 x6 x7 x8 x9 i = Ideal.rsqrt (Ideal.div (∑ e : Fin 1024, (fun e => hRow x0 x1 x2 x3 x4 r e + ∑ f : Fin 2816, gate (lag x0 x1 x2 x3 x4 x5 r) (fun k f => x6 (ValueIdx.ix3 1 k f)) (fun d f => x7 (ValueIdx.ix2 d f)) (fun f => x8 (ValueIdx.ix2 0 f)) f * x9 (ValueIdx.ix3 1 f e)) e * (fun e => hRow x0 x1 x2 x3 x4 r e + ∑ f : Fin 2816, gate (lag x0 x1 x2 x3 x4 x5 r) (fun k f => x6 (ValueIdx.ix3 1 k f)) (fun d f => x7 (ValueIdx.ix2 d f)) (fun f => x8 (ValueIdx.ix2 0 f)) f * x9 (ValueIdx.ix3 1 f e)) e) (Ideal.ofBits .f32 0x44800000#32)
      + Ideal.ofBits .f32 0x358637BD#32) := by
    rw [val_main_v71_apply, val_main_v70_apply, val_main_v69_apply, val_main_v67_apply, val_main_v65_apply, val_main_v66_apply, val_main_v68_apply,
      hs _ (by subst hi; rfl)]
    rfl
  rw [val_main_v76_apply, val_main_v72_apply, hr, hw, hi, v62_apply]
  rfl

/-- The reference's row `r` is the kernel's. -/
theorem reference_apply (r : Fin 16384) (k : Fin 1024) :
    val_main_v76 (F := Ideal) x0 x1 x2 x3 x4 x5 x6 x7 x8 x9 x10 (ValueIdx.ix2 r k : S16384x1024.Idx) = outAt x0 x1 x2 x3 x4 x5 x6 x7 x8 x9 x10 r k :=
  v76_apply x0 x1 x2 x3 x4 x5 x6 x7 x8 x9 x10 _ r k rfl

end Cert.Proof.Mix

end
-- ==== Proof.MixClaims.lean ====
/-
  The last layer's output projection and feed-forward block: its claims.
-/
module

public import proofs.«01_k».proof.Defs
public import proofs.«01_k».proof.Proof.Gen.Kernel3.Frame
public import proofs.«01_k».proof.Proof.MixReference

@[expose] public section

set_option maxRecDepth 16384

noncomputable section

namespace Cert.Proof.Mix

open Idealize.ShloMosaic Idealize.ShloMosaic.TcCoe Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m g m' g' _ hargs
  refine ⟨fun c => G m c,
    (θ_run Cert.Kernel3Ideal.defs _ _).mono (fun r h c => ⟨(h c).1.trans (arr11 m c), (h c).2⟩)
      (Cert.Kernel3Ideal.Value.run_blocks (F := Ideal) m g),
    (θ_run Cert.Reference3Ideal.defs _ _).mono (fun r h c => ⟨?_, (h c).2⟩) (Cert.Reference3Ideal.Value.run (F := Ideal) m' g')⟩
  obtain ⟨e0, e1, e2, e3, e4, e5, e6, e7, e8, e9, e10⟩ := hargs c
  refine ((h c).1.trans (Cert.Reference3Ideal.Read.val_main_v76_eq _)).trans ?_
  show Cert.Reference3Ideal.Read.val_main_v76 (F := Ideal) (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3))
    (m' ((c : Thread Cert.Reference3Ideal.nD Cert.Reference3Ideal.τ).loc Cert.Reference3Ideal.main_arg4)) (m' ((c : Thread Cert.Reference3Ideal.nD Cert.Reference3Ideal.τ).loc Cert.Reference3Ideal.main_arg5)) (m' ((c : Thread Cert.Reference3Ideal.nD Cert.Reference3Ideal.τ).loc Cert.Reference3Ideal.main_arg6)) (m' ((c : Thread Cert.Reference3Ideal.nD Cert.Reference3Ideal.τ).loc Cert.Reference3Ideal.main_arg7))
    (m' ((c : Thread Cert.Reference3Ideal.nD Cert.Reference3Ideal.τ).loc Cert.Reference3Ideal.main_arg8)) (m' ((c : Thread Cert.Reference3Ideal.nD Cert.Reference3Ideal.τ).loc Cert.Reference3Ideal.main_arg9)) (m' ((c : Thread Cert.Reference3Ideal.nD Cert.Reference3Ideal.τ).loc Cert.Reference3Ideal.main_arg10)) = _
  rw [e0, e1, e2, e3, e4, e5, e6, e7, e8, e9, e10]
  funext i
  obtain ⟨r, k, rfl⟩ : ∃ (r : Fin 16384) (d : Fin 1024), i = (ValueIdx.ix2 r d : Cert.Kernel3Ideal.S16384x1024.Idx) := ⟨i 0, i 1, ValueIdx.eq_ix2 (n0 := 16384) (n1 := 1024) i⟩
  exact reference_apply _ _ _ _ _ _ _ _ _ _ _ r k

end Cert.Proof.Mix

end
-- ==== Proof.lean ====
/-
  The claims of the certificate, assembled.
-/
module

public import proofs.«01_k».proof.Defs
public import proofs.«01_k».proof.Proof.Frames
public import proofs.«01_k».proof.Proof.Algebraic
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.InprojClaims
public import proofs.«01_k».proof.Proof.Gen.Reference3Ideal.Run
public import proofs.«01_k».proof.Proof.Gen.Reference3Ideal.Read
public import proofs.«01_k».proof.Proof.MixClaims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, pre_facts,
    frame_p, frame_pi, frame_pi_pre pre_facts, frame_ri, frame_ri_pre pre_facts,
    Inproj.frame_p, Inproj.frame_pi, Inproj.frame_ri,
    Mix.frame_p, Mix.frame_pi, Mix.frame_ri,
    preserves, algebraic pre_facts, Inproj.preserves, Inproj.algebraic, Mix.preserves, Mix.algebraic⟩

end Cert.Proof

end
